-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v31)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v90) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x4096x1024 : Shape := ⟨3, ![8, 4096, 1024]⟩
abbrev S8x4x512x1024 : Shape := ⟨4, ![8, 4, 512, 1024]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x4x512x1024 : S_.BroadcastsInDim S8x4x512x1024 (![] : Fin 0 → Fin S8x4x512x1024.rank)
  reducesTo_S8x4x512x1024_S_d0_1_2_3 : S8x4x512x1024.ReducesTo [0, 1, 2, 3] S_
  bcast_S_S64 : S_.BroadcastsInDim S64 (![] : Fin 0 → Fin S64.rank)
  reducesTo_S64_S_d0 : S64.ReducesTo [0] S_

variable [Facts]

def fn_part2 {F : FTy → Type} [FloatOps F] (main_v31 : IVec S_ 1) (main_v34 : IVec S64 1) : IVec S_ 1 :=
  let main_c_11 : IVec S_ 1 := constantI S_ 1 1#1
  let main_v35 : IVec S_ 1 := (fun x v => Host.reduce IntOp.andi x v reducesTo_S64_S_d0 h_S_) main_v34 main_c_11
  let main_v36 : IVec S_ 1 := andi main_v31 main_v35
  main_v36

def fn_part1 {F : FTy → Type} [FloatOps F] (main_arg4 : FVec F S64 .f32) (main_arg5 : FVec F S64 .f32) (main_arg6 : FVec F S64 .f32) (main_v16 : IVec S_ 1) (main_v17 : FVec F S64 .f32) : IVec S_ 1 :=
  let main_cst_4 : FVec F S_ .f32 := constant S_ .f32 0x7F800000#32
  let main_v18 : FVec F S64 .f32 := broadcastInDim S64 ![] bcast_S_S64 main_cst_4
  let main_v19 : IVec S64 1 := cmpf .olt main_v17 main_v18
  let main_c_5 : IVec S_ 1 := constantI S_ 1 1#1
  let main_v20 : IVec S_ 1 := (fun x v => Host.reduce IntOp.andi x v reducesTo_S64_S_d0 h_S_) main_v19 main_c_5
  let main_v21 : IVec S_ 1 := andi main_v16 main_v20
  let main_v22 : FVec F S64 .f32 := Host.absf main_arg4
  let main_cst_6 : FVec F S_ .f32 := constant S_ .f32 0x7F800000#32
  let main_v23 : FVec F S64 .f32 := broadcastInDim S64 ![] bcast_S_S64 main_cst_6
  let main_v24 : IVec S64 1 := cmpf .olt main_v22 main_v23
  let main_c_7 : IVec S_ 1 := constantI S_ 1 1#1
  let main_v25 : IVec S_ 1 := (fun x v => Host.reduce IntOp.andi x v reducesTo_S64_S_d0 h_S_) main_v24 main_c_7
  let main_v26 : IVec S_ 1 := andi main_v21 main_v25
  let main_v27 : FVec F S64 .f32 := Host.absf main_arg5
  let main_cst_8 : FVec F S_ .f32 := constant S_ .f32 0x7F800000#32
  let main_v28 : FVec F S64 .f32 := broadcastInDim S64 ![] bcast_S_S64 main_cst_8
  let main_v29 : IVec S64 1 := cmpf .olt main_v27 main_v28
  let main_c_9 : IVec S_ 1 := constantI S_ 1 1#1
  let main_v30 : IVec S_ 1 := (fun x v => Host.reduce IntOp.andi x v reducesTo_S64_S_d0 h_S_) main_v29 main_c_9
  let main_v31 : IVec S_ 1 := andi main_v26 main_v30
  let main_v32 : FVec F S64 .f32 := Host.absf main_arg6
  let main_cst_10 : FVec F S_ .f32 := constant S_ .f32 0x7F800000#32
  let main_v33 : FVec F S64 .f32 := broadcastInDim S64 ![] bcast_S_S64 main_cst_10
  let main_v34 : IVec S64 1 := cmpf .olt main_v32 main_v33
  fn_part2 (F := F) main_v31 main_v34

def fn {F : FTy → Type} [FloatOps F] (main_arg0 : FVec F S8x4096x1024 .bf16) (main_arg1 : FVec F S8x4096x1024 .bf16) (main_arg2 : FVec F S8x4x512x1024 .bf16) (main_arg3 : FVec F S64 .f32) (main_arg4 : FVec F S64 .f32) (main_arg5 : FVec F S64 .f32) (main_arg6 : FVec F S64 .f32) (main_arg7 : FVec F S128 .f32) : IVec S_ 1 :=
  let main_v0 : FVec F S8x4096x1024 .f32 := (extf .f32 · bitsLt_bf16_f32) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_c : IVec S_ 1 := constantI S_ 1 1#1
  let main_v4 : IVec S_ 1 := (fun x v => Host.reduce IntOp.andi x v reducesTo_S8x4096x1024_S_d0_1_2 h_S_) main_v3 main_c
  let main_v5 : FVec F S8x4096x1024 .f32 := (extf .f32 · bitsLt_bf16_f32) main_arg1
  let main_v6 : FVec F S8x4096x1024 .f32 := Host.absf main_v5
  let main_cst_0 : FVec F S_ .f32 := constant S_ .f32 0x7F800000#32
  let main_v7 : FVec F S8x4096x1024 .f32 := broadcastInDim S8x4096x1024 ![] bcast_S_S8x4096x1024 main_cst_0
  let main_v8 : IVec S8x4096x1024 1 := cmpf .olt main_v6 main_v7
  let main_c_1 : IVec S_ 1 := constantI S_ 1 1#1
  let main_v9 : IVec S_ 1 := (fun x v => Host.reduce IntOp.andi x v reducesTo_S8x4096x1024_S_d0_1_2 h_S_) main_v8 main_c_1
  let main_v10 : IVec S_ 1 := andi main_v4 main_v9
  let main_v11 : FVec F S8x4x512x1024 .f32 := (extf .f32 · bitsLt_bf16_f32) main_arg2
  let main_v12 : FVec F S8x4x512x1024 .f32 := Host.absf main_v11
  let main_cst_2 : FVec F S_ .f32 := constant S_ .f32 0x7F800000#32
  let main_v13 : FVec F S8x4x512x1024 .f32 := broadcastInDim S8x4x512x1024 ![] bcast_S_S8x4x512x1024 main_cst_2
  let main_v14 : IVec S8x4x512x1024 1 := cmpf .olt main_v12 main_v13
  let main_c_3 : IVec S_ 1 := constantI S_ 1 1#1
  let main_v15 : IVec S_ 1 := (fun x v => Host.reduce IntOp.andi x v reducesTo_S8x4x512x1024_S_d0_1_2_3 h_S_) main_v14 main_c_3
  let main_v16 : IVec S_ 1 := andi main_v10 main_v15
  let main_v17 : FVec F S64 .f32 := Host.absf main_arg3
  fn_part1 (F := F) main_arg4 main_arg5 main_arg6 main_v16 main_v17
-- ==== Kernel.lean ====
abbrev S8x4096x1024 : Shape := ⟨3, ![8, 4096, 1024]⟩
abbrev S8x4x512x1024 : Shape := ⟨4, ![8, 4, 512, 1024]⟩
abbrev S64 : Shape := ⟨1, ![64]⟩
abbrev S128 : Shape := ⟨1, ![128]⟩
abbrev S1x64 : Shape := ⟨2, ![1, 64]⟩
abbrev S1x128 : Shape := ⟨2, ![1, 128]⟩
abbrev S8x4096x512 : Shape := ⟨3, ![8, 4096, 512]⟩
abbrev S1x1024x256 : Shape := ⟨3, ![1, 1024, 256]⟩
abbrev S1x4096x256 : Shape := ⟨3, ![1, 4096, 256]⟩
abbrev S1x4x128x1024 : Shape := ⟨4, ![1, 4, 128, 1024]⟩
abbrev S1x1024x128 : Shape := ⟨3, ![1, 1024, 128]⟩
abbrev S2x2x1024x1024 : Shape := ⟨4, ![2, 2, 1024, 1024]⟩
abbrev S2x128x1024 : Shape := ⟨3, ![2, 128, 1024]⟩
abbrev S2x1x1024 : Shape := ⟨3, ![2, 1, 1024]⟩
abbrev S1024x128 : Shape := ⟨2, ![1024, 128]⟩
abbrev S1024x1024 : Shape := ⟨2, ![1024, 1024]⟩
abbrev S1x1x1024x1024 : Shape := ⟨4, ![1, 1, 1024, 1024]⟩
abbrev S1x1x1024x256 : Shape := ⟨4, ![1, 1, 1024, 256]⟩
abbrev S1024x256 : Shape := ⟨2, ![1024, 256]⟩
abbrev S1x1x256 : Shape := ⟨3, ![1, 1, 256]⟩
abbrev S1x256 : Shape := ⟨2, ![1, 256]⟩
abbrev S1x128x256 : Shape := ⟨3, ![1, 128, 256]⟩
abbrev S128x256 : Shape := ⟨2, ![128, 256]⟩
abbrev S1x1x128x1024 : Shape := ⟨4, ![1, 1, 128, 1024]⟩
abbrev S128x1024 : Shape := ⟨2, ![128, 1024]⟩
abbrev S16x1024 : Shape := ⟨2, ![16, 1024]⟩
abbrev S256 : Shape := ⟨1, ![256]⟩
abbrev S16x256 : Shape := ⟨2, ![16, 256]⟩
abbrev S1x1x256x256 : Shape := ⟨4, ![1, 1, 256, 256]⟩
abbrev S256x256 : Shape := ⟨2, ![256, 256]⟩
abbrev S1x1x128x256 : Shape := ⟨4, ![1, 1, 128, 256]⟩
abbrev S1x1x512x256 : Shape := ⟨4, ![1, 1, 512, 256]⟩
abbrev S512x256 : Shape := ⟨2, ![512, 256]⟩
abbrev S1x1x128x512 : Shape := ⟨4, ![1, 1, 128, 512]⟩
abbrev S128x512 : Shape := ⟨2, ![128, 512]⟩
abbrev S16x512 : Shape := ⟨2, ![16, 512]⟩
abbrev S1x1x768x256 : Shape := ⟨4, ![1, 1, 768, 256]⟩
abbrev S768x256 : Shape := ⟨2, ![768, 256]⟩
abbrev S1x1x128x768 : Shape := ⟨4, ![1, 1, 128, 768]⟩
abbrev S128x768 : Shape := ⟨2, ![128, 768]⟩
abbrev S16x768 : Shape := ⟨2, ![16, 768]⟩
abbrev S1 : Shape := ⟨1, ![1]⟩
abbrev S1x1 : Shape := ⟨2, ![1, 1]⟩
abbrev S1x128x1024 : Shape := ⟨3, ![1, 128, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 14
  | .vmem => 17
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4x512x1024, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x128, .f32⟩
  | .hbm, ⟨13, _⟩ => ⟨S8x4096x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4x128x1024, .bf16⟩
  | .local _ .vmem, ⟨5, _⟩ => ⟨S1x4x128x1024, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1x1024x128, .bf16⟩
  | .local _ .vmem, ⟨12, _⟩ => ⟨S1x1024x128, .bf16⟩
  | .local _ .vmem, ⟨13, _⟩ => ⟨S2x2x1024x1024, .f32⟩
  | .local _ .vmem, ⟨14, _⟩ => ⟨S2x128x1024, .f32⟩
  | .local _ .vmem, ⟨15, _⟩ => ⟨S2x1x1024, .f32⟩
  | .local _ .vmem, ⟨16, _⟩ => ⟨S2x1x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![8, 4, 4], ![false, false, false]⟩

def k0_mult1 : BitVec 32 :=
  let c0_i32 : BitVec 32 := 0#32
  c0_i32
@[reducible] def k0_t1_loop (i : grid0.Coords) : Scf.Loop 32 :=
  let c0_i32_34 : BitVec 32 := 0#32
  let arg2 : BitVec 32 := BitVec.ofNat 32 (i 2).val
  let c0_i32_28 : BitVec 32 := 0#32
  let v32 : BitVec 1 := Scalar.cmpi .sgt arg2 c0_i32_28
  let v33 : BitVec 32 := Scalar.extui v32
  let c0_i32_29 : BitVec 32 := 0#32
  let v34 : BitVec 1 := Scalar.cmpi .slt arg2 c0_i32_29
  let v35 : BitVec 32 := Scalar.extui v34
  let v36 : BitVec 32 := Scalar.subi v33 v35
  let c2_i32 : BitVec 32 := 2#32
  let c0_i32_30 : BitVec 32 := 0#32
  let v37 : BitVec 1 := Scalar.cmpi .sgt c2_i32 c0_i32_30
  let v38 : BitVec 32 := Scalar.extui v37
  let c0_i32_31 : BitVec 32 := 0#32
  let v39 : BitVec 1 := Scalar.cmpi .slt c2_i32 c0_i32_31
  let v40 : BitVec 32 := Scalar.extui v39
  let v41 : BitVec 32 := Scalar.subi v38 v40
  let v42 : BitVec 1 := Scalar.cmpi .ne v36 v41
  let v43 : BitVec 32 := Scalar.remsi arg2 c2_i32
  let c0_i32_32 : BitVec 32 := 0#32
  let v44 : BitVec 1 := Scalar.cmpi .ne v43 c0_i32_32
  let v45 : BitVec 1 := Scalar.andi v42 v44
  let v31 : BitVec 32 := Scalar.divsi arg2 c2_i32
  let c1_i32 : BitVec 32 := 1#32
  let v46 : BitVec 32 := Scalar.subi v31 c1_i32
  let v47 : BitVec 32 := Scalar.select v45 v46 v31
  let v48 : BitVec 32 := Scalar.subi v47 c0_i32_34
  let c1_i32_35 : BitVec 32 := 1#32
  let v50 : BitVec 32 := Scalar.divsi v48 c1_i32_35
  let v51 : BitVec 32 := Scalar.muli v50 c1_i32_35
  let v52 : BitVec 32 := Scalar.addi c0_i32_34 v51
  let c1_i32_36 : BitVec 32 := 1#32
  ⟨c0_i32_34, v52, c1_i32_36⟩
def k0_mult2 (i : grid0.Coords) (k0_t1 : Fin (k0_t1_loop i).trips) : BitVec 32 :=
  let c2_i32_86 : BitVec 32 := 2#32
  let c0_i32_34 : BitVec 32 := 0#32
  let c1_i32_36 : BitVec 32 := 1#32
  let arg16 : BitVec 32 := Scf.iv c0_i32_34 c1_i32_36 k0_t1
  let v134 : BitVec 32 := Scalar.muli c2_i32_86 arg16
  let c1_i32_87 : BitVec 32 := 1#32
  let v135 : BitVec 32 := Scalar.addi v134 c1_i32_87
  let c1024_i32 : BitVec 32 := 1024#32
  let v136 : BitVec 32 := Scalar.muli v135 c1024_i32
  v136
def k0_off1 (i : grid0.Coords) (k0_t1 : Fin (k0_t1_loop i).trips) (c1_i32_87 : BitVec 32) : Fin 3 → Nat :=
  let c0_88 : Index := 0#32
  let c2_i32_86 : BitVec 32 := 2#32
  let c0_i32_34 : BitVec 32 := 0#32
  let c1_i32_36 : BitVec 32 := 1#32
  let arg16 : BitVec 32 := Scf.iv c0_i32_34 c1_i32_36 k0_t1
  let v134 : BitVec 32 := Scalar.muli c2_i32_86 arg16
  let v135 : BitVec 32 := Scalar.addi v134 c1_i32_87
  let c1024_i32 : BitVec 32 := 1024#32
  let v136 : BitVec 32 := Scalar.muli v135 c1024_i32
  let v137 : BitVec 32 := v136
  let v138 : Index := Scalar.indexCast v137
  let c0_89 : Index := 0#32
  ![0, v138.toNat, 0]
def k0_off2 (i : grid0.Coords) (k0_t1 : Fin (k0_t1_loop i).trips) (c1_i32_87 : BitVec 32) : Fin 3 → Nat :=
  let c0_98 : Index := 0#32
  let c2_i32_86 : BitVec 32 := 2#32
  let c0_i32_34 : BitVec 32 := 0#32
  let c1_i32_36 : BitVec 32 := 1#32
  let arg16 : BitVec 32 := Scf.iv c0_i32_34 c1_i32_36 k0_t1
  let v134 : BitVec 32 := Scalar.muli c2_i32_86 arg16
  let v135 : BitVec 32 := Scalar.addi v134 c1_i32_87
  let c1024_i32 : BitVec 32 := 1024#32
  let v136 : BitVec 32 := Scalar.muli v135 c1024_i32
  let v137 : BitVec 32 := v136
  let v147 : Index := Scalar.indexCast v137
  let c128_99 : Index := 128#32
  ![0, v147.toNat, 128]
def k0_off3 (i : grid0.Coords) (k0_t1 : Fin (k0_t1_loop i).trips) : Fin 4 → Nat :=
  let c0_122 : Index := 0#32
  let c2_i32_108 : BitVec 32 := 2#32
  let c0_i32_34 : BitVec 32 := 0#32
  let c1_i32_36 : BitVec 32 := 1#32
  let arg16 : BitVec 32 := Scf.iv c0_i32_34 c1_i32_36 k0_t1
  let v156 : BitVec 32 := Scalar.muli c2_i32_108 arg16
  let v165 : Index := Scalar.indexCast v156
  let c0_123 : Index := 0#32
  let c0_124 : Index := 0#32
  ![0, v165.toNat, 0, 0]
def k0_mult3 (i : grid0.Coords) (k0_t1 : Fin (k0_t1_loop i).trips) : BitVec 32 :=
  let c2_i32_338 : BitVec 32 := 2#32
  let c0_i32_34 : BitVec 32 := 0#32
  let c1_i32_36 : BitVec 32 := 1#32
  let arg16 : BitVec 32 := Scf.iv c0_i32_34 c1_i32_36 k0_t1
  let v461 : BitVec 32 := Scalar.muli c2_i32_338 arg16
  let c2_i32_339 : BitVec 32 := 2#32
  let v462 : BitVec 32 := Scalar.addi v461 c2_i32_339
  let c1024_i32_340 : BitVec 32 := 1024#32
  let v463 : BitVec 32 := Scalar.muli v462 c1024_i32_340
  v463
def k0_off4 (i : grid0.Coords) (k0_t1 : Fin (k0_t1_loop i).trips) : Fin 4 → Nat :=
  let c0_376 : Index := 0#32
  let c2_i32_361 : BitVec 32 := 2#32
  let c0_i32_34 : BitVec 32 := 0#32
  let c1_i32_36 : BitVec 32 := 1#32
  let arg16 : BitVec 32 := Scf.iv c0_i32_34 c1_i32_36 k0_t1
  let v483 : BitVec 32 := Scalar.muli c2_i32_361 arg16
  let c1_i32_362 : BitVec 32 := 1#32
  let v484 : BitVec 32 := Scalar.addi v483 c1_i32_362
  let v493 : Index := Scalar.indexCast v484
  let c0_377 : Index := 0#32
  let c0_378 : Index := 0#32
  ![0, v493.toNat, 0, 0]
@[reducible] def k0_t2_loop (i : grid0.Coords) : Scf.Loop 32 :=
  let c0_i32_34 : BitVec 32 := 0#32
  let arg2 : BitVec 32 := BitVec.ofNat 32 (i 2).val
  let c0_i32_28 : BitVec 32 := 0#32
  let v32 : BitVec 1 := Scalar.cmpi .sgt arg2 c0_i32_28
  let v33 : BitVec 32 := Scalar.extui v32
  let c0_i32_29 : BitVec 32 := 0#32
  let v34 : BitVec 1 := Scalar.cmpi .slt arg2 c0_i32_29
  let v35 : BitVec 32 := Scalar.extui v34
  let v36 : BitVec 32 := Scalar.subi v33 v35
  let c2_i32 : BitVec 32 := 2#32
  let c0_i32_30 : BitVec 32 := 0#32
  let v37 : BitVec 1 := Scalar.cmpi .sgt c2_i32 c0_i32_30
  let v38 : BitVec 32 := Scalar.extui v37
  let c0_i32_31 : BitVec 32 := 0#32
  let v39 : BitVec 1 := Scalar.cmpi .slt c2_i32 c0_i32_31
  let v40 : BitVec 32 := Scalar.extui v39
  let v41 : BitVec 32 := Scalar.subi v38 v40
  let v42 : BitVec 1 := Scalar.cmpi .ne v36 v41
  let v43 : BitVec 32 := Scalar.remsi arg2 c2_i32
  let c0_i32_32 : BitVec 32 := 0#32
  let v44 : BitVec 1 := Scalar.cmpi .ne v43 c0_i32_32
  let v45 : BitVec 1 := Scalar.andi v42 v44
  let v31 : BitVec 32 := Scalar.divsi arg2 c2_i32
  let c1_i32 : BitVec 32 := 1#32
  let v46 : BitVec 32 := Scalar.subi v31 c1_i32
  let v47 : BitVec 32 := Scalar.select v45 v46 v31
  let v48 : BitVec 32 := Scalar.subi v47 c0_i32_34
  let c1_i32_35 : BitVec 32 := 1#32
  let v50 : BitVec 32 := Scalar.divsi v48 c1_i32_35
  let v51 : BitVec 32 := Scalar.muli v50 c1_i32_35
  let v52 : BitVec 32 := Scalar.addi c0_i32_34 v51
  let v49 : BitVec 32 := Scalar.addi c0_i32_34 v48
  let c1_i32_37 : BitVec 32 := 1#32
  ⟨v52, v49, c1_i32_37⟩
def k0_mult4 (i : grid0.Coords) (k0_t2 : Fin (k0_t2_loop i).trips) : BitVec 32 :=
  let c2_i32_86 : BitVec 32 := 2#32
  let c0_i32_34 : BitVec 32 := 0#32
  let arg2 : BitVec 32 := BitVec.ofNat 32 (i 2).val
  let c0_i32_28 : BitVec 32 := 0#32
  let v32 : BitVec 1 := Scalar.cmpi .sgt arg2 c0_i32_28
  let v33 : BitVec 32 := Scalar.extui v32
  let c0_i32_29 : BitVec 32 := 0#32
  let v34 : BitVec 1 := Scalar.cmpi .slt arg2 c0_i32_29
  let v35 : BitVec 32 := Scalar.extui v34
  let v36 : BitVec 32 := Scalar.subi v33 v35
  let c2_i32 : BitVec 32 := 2#32
  let c0_i32_30 : BitVec 32 := 0#32
  let v37 : BitVec 1 := Scalar.cmpi .sgt c2_i32 c0_i32_30
  let v38 : BitVec 32 := Scalar.extui v37
  let c0_i32_31 : BitVec 32 := 0#32
  let v39 : BitVec 1 := Scalar.cmpi .slt c2_i32 c0_i32_31
  let v40 : BitVec 32 := Scalar.extui v39
  let v41 : BitVec 32 := Scalar.subi v38 v40
  let v42 : BitVec 1 := Scalar.cmpi .ne v36 v41
  let v43 : BitVec 32 := Scalar.remsi arg2 c2_i32
  let c0_i32_32 : BitVec 32 := 0#32
  let v44 : BitVec 1 := Scalar.cmpi .ne v43 c0_i32_32
  let v45 : BitVec 1 := Scalar.andi v42 v44
  let v31 : BitVec 32 := Scalar.divsi arg2 c2_i32
  let c1_i32 : BitVec 32 := 1#32
  let v46 : BitVec 32 := Scalar.subi v31 c1_i32
  let v47 : BitVec 32 := Scalar.select v45 v46 v31
  let v48 : BitVec 32 := Scalar.subi v47 c0_i32_34
  let c1_i32_35 : BitVec 32 := 1#32
  let v50 : BitVec 32 := Scalar.divsi v48 c1_i32_35
  let v51 : BitVec 32 := Scalar.muli v50 c1_i32_35
  let v52 : BitVec 32 := Scalar.addi c0_i32_34 v51
  let c1_i32_37 : BitVec 32 := 1#32
  let arg16 : BitVec 32 := Scf.iv v52 c1_i32_37 k0_t2
  let v134 : BitVec 32 := Scalar.muli c2_i32_86 arg16
  let c1_i32_87 : BitVec 32 := 1#32
  let v135 : BitVec 32 := Scalar.addi v134 c1_i32_87
  let c1024_i32 : BitVec 32 := 1024#32
  let v136 : BitVec 32 := Scalar.muli v135 c1024_i32
  v136
def k0_off5 (i : grid0.Coords) (k0_t2 : Fin (k0_t2_loop i).trips) (c1_i32_87 : BitVec 32) : Fin 3 → Nat :=
  let c0_88 : Index := 0#32
  let c2_i32_86 : BitVec 32 := 2#32
  let c0_i32_34 : BitVec 32 := 0#32
  let arg2 : BitVec 32 := BitVec.ofNat 32 (i 2).val
  let c0_i32_28 : BitVec 32 := 0#32
  let v32 : BitVec 1 := Scalar.cmpi .sgt arg2 c0_i32_28
  let v33 : BitVec 32 := Scalar.extui v32
  let c0_i32_29 : BitVec 32 := 0#32
  let v34 : BitVec 1 := Scalar.cmpi .slt arg2 c0_i32_29
  let v35 : BitVec 32 := Scalar.extui v34
  let v36 : BitVec 32 := Scalar.subi v33 v35
  let c2_i32 : BitVec 32 := 2#32
  let c0_i32_30 : BitVec 32 := 0#32
  let v37 : BitVec 1 := Scalar.cmpi .sgt c2_i32 c0_i32_30
  let v38 : BitVec 32 := Scalar.extui v37
  let c0_i32_31 : BitVec 32 := 0#32
  let v39 : BitVec 1 := Scalar.cmpi .slt c2_i32 c0_i32_31
  let v40 : BitVec 32 := Scalar.extui v39
  let v41 : BitVec 32 := Scalar.subi v38 v40
  let v42 : BitVec 1 := Scalar.cmpi .ne v36 v41
  let v43 : BitVec 32 := Scalar.remsi arg2 c2_i32
  let c0_i32_32 : BitVec 32 := 0#32
  let v44 : BitVec 1 := Scalar.cmpi .ne v43 c0_i32_32
  let v45 : BitVec 1 := Scalar.andi v42 v44
  let v31 : BitVec 32 := Scalar.divsi arg2 c2_i32
  let c1_i32 : BitVec 32 := 1#32
  let v46 : BitVec 32 := Scalar.subi v31 c1_i32
  let v47 : BitVec 32 := Scalar.select v45 v46 v31
  let v48 : BitVec 32 := Scalar.subi v47 c0_i32_34
  let c1_i32_35 : BitVec 32 := 1#32
  let v50 : BitVec 32 := Scalar.divsi v48 c1_i32_35
  let v51 : BitVec 32 := Scalar.muli v50 c1_i32_35
  let v52 : BitVec 32 := Scalar.addi c0_i32_34 v51
  let c1_i32_37 : BitVec 32 := 1#32
  let arg16 : BitVec 32 := Scf.iv v52 c1_i32_37 k0_t2
  let v134 : BitVec 32 := Scalar.muli c2_i32_86 arg16
  let v135 : BitVec 32 := Scalar.addi v134 c1_i32_87
  let c1024_i32 : BitVec 32 := 1024#32
  let v136 : BitVec 32 := Scalar.muli v135 c1024_i32
  let v137 : BitVec 32 := v136
  let v138 : Index := Scalar.indexCast v137
  let c0_89 : Index := 0#32
  ![0, v138.toNat, 0]
def k0_off6 (i : grid0.Coords) (k0_t2 : Fin (k0_t2_loop i).trips) (c1_i32_87 : BitVec 32) : Fin 3 → Nat :=
  let c0_98 : Index := 0#32
  let c2_i32_86 : BitVec 32 := 2#32
  let c0_i32_34 : BitVec 32 := 0#32
  let arg2 : BitVec 32 := BitVec.ofNat 32 (i 2).val
  let c0_i32_28 : BitVec 32 := 0#32
  let v32 : BitVec 1 := Scalar.cmpi .sgt arg2 c0_i32_28
  let v33 : BitVec 32 := Scalar.extui v32
  let c0_i32_29 : BitVec 32 := 0#32
  let v34 : BitVec 1 := Scalar.cmpi .slt arg2 c0_i32_29
  let v35 : BitVec 32 := Scalar.extui v34
  let v36 : BitVec 32 := Scalar.subi v33 v35
  let c2_i32 : BitVec 32 := 2#32
  let c0_i32_30 : BitVec 32 := 0#32
  let v37 : BitVec 1 := Scalar.cmpi .sgt c2_i32 c0_i32_30
  let v38 : BitVec 32 := Scalar.extui v37
  let c0_i32_31 : BitVec 32 := 0#32
  let v39 : BitVec 1 := Scalar.cmpi .slt c2_i32 c0_i32_31
  let v40 : BitVec 32 := Scalar.extui v39
  let v41 : BitVec 32 := Scalar.subi v38 v40
  let v42 : BitVec 1 := Scalar.cmpi .ne v36 v41
  let v43 : BitVec 32 := Scalar.remsi arg2 c2_i32
  let c0_i32_32 : BitVec 32 := 0#32
  let v44 : BitVec 1 := Scalar.cmpi .ne v43 c0_i32_32
  let v45 : BitVec 1 := Scalar.andi v42 v44
  let v31 : BitVec 32 := Scalar.divsi arg2 c2_i32
  let c1_i32 : BitVec 32 := 1#32
  let v46 : BitVec 32 := Scalar.subi v31 c1_i32
  let v47 : BitVec 32 := Scalar.select v45 v46 v31
  let v48 : BitVec 32 := Scalar.subi v47 c0_i32_34
  let c1_i32_35 : BitVec 32 := 1#32
  let v50 : BitVec 32 := Scalar.divsi v48 c1_i32_35
  let v51 : BitVec 32 := Scalar.muli v50 c1_i32_35
  let v52 : BitVec 32 := Scalar.addi c0_i32_34 v51
  let c1_i32_37 : BitVec 32 := 1#32
  let arg16 : BitVec 32 := Scf.iv v52 c1_i32_37 k0_t2
  let v134 : BitVec 32 := Scalar.muli c2_i32_86 arg16
  let v135 : BitVec 32 := Scalar.addi v134 c1_i32_87
  let c1024_i32 : BitVec 32 := 1024#32
  let v136 : BitVec 32 := Scalar.muli v135 c1024_i32
  let v137 : BitVec 32 := v136
  let v147 : Index := Scalar.indexCast v137
  let c128_99 : Index := 128#32
  ![0, v147.toNat, 128]
def k0_off7 (i : grid0.Coords) (k0_t2 : Fin (k0_t2_loop i).trips) : Fin 4 → Nat :=
  let c0_122 : Index := 0#32
  let c2_i32_108 : BitVec 32 := 2#32
  let c0_i32_34 : BitVec 32 := 0#32
  let arg2 : BitVec 32 := BitVec.ofNat 32 (i 2).val
  let c0_i32_28 : BitVec 32 := 0#32
  let v32 : BitVec 1 := Scalar.cmpi .sgt arg2 c0_i32_28
  let v33 : BitVec 32 := Scalar.extui v32
  let c0_i32_29 : BitVec 32 := 0#32
  let v34 : BitVec 1 := Scalar.cmpi .slt arg2 c0_i32_29
  let v35 : BitVec 32 := Scalar.extui v34
  let v36 : BitVec 32 := Scalar.subi v33 v35
  let c2_i32 : BitVec 32 := 2#32
  let c0_i32_30 : BitVec 32 := 0#32
  let v37 : BitVec 1 := Scalar.cmpi .sgt c2_i32 c0_i32_30
  let v38 : BitVec 32 := Scalar.extui v37
  let c0_i32_31 : BitVec 32 := 0#32
  let v39 : BitVec 1 := Scalar.cmpi .slt c2_i32 c0_i32_31
  let v40 : BitVec 32 := Scalar.extui v39
  let v41 : BitVec 32 := Scalar.subi v38 v40
  let v42 : BitVec 1 := Scalar.cmpi .ne v36 v41
  let v43 : BitVec 32 := Scalar.remsi arg2 c2_i32
  let c0_i32_32 : BitVec 32 := 0#32
  let v44 : BitVec 1 := Scalar.cmpi .ne v43 c0_i32_32
  let v45 : BitVec 1 := Scalar.andi v42 v44
  let v31 : BitVec 32 := Scalar.divsi arg2 c2_i32
  let c1_i32 : BitVec 32 := 1#32
  let v46 : BitVec 32 := Scalar.subi v31 c1_i32
  let v47 : BitVec 32 := Scalar.select v45 v46 v31
  let v48 : BitVec 32 := Scalar.subi v47 c0_i32_34
  let c1_i32_35 : BitVec 32 := 1#32
  let v50 : BitVec 32 := Scalar.divsi v48 c1_i32_35
  let v51 : BitVec 32 := Scalar.muli v50 c1_i32_35
  let v52 : BitVec 32 := Scalar.addi c0_i32_34 v51
  let c1_i32_37 : BitVec 32 := 1#32
  let arg16 : BitVec 32 := Scf.iv v52 c1_i32_37 k0_t2
  let v156 : BitVec 32 := Scalar.muli c2_i32_108 arg16
  let v165 : Index := Scalar.indexCast v156
  let c0_123 : Index := 0#32
  let c0_124 : Index := 0#32
  ![0, v165.toNat, 0, 0]
def k0_mult5 (i : grid0.Coords) (k0_t2 : Fin (k0_t2_loop i).trips) : BitVec 32 :=
  let c2_i32_338 : BitVec 32 := 2#32
  let c0_i32_34 : BitVec 32 := 0#32
  let arg2 : BitVec 32 := BitVec.ofNat 32 (i 2).val
  let c0_i32_28 : BitVec 32 := 0#32
  let v32 : BitVec 1 := Scalar.cmpi .sgt arg2 c0_i32_28
  let v33 : BitVec 32 := Scalar.extui v32
  let c0_i32_29 : BitVec 32 := 0#32
  let v34 : BitVec 1 := Scalar.cmpi .slt arg2 c0_i32_29
  let v35 : BitVec 32 := Scalar.extui v34
  let v36 : BitVec 32 := Scalar.subi v33 v35
  let c2_i32 : BitVec 32 := 2#32
  let c0_i32_30 : BitVec 32 := 0#32
  let v37 : BitVec 1 := Scalar.cmpi .sgt c2_i32 c0_i32_30
  let v38 : BitVec 32 := Scalar.extui v37
  let c0_i32_31 : BitVec 32 := 0#32
  let v39 : BitVec 1 := Scalar.cmpi .slt c2_i32 c0_i32_31
  let v40 : BitVec 32 := Scalar.extui v39
  let v41 : BitVec 32 := Scalar.subi v38 v40
  let v42 : BitVec 1 := Scalar.cmpi .ne v36 v41
  let v43 : BitVec 32 := Scalar.remsi arg2 c2_i32
  let c0_i32_32 : BitVec 32 := 0#32
  let v44 : BitVec 1 := Scalar.cmpi .ne v43 c0_i32_32
  let v45 : BitVec 1 := Scalar.andi v42 v44
  let v31 : BitVec 32 := Scalar.divsi arg2 c2_i32
  let c1_i32 : BitVec 32 := 1#32
  let v46 : BitVec 32 := Scalar.subi v31 c1_i32
  let v47 : BitVec 32 := Scalar.select v45 v46 v31
  let v48 : BitVec 32 := Scalar.subi v47 c0_i32_34
  let c1_i32_35 : BitVec 32 := 1#32
  let v50 : BitVec 32 := Scalar.divsi v48 c1_i32_35
  let v51 : BitVec 32 := Scalar.muli v50 c1_i32_35
  let v52 : BitVec 32 := Scalar.addi c0_i32_34 v51
  let c1_i32_37 : BitVec 32 := 1#32
  let arg16 : BitVec 32 := Scf.iv v52 c1_i32_37 k0_t2
  let v461 : BitVec 32 := Scalar.muli c2_i32_338 arg16
  let c2_i32_339 : BitVec 32 := 2#32
  let v462 : BitVec 32 := Scalar.addi v461 c2_i32_339
  let c1024_i32_340 : BitVec 32 := 1024#32
  let v463 : BitVec 32 := Scalar.muli v462 c1024_i32_340
  v463
def k0_off8 (i : grid0.Coords) (k0_t2 : Fin (k0_t2_loop i).trips) : Fin 4 → Nat :=
  let c0_376 : Index := 0#32
  let c2_i32_361 : BitVec 32 := 2#32
  let c0_i32_34 : BitVec 32 := 0#32
  let arg2 : BitVec 32 := BitVec.ofNat 32 (i 2).val
  let c0_i32_28 : BitVec 32 := 0#32
  let v32 : BitVec 1 := Scalar.cmpi .sgt arg2 c0_i32_28
  let v33 : BitVec 32 := Scalar.extui v32
  let c0_i32_29 : BitVec 32 := 0#32
  let v34 : BitVec 1 := Scalar.cmpi .slt arg2 c0_i32_29
  let v35 : BitVec 32 := Scalar.extui v34
  let v36 : BitVec 32 := Scalar.subi v33 v35
  let c2_i32 : BitVec 32 := 2#32
  let c0_i32_30 : BitVec 32 := 0#32
  let v37 : BitVec 1 := Scalar.cmpi .sgt c2_i32 c0_i32_30
  let v38 : BitVec 32 := Scalar.extui v37
  let c0_i32_31 : BitVec 32 := 0#32
  let v39 : BitVec 1 := Scalar.cmpi .slt c2_i32 c0_i32_31
  let v40 : BitVec 32 := Scalar.extui v39
  let v41 : BitVec 32 := Scalar.subi v38 v40
  let v42 : BitVec 1 := Scalar.cmpi .ne v36 v41
  let v43 : BitVec 32 := Scalar.remsi arg2 c2_i32
  let c0_i32_32 : BitVec 32 := 0#32
  let v44 : BitVec 1 := Scalar.cmpi .ne v43 c0_i32_32
  let v45 : BitVec 1 := Scalar.andi v42 v44
  let v31 : BitVec 32 := Scalar.divsi arg2 c2_i32
  let c1_i32 : BitVec 32 := 1#32
  let v46 : BitVec 32 := Scalar.subi v31 c1_i32
  let v47 : BitVec 32 := Scalar.select v45 v46 v31
  let v48 : BitVec 32 := Scalar.subi v47 c0_i32_34
  let c1_i32_35 : BitVec 32 := 1#32
  let v50 : BitVec 32 := Scalar.divsi v48 c1_i32_35
  let v51 : BitVec 32 := Scalar.muli v50 c1_i32_35
  let v52 : BitVec 32 := Scalar.addi c0_i32_34 v51
  let c1_i32_37 : BitVec 32 := 1#32
  let arg16 : BitVec 32 := Scf.iv v52 c1_i32_37 k0_t2
  let v483 : BitVec 32 := Scalar.muli c2_i32_361 arg16
  let c1_i32_362 : BitVec 32 := 1#32
  let v484 : BitVec 32 := Scalar.addi v483 c1_i32_362
  let v493 : Index := Scalar.indexCast v484
  let c0_377 : Index := 0#32
  let c0_378 : Index := 0#32
  ![0, v493.toNat, 0, 0]
def k0_cond1 (i : grid0.Coords) : BitVec 1 :=
  let arg2 : BitVec 32 := BitVec.ofNat 32 (i 2).val
  let c2_i32_38 : BitVec 32 := 2#32
  let c0_i32_39 : BitVec 32 := 0#32
  let v53 : BitVec 1 := Scalar.cmpi .eq c2_i32_38 c0_i32_39
  let c1_i32_40 : BitVec 32 := 1#32
  let v54 : BitVec 32 := Scalar.select v53 c1_i32_40 c2_i32_38
  let v55 : BitVec 32 := Scalar.remsi arg2 v54
  let c0_i32_42 : BitVec 32 := 0#32
  let v57 : BitVec 1 := Scalar.cmpi .slt v55 c0_i32_42
  let c0_i32_43 : BitVec 32 := 0#32
  let v58 : BitVec 1 := Scalar.cmpi .slt v54 c0_i32_43
  let v59 : BitVec 1 := Scalar.xori v57 v58
  let c0_i32_41 : BitVec 32 := 0#32
  let v56 : BitVec 1 := Scalar.cmpi .ne v55 c0_i32_41
  let v60 : BitVec 1 := Scalar.andi v59 v56
  let v61 : BitVec 32 := Scalar.addi v55 v54
  let v62 : BitVec 32 := Scalar.select v60 v61 v55
  let c1_i32_44 : BitVec 32 := 1#32
  let v63 : BitVec 1 := Scalar.cmpi .eq v62 c1_i32_44
  let v64 : BitVec 32 := Scalar.extui v63
  let c0_i32_45 : BitVec 32 := 0#32
  let v65 : BitVec 1 := Scalar.cmpi .ne v64 c0_i32_45
  v65

def k0_mult6 (i : grid0.Coords) : BitVec 32 :=
  let arg2 : BitVec 32 := BitVec.ofNat 32 (i 2).val
  let c1024_i32 : BitVec 32 := 1024#32
  let v134 : BitVec 32 := Scalar.muli arg2 c1024_i32
  v134
def k0_off9 (i : grid0.Coords) : Fin 3 → Nat :=
  let c0_86 : Index := 0#32
  let arg2 : BitVec 32 := BitVec.ofNat 32 (i 2).val
  let c1024_i32 : BitVec 32 := 1024#32
  let v134 : BitVec 32 := Scalar.muli arg2 c1024_i32
  let v135 : BitVec 32 := v134
  let v136 : Index := Scalar.indexCast v135
  let c0_87 : Index := 0#32
  ![0, v136.toNat, 0]
def k0_off10 (i : grid0.Coords) : Fin 3 → Nat :=
  let c0_96 : Index := 0#32
  let arg2 : BitVec 32 := BitVec.ofNat 32 (i 2).val
  let c1024_i32 : BitVec 32 := 1024#32
  let v134 : BitVec 32 := Scalar.muli arg2 c1024_i32
  let v135 : BitVec 32 := v134
  let v145 : Index := Scalar.indexCast v135
  let c128_97 : Index := 128#32
  ![0, v145.toNat, 128]
def k0_off11 (i : grid0.Coords) : Fin 4 → Nat :=
  let c0_120 : Index := 0#32
  let arg2 : BitVec 32 := BitVec.ofNat 32 (i 2).val
  let c1_i32_106 : BitVec 32 := 1#32
  let v154 : BitVec 32 := Scalar.subi arg2 c1_i32_106
  let v163 : Index := Scalar.indexCast v154
  let c0_121 : Index := 0#32
  let c0_122 : Index := 0#32
  ![0, v163.toNat, 0, 0]
def k0_off12 (i : grid0.Coords) : Fin 4 → Nat :=
  let c0_351 : Index := 0#32
  let arg2 : BitVec 32 := BitVec.ofNat 32 (i 2).val
  let v474 : Index := Scalar.indexCast arg2
  let c0_352 : Index := 0#32
  let c0_353 : Index := 0#32
  ![0, v474.toNat, 0, 0]
def k0_off13 (i : grid0.Coords) : Fin 4 → Nat :=
  let c0_381 : Index := 0#32
  let arg2 : BitVec 32 := BitVec.ofNat 32 (i 2).val
  let v519 : Index := Scalar.indexCast arg2
  let c0_382 : Index := 0#32
  let c0_383 : Index := 0#32
  ![0, v519.toNat, 0, 0]
def k0_off14 (i : grid0.Coords) : Fin 4 → Nat :=
  let c0_411 : Index := 0#32
  let arg2 : BitVec 32 := BitVec.ofNat 32 (i 2).val
  let v564 : Index := Scalar.indexCast arg2
  let c0_412 : Index := 0#32
  let c0_413 : Index := 0#32
  ![0, v564.toNat, 0, 0]
def k0_off15 (i : grid0.Coords) : Fin 4 → Nat :=
  let c0_441 : Index := 0#32
  let arg2 : BitVec 32 := BitVec.ofNat 32 (i 2).val
  let v609 : Index := Scalar.indexCast arg2
  let c0_442 : Index := 0#32
  let c0_443 : Index := 0#32
  ![0, v609.toNat, 0, 0]
def k0_cond2 (i : grid0.Coords) : BitVec 1 :=
  let arg2 : BitVec 32 := BitVec.ofNat 32 (i 2).val
  let c2_i32_46 : BitVec 32 := 2#32
  let c0_i32_47 : BitVec 32 := 0#32
  let v66 : BitVec 1 := Scalar.cmpi .eq c2_i32_46 c0_i32_47
  let c1_i32_48 : BitVec 32 := 1#32
  let v67 : BitVec 32 := Scalar.select v66 c1_i32_48 c2_i32_46
  let v68 : BitVec 32 := Scalar.remsi arg2 v67
  let c0_i32_50 : BitVec 32 := 0#32
  let v70 : BitVec 1 := Scalar.cmpi .slt v68 c0_i32_50
  let c0_i32_51 : BitVec 32 := 0#32
  let v71 : BitVec 1 := Scalar.cmpi .slt v67 c0_i32_51
  let v72 : BitVec 1 := Scalar.xori v70 v71
  let c0_i32_49 : BitVec 32 := 0#32
  let v69 : BitVec 1 := Scalar.cmpi .ne v68 c0_i32_49
  let v73 : BitVec 1 := Scalar.andi v72 v69
  let v74 : BitVec 32 := Scalar.addi v68 v67
  let v75 : BitVec 32 := Scalar.select v73 v74 v68
  let c0_i32_52 : BitVec 32 := 0#32
  let v76 : BitVec 1 := Scalar.cmpi .eq v75 c0_i32_52
  let v77 : BitVec 32 := Scalar.extui v76
  let c0_i32_53 : BitVec 32 := 0#32
  let v78 : BitVec 1 := Scalar.cmpi .ne v77 c0_i32_53
  v78

def k0_off16 (i : grid0.Coords) : Fin 4 → Nat :=
  let c0_101 : Index := 0#32
  let arg2 : BitVec 32 := BitVec.ofNat 32 (i 2).val
  let v149 : Index := Scalar.indexCast arg2
  let c0_102 : Index := 0#32
  let c0_103 : Index := 0#32
  ![0, v149.toNat, 0, 0]
def k0_off17 (i : grid0.Coords) : Fin 4 → Nat :=
  let c0_130 : Index := 0#32
  let arg2 : BitVec 32 := BitVec.ofNat 32 (i 2).val
  let v194 : Index := Scalar.indexCast arg2
  let c0_131 : Index := 0#32
  let c0_132 : Index := 0#32
  ![0, v194.toNat, 0, 0]
def k0_off18 (i : grid0.Coords) : Fin 4 → Nat :=
  let c0_159 : Index := 0#32
  let arg2 : BitVec 32 := BitVec.ofNat 32 (i 2).val
  let v239 : Index := Scalar.indexCast arg2
  let c0_160 : Index := 0#32
  let c0_161 : Index := 0#32
  ![0, v239.toNat, 0, 0]
def k0_off19 (i : grid0.Coords) : Fin 4 → Nat :=
  let c0_188 : Index := 0#32
  let arg2 : BitVec 32 := BitVec.ofNat 32 (i 2).val
  let v284 : Index := Scalar.indexCast arg2
  let c0_189 : Index := 0#32
  let c0_190 : Index := 0#32
  ![0, v284.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x1024 : Shape := ⟨3, ![8, 4096, 1024]⟩
abbrev S8x4x512x1024 : Shape := ⟨4, ![8, 4, 512, 1024]⟩
abbrev S64 : Shape := ⟨1, ![64]⟩
abbrev S128 : Shape := ⟨1, ![128]⟩
abbrev S8x4096x4x2x128 : Shape := ⟨5, ![8, 4096, 4, 2, 128]⟩
abbrev S8x4x2x4096x128 : Shape := ⟨5, ![8, 4, 2, 4096, 128]⟩
abbrev S8x512x4x1024 : Shape := ⟨4, ![8, 512, 4, 1024]⟩
abbrev S8x4x128x4096 : Shape := ⟨4, ![8, 4, 128, 4096]⟩
abbrev S8x4x4096x128 : Shape := ⟨4, ![8, 4, 4096, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4x2x4096x4096 : Shape := ⟨5, ![8, 4, 2, 4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4x4096 : Shape := ⟨3, ![8, 4, 4096]⟩
abbrev S8x4x4096x1 : Shape := ⟨4, ![8, 4, 4096, 1]⟩
abbrev S1x1x1x128 : Shape := ⟨4, ![1, 1, 1, 128]⟩
abbrev S8x4096x4x128 : Shape := ⟨4, ![8, 4096, 4, 128]⟩
abbrev S8x4096x512 : Shape := ⟨3, ![8, 4096, 512]⟩

abbrev nBuf : Space → Nat
  | .hbm => 98
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4x512x1024, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S8x4096x1024, .f32⟩
  | .hbm, ⟨9, _⟩ => ⟨S8x4096x4x2x128, .f32⟩
  | .hbm, ⟨10, _⟩ => ⟨S8x4x2x4096x128, .f32⟩
  | .hbm, ⟨11, _⟩ => ⟨S8x4096x1024, .f32⟩
  | .hbm, ⟨12, _⟩ => ⟨S8x4096x4x2x128, .f32⟩
  | .hbm, ⟨13, _⟩ => ⟨S8x4x2x4096x128, .f32⟩
  | .hbm, ⟨14, _⟩ => ⟨S8x4x512x1024, .f32⟩
  | .hbm, ⟨15, _⟩ => ⟨S8x512x4x1024, .f32⟩
  | .hbm, ⟨16, _⟩ => ⟨S8x4x128x4096, .f32⟩
  | .hbm, ⟨17, _⟩ => ⟨S8x4x4096x128, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096, .i32⟩
  | .hbm, ⟨30, _⟩ => ⟨S4096x1, .i32⟩
  | .hbm, ⟨31, _⟩ => ⟨S1x4096, .i32⟩
  | .hbm, ⟨32, _⟩ => ⟨S4096x4096, .i32⟩
  | .hbm, ⟨33, _⟩ => ⟨S4096x4096, .i32⟩
  | .hbm, ⟨34, _⟩ => ⟨S4096x4096, .i32⟩
  | .hbm, ⟨35, _⟩ => ⟨S_, .i32⟩
  | .hbm, ⟨36, _⟩ => ⟨S4096x4096, .i32⟩
  | .hbm, ⟨37, _⟩ => ⟨S4096x4096, .i1⟩
  | .hbm, ⟨38, _⟩ => ⟨S8x4x2x4096x4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8x4x2x4096x4096, .f32⟩
  | .hbm, ⟨43, _⟩ => ⟨S8x4x2x4096x4096, .f32⟩
  | .hbm, ⟨44, _⟩ => ⟨S_, .f32⟩
  | .hbm, ⟨45, _⟩ => ⟨S_, .f32⟩
  | .hbm, ⟨46, _⟩ => ⟨S8x4x2x4096x4096, .i1⟩
  | .hbm, ⟨47, _⟩ => ⟨S8x4x2x4096x4096, .f32⟩
  | .hbm, ⟨48, _⟩ => ⟨S8x4x2x4096x4096, .f32⟩
  | .hbm, ⟨49, _⟩ => ⟨S_, .f32⟩
  | .hbm, ⟨50, _⟩ => ⟨S8x4x2x4096, .f32⟩
  | .hbm, ⟨51, _⟩ => ⟨S_, .f32⟩
  | .hbm, ⟨52, _⟩ => ⟨S8x4x2x4096, .f32⟩
  | .hbm, ⟨53, _⟩ => ⟨S8x4x2x4096, .f32⟩
  | .hbm, ⟨54, _⟩ => ⟨S8x4x2x4096x1, .f32⟩
  | .hbm, ⟨55, _⟩ => ⟨S8x4x2x4096x4096, .f32⟩
  | .hbm, ⟨56, _⟩ => ⟨S8x4x2x4096x4096, .f32⟩
  | .hbm, ⟨57, _⟩ => ⟨S8x4x2x4096x4096, .f32⟩
  | .hbm, ⟨58, _⟩ => ⟨S_, .f32⟩
  | .hbm, ⟨59, _⟩ => ⟨S8x4x2x4096, .f32⟩
  | .hbm, ⟨60, _⟩ => ⟨S8x4x2x4096x1, .f32⟩
  | .hbm, ⟨61, _⟩ => ⟨S8x4x2x4096x4096, .f32⟩
  | .hbm, ⟨62, _⟩ => ⟨S8x4x2x4096x4096, .f32⟩
  | .hbm, ⟨63, _⟩ => ⟨S_, .f32⟩
  | .hbm, ⟨64, _⟩ => ⟨S_, .f32⟩
  | .hbm, ⟨65, _⟩ => ⟨S8x4x2x4096x4096, .i1⟩
  | .hbm, ⟨66, _⟩ => ⟨S8x4x2x4096x4096, .f32⟩
  | .hbm, ⟨67, _⟩ => ⟨S8x4x2x4096x4096, .f32⟩
  | .hbm, ⟨68, _⟩ => ⟨S8x4x1x4096x4096, .f32⟩
  | .hbm, ⟨69, _⟩ => ⟨S8x4x4096x4096, .f32⟩
  | .hbm, ⟨70, _⟩ => ⟨S8x4x1x4096x4096, .f32⟩
  | .hbm, ⟨71, _⟩ => ⟨S8x4x4096x4096, .f32⟩
  | .hbm, ⟨72, _⟩ => ⟨S8x4x4096x4096, .f32⟩
  | .hbm, ⟨73, _⟩ => ⟨S8x4x4096x4096, .f32⟩
  | .hbm, ⟨74, _⟩ => ⟨S8x4x4096x4096, .f32⟩
  | .hbm, ⟨75, _⟩ => ⟨S8x4x4096x128, .f32⟩
  | .hbm, ⟨76, _⟩ => ⟨S8x4x4096x128, .f32⟩
  | .hbm, ⟨77, _⟩ => ⟨S_, .f32⟩
  | .hbm, ⟨78, _⟩ => ⟨S8x4x4096, .f32⟩
  | .hbm, ⟨79, _⟩ => ⟨S8x4x4096x1, .f32⟩
  | .hbm, ⟨80, _⟩ => ⟨S_, .f32⟩
  | .hbm, ⟨81, _⟩ => ⟨S8x4x4096x1, .f32⟩
  | .hbm, ⟨82, _⟩ => ⟨S8x4x4096x1, .f32⟩
  | .hbm, ⟨83, _⟩ => ⟨S_, .f32⟩
  | .hbm, ⟨84, _⟩ => ⟨S8x4x4096x1, .f32⟩
  | .hbm, ⟨85, _⟩ => ⟨S8x4x4096x1, .f32⟩
  | .hbm, ⟨86, _⟩ => ⟨S8x4x4096x1, .f32⟩
  | .hbm, ⟨87, _⟩ => ⟨S8x4x4096x128, .f32⟩
  | .hbm, ⟨88, _⟩ => ⟨S8x4x4096x128, .f32⟩
  | .hbm, ⟨89, _⟩ => ⟨S1x1x1x128, .f32⟩
  | .hbm, ⟨90, _⟩ => ⟨S8x4x4096x128, .f32⟩
  | .hbm, ⟨91, _⟩ => ⟨S8x4x4096x128, .f32⟩
  | .hbm, ⟨92, _⟩ => ⟨S_, .f32⟩
  | .hbm, ⟨93, _⟩ => ⟨S8x4x4096x128, .f32⟩
  | .hbm, ⟨94, _⟩ => ⟨S8x4x4096x128, .f32⟩
  | .hbm, ⟨95, _⟩ => ⟨S8x4096x4x128, .f32⟩
  | .hbm, ⟨96, _⟩ => ⟨S8x4096x512, .f32⟩
  | .hbm, ⟨97, _⟩ => ⟨S8x4096x512, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 13
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S32768x1024, .f32⟩
  | .hbm, ⟨7, _⟩ => ⟨S1x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x4096x2816, .f32⟩
  | .hbm, ⟨23, _⟩ => ⟨S8x4096x2816, .f32⟩
  | .hbm, ⟨24, _⟩ => ⟨S8x4096x2816, .f32⟩
  | .hbm, ⟨25, _⟩ => ⟨S_, .f32⟩
  | .hbm, ⟨26, _⟩ => ⟨S8x4096x2816, .f32⟩
  | .hbm, ⟨27, _⟩ => ⟨S8x4096x2816, .f32⟩
  | .hbm, ⟨28, _⟩ => ⟨S_, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S8x4096x2816, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1, .f32⟩
  | .hbm, ⟨46, _⟩ => ⟨S8x4096x1024, .f32⟩
  | .hbm, ⟨47, _⟩ => ⟨S8x4096x1024, .f32⟩
  | .hbm, ⟨48, _⟩ => ⟨S1x1x1024, .f32⟩
  | .hbm, ⟨49, _⟩ => ⟨S8x4096x1024, .f32⟩
  | .hbm, ⟨50, _⟩ => ⟨S8x4096x1024, .f32⟩
  | .hbm, ⟨51, _⟩ => ⟨S_, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x512 : Shape := ⟨3, ![8, 4096, 512]⟩
abbrev S8x4096x128 : Shape := ⟨3, ![8, 4096, 128]⟩
abbrev S1024x1024 : Shape := ⟨2, ![1024, 1024]⟩
abbrev S1024 : Shape := ⟨1, ![1024]⟩
abbrev S8x256x1024 : Shape := ⟨3, ![8, 256, 1024]⟩
abbrev S3x128x512 : Shape := ⟨3, ![3, 128, 512]⟩
abbrev S_ : Shape := ⟨0, ![]⟩
abbrev S3x256x512 : Shape := ⟨3, ![3, 256, 512]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S1x1024 : Shape := ⟨2, ![1, 1024]⟩
abbrev S1x1024x1024 : Shape := ⟨3, ![1, 1024, 1024]⟩
abbrev S1x1024x512 : Shape := ⟨3, ![1, 1024, 512]⟩
abbrev S1x1024x128 : Shape := ⟨3, ![1, 1024, 128]⟩
abbrev S1x256x1024 : Shape := ⟨3, ![1, 256, 1024]⟩
abbrev S1024x128 : Shape := ⟨2, ![1024, 128]⟩
abbrev S1024x256 : Shape := ⟨2, ![1024, 256]⟩
abbrev S1x256x512 : Shape := ⟨3, ![1, 256, 512]⟩
abbrev S256x512 : Shape := ⟨2, ![256, 512]⟩
abbrev S1024x512 : Shape := ⟨2, ![1024, 512]⟩
abbrev S1024x1 : Shape := ⟨2, ![1024, 1]⟩
abbrev S1x256x256 : Shape := ⟨3, ![1, 256, 256]⟩
abbrev S256x256 : Shape := ⟨2, ![256, 256]⟩

abbrev nBuf : Space → Nat
  | .hbm => 55
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x512, .bf16⟩
  | .hbm, ⟨5, _⟩ => ⟨S8x4096x128, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S8x256x1024, .bf16⟩
  | .hbm, ⟨13, _⟩ => ⟨S8x256x1024, .bf16⟩
  | .hbm, ⟨14, _⟩ => ⟨S3x128x512, .i32⟩
  | .hbm, ⟨15, _⟩ => ⟨S3x128x512, .i32⟩
  | .hbm, ⟨16, _⟩ => ⟨S3x128x512, .i32⟩
  | .hbm, ⟨17, _⟩ => ⟨S_, .i32⟩
  | .hbm, ⟨18, _⟩ => ⟨S3x128x512, .i32⟩
  | .hbm, ⟨19, _⟩ => ⟨S3x128x512, .i32⟩
  | .hbm, ⟨20, _⟩ => ⟨S_, .i32⟩
  | .hbm, ⟨21, _⟩ => ⟨S3x128x512, .i32⟩
  | .hbm, ⟨22, _⟩ => ⟨S3x128x512, .i32⟩
  | .hbm, ⟨23, _⟩ => ⟨S_, .i32⟩
  | .hbm, ⟨24, _⟩ => ⟨S3x128x512, .i32⟩
  | .hbm, ⟨25, _⟩ => ⟨S3x128x512, .i32⟩
  | .hbm, ⟨26, _⟩ => ⟨S_, .i32⟩
  | .hbm, ⟨27, _⟩ => ⟨S3x128x512, .i32⟩
  | .hbm, ⟨28, _⟩ => ⟨S3x128x512, .i32⟩
  | .hbm, ⟨29, _⟩ => ⟨S_, .i32⟩
  | .hbm, ⟨30, _⟩ => ⟨S3x128x512, .i32⟩
  | .hbm, ⟨31, _⟩ => ⟨S3x128x512, .i32⟩
  | .hbm, ⟨32, _⟩ => ⟨S3x128x512, .i32⟩
  | .hbm, ⟨33, _⟩ => ⟨S3x128x512, .i32⟩
  | .hbm, ⟨34, _⟩ => ⟨S3x128x512, .i1⟩
  | .hbm, ⟨35, _⟩ => ⟨S_, .f32⟩
  | .hbm, ⟨36, _⟩ => ⟨S_, .f32⟩
  | .hbm, ⟨37, _⟩ => ⟨S3x128x512, .f32⟩
  | .hbm, ⟨38, _⟩ => ⟨S3x128x512, .f32⟩
  | .hbm, ⟨39, _⟩ => ⟨S3x128x512, .f32⟩
  | .hbm, ⟨40, _⟩ => ⟨S3x256x512, .f32⟩
  | .hbm, ⟨41, _⟩ => ⟨S3x256x512, .bf16⟩
  | .hbm, ⟨42, _⟩ => ⟨S512x1024, .f32⟩
  | .hbm, ⟨43, _⟩ => ⟨S512x1024, .bf16⟩
  | .hbm, ⟨44, _⟩ => ⟨S512x1024, .f32⟩
  | .hbm, ⟨45, _⟩ => ⟨S2x4x64x1024, .f32⟩
  | .hbm, ⟨46, _⟩ => ⟨S4x2x64x1024, .f32⟩
  | .hbm, ⟨47, _⟩ => ⟨S512x1024, .f32⟩
  | .hbm, ⟨48, _⟩ => ⟨S512x1024, .bf16⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1024x1024, .bf16⟩
  | .hbm, ⟨53, _⟩ => ⟨S1024x1024, .bf16⟩
  | .hbm, ⟨54, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x128, .f32⟩
  | .local _ .vmem, ⟨11, _⟩ => ⟨S1x1024x128, .f32⟩
  | .local _ .vmem, ⟨12, _⟩ => ⟨S3x256x512, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S1024x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x1024x1024, .f32⟩
  | .local _ .vmem, ⟨25, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S3x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S8x4096x1024 : Shape := ⟨3, ![8, 4096, 1024]⟩
abbrev S8x4096x512 : Shape := ⟨3, ![8, 4096, 512]⟩
abbrev S8x4096x128 : Shape := ⟨3, ![8, 4096, 128]⟩
abbrev S1024x1024 : Shape := ⟨2, ![1024, 1024]⟩
abbrev S1024 : Shape := ⟨1, ![1024]⟩
abbrev S8x256x1024 : Shape := ⟨3, ![8, 256, 1024]⟩
abbrev S8x4096x24 : Shape := ⟨3, ![8, 4096, 24]⟩
abbrev S8x4096x2x4x3 : Shape := ⟨5, ![8, 4096, 2, 4, 3]⟩
abbrev S8x4096x2x4x1 : Shape := ⟨5, ![8, 4096, 2, 4, 1]⟩
abbrev S8x4096x4x2x64 : Shape := ⟨5, ![8, 4096, 4, 2, 64]⟩
abbrev S8x4096x2x4x64 : Shape := ⟨5, ![8, 4096, 2, 4, 64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x256 : Shape := ⟨4, ![8, 4096, 4, 256]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩

abbrev nBuf : Space → Nat
  | .hbm => 118
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x512, .bf16⟩
  | .hbm, ⟨5, _⟩ => ⟨S8x4096x128, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S8x256x1024, .bf16⟩
  | .hbm, ⟨13, _⟩ => ⟨S8x256x1024, .bf16⟩
  | .hbm, ⟨14, _⟩ => ⟨S8x4096x24, .f32⟩
  | .hbm, ⟨15, _⟩ => ⟨S8x4096x2x4x3, .f32⟩
  | .hbm, ⟨16, _⟩ => ⟨S8x4096x2x4x1, .f32⟩
  | .hbm, ⟨17, _⟩ => ⟨S8x4096x512, .f32⟩
  | .hbm, ⟨18, _⟩ => ⟨S8x4096x4x2x64, .f32⟩
  | .hbm, ⟨19, _⟩ => ⟨S8x4096x2x4x64, .f32⟩
  | .hbm, ⟨20, _⟩ => ⟨S8x4096x2x4x64, .f32⟩
  | .hbm, ⟨21, _⟩ => ⟨S8x4096x2x4x64, .f32⟩
  | .hbm, ⟨22, _⟩ => ⟨S8x4096x2x4x1, .f32⟩
  | .hbm, ⟨23, _⟩ => ⟨S8x4096x512, .f32⟩
  | .hbm, ⟨24, _⟩ => ⟨S8x4096x4x2x64, .f32⟩
  | .hbm, ⟨25, _⟩ => ⟨S8x4096x2x4x64, .f32⟩
  | .hbm, ⟨26, _⟩ => ⟨S8x4096x2x4x64, .f32⟩
  | .hbm, ⟨27, _⟩ => ⟨S8x4096x2x4x64, .f32⟩
  | .hbm, ⟨28, _⟩ => ⟨S8x4096x2x4x64, .f32⟩
  | .hbm, ⟨29, _⟩ => ⟨S8x4096x2x4x1, .f32⟩
  | .hbm, ⟨30, _⟩ => ⟨S8x4096x512, .f32⟩
  | .hbm, ⟨31, _⟩ => ⟨S8x4096x4x2x64, .f32⟩
  | .hbm, ⟨32, _⟩ => ⟨S8x4096x2x4x64, .f32⟩
  | .hbm, ⟨33, _⟩ => ⟨S8x4096x2x4x64, .f32⟩
  | .hbm, ⟨34, _⟩ => ⟨S8x4096x2x4x64, .f32⟩
  | .hbm, ⟨35, _⟩ => ⟨S8x4096x2x4x64, .f32⟩
  | .hbm, ⟨36, _⟩ => ⟨S8x4096x512, .f32⟩
  | .hbm, ⟨37, _⟩ => ⟨S8x4096x512, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S8x4096x1, .f32⟩
  | .hbm, ⟨51, _⟩ => ⟨S8x4096x1024, .f32⟩
  | .hbm, ⟨52, _⟩ => ⟨S8x4096x1024, .f32⟩
  | .hbm, ⟨53, _⟩ => ⟨S1x1x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x1, .f32⟩
  | .hbm, ⟨68, _⟩ => ⟨S8x4096x1024, .f32⟩
  | .hbm, ⟨69, _⟩ => ⟨S8x4096x1024, .f32⟩
  | .hbm, ⟨70, _⟩ => ⟨S1x1x1024, .f32⟩
  | .hbm, ⟨71, _⟩ => ⟨S8x4096x1024, .f32⟩
  | .hbm, ⟨72, _⟩ => ⟨S8x4096x1024, .f32⟩
  | .hbm, ⟨73, _⟩ => ⟨S8x256x1024, .f32⟩
  | .hbm, ⟨74, _⟩ => ⟨S8x256x1024, .f32⟩
  | .hbm, ⟨75, _⟩ => ⟨S8x4096x1024, .f32⟩
  | .hbm, ⟨76, _⟩ => ⟨S8x4096x4x256, .f32⟩
  | .hbm, ⟨77, _⟩ => ⟨S8x256x4x256, .f32⟩
  | .hbm, ⟨78, _⟩ => ⟨S8x256x4x256, .f32⟩
  | .hbm, ⟨79, _⟩ => ⟨S8x4x4096x256, .f32⟩
  | .hbm, ⟨80, _⟩ => ⟨S_, .f32⟩
  | .hbm, ⟨81, _⟩ => ⟨S8x4x4096x256, .f32⟩
  | .hbm, ⟨82, _⟩ => ⟨S8x4x4096x256, .f32⟩
  | .hbm, ⟨83, _⟩ => ⟨S_, .f32⟩
  | .hbm, ⟨84, _⟩ => ⟨S8x4x4096, .f32⟩
  | .hbm, ⟨85, _⟩ => ⟨S_, .f32⟩
  | .hbm, ⟨86, _⟩ => ⟨S8x4x4096, .f32⟩
  | .hbm, ⟨87, _⟩ => ⟨S8x4x4096, .f32⟩
  | .hbm, ⟨88, _⟩ => ⟨S8x4x4096x1, .f32⟩
  | .hbm, ⟨89, _⟩ => ⟨S8x4x4096x256, .f32⟩
  | .hbm, ⟨90, _⟩ => ⟨S8x4x4096x256, .f32⟩
  | .hbm, ⟨91, _⟩ => ⟨S8x4x4096x256, .f32⟩
  | .hbm, ⟨92, _⟩ => ⟨S_, .f32⟩
  | .hbm, ⟨93, _⟩ => ⟨S8x4x4096, .f32⟩
  | .hbm, ⟨94, _⟩ => ⟨S8x4x4096x1, .f32⟩
  | .hbm, ⟨95, _⟩ => ⟨S8x4x4096x256, .f32⟩
  | .hbm, ⟨96, _⟩ => ⟨S8x4x4096x256, .f32⟩
  | .hbm, ⟨97, _⟩ => ⟨S8x4x256x4096, .f32⟩
  | .hbm, ⟨98, _⟩ => ⟨S8x4096x4x256, .f32⟩
  | .hbm, ⟨99, _⟩ => ⟨S8x4096x1024, .f32⟩
  | .hbm, ⟨100, _⟩ => ⟨S8x4096x1024, .f32⟩
  | .hbm, ⟨101, _⟩ => ⟨S8x4096x1024, .f32⟩
  | .hbm, ⟨102, _⟩ => ⟨S_, .f32⟩
  | .hbm, ⟨103, _⟩ => ⟨S8x4096, .f32⟩
  | .hbm, ⟨104, _⟩ => ⟨S8x4096x1, .f32⟩
  | .hbm, ⟨105, _⟩ => ⟨S_, .f32⟩
  | .hbm, ⟨106, _⟩ => ⟨S8x4096x1, .f32⟩
  | .hbm, ⟨107, _⟩ => ⟨S8x4096x1, .f32⟩
  | .hbm, ⟨108, _⟩ => ⟨S_, .f32⟩
  | .hbm, ⟨109, _⟩ => ⟨S8x4096x1, .f32⟩
  | .hbm, ⟨110, _⟩ => ⟨S8x4096x1, .f32⟩
  | .hbm, ⟨111, _⟩ => ⟨S8x4096x1, .f32⟩
  | .hbm, ⟨112, _⟩ => ⟨S8x4096x1024, .f32⟩
  | .hbm, ⟨113, _⟩ => ⟨S8x4096x1024, .f32⟩
  | .hbm, ⟨114, _⟩ => ⟨S1x1x1024, .f32⟩
  | .hbm, ⟨115, _⟩ => ⟨S8x4096x1024, .f32⟩
  | .hbm, ⟨116, _⟩ => ⟨S8x4096x1024, .f32⟩
  | .hbm, ⟨117, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_cst_0 : Ref sig .tc := ⟨.hbm, 44, rfl⟩
abbrev main_v29 : Ref sig .tc := ⟨.hbm, 45, rfl⟩
abbrev main_v30 : Ref sig .tc := ⟨.hbm, 46, rfl⟩
abbrev main_cst_1 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_2 : Ref sig .tc := ⟨.hbm, 58, rfl⟩
abbrev main_v41 : Ref sig .tc := ⟨.hbm, 59, rfl⟩
abbrev main_v42 : Ref sig .tc := ⟨.hbm, 60, rfl⟩
abbrev main_cst_3 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_5 : Ref sig .tc := ⟨.hbm, 80, rfl⟩
abbrev main_v60 : Ref sig .tc := ⟨.hbm, 81, rfl⟩
abbrev main_v61 : Ref sig .tc := ⟨.hbm, 82, rfl⟩
abbrev main_cst_6 : Ref sig .tc := ⟨.hbm, 83, rfl⟩
abbrev main_v62 : Ref sig .tc := ⟨.hbm, 84, rfl⟩
abbrev main_cst_7 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_8 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_9 : Ref sig .tc := ⟨.hbm, 102, rfl⟩
abbrev main_v78 : Ref sig .tc := ⟨.hbm, 103, rfl⟩
abbrev main_v79 : Ref sig .tc := ⟨.hbm, 104, rfl⟩
abbrev main_cst_10 : Ref sig .tc := ⟨.hbm, 105, rfl⟩
abbrev main_v80 : Ref sig .tc := ⟨.hbm, 106, rfl⟩
abbrev main_v81 : Ref sig .tc := ⟨.hbm, 107, rfl⟩
abbrev main_cst_11 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩

abbrev nD : Nat := 1
abbrev τ : Topo := Topo.v7x

variable {F : FTy → Type} [FloatOps F]
-- ==== Proof.Ffn.lean ====
module
public import proofs.«01_k».proof.Proof.Gen.Kernel2Ideal.Frame
public import proofs.«01_k».proof.Proof.Gen.Reference2Ideal.Read
public import Idealize.ShloMosaic.Lib.Pipeline.ValueKit
import Idealize.ShloMosaic.Lib.Pointwise

/-! # The feed-forward half-step: what one token's row becomes

One row of the residual stream is normalised, sent through the gated unit, normalised again, halved and
added back.  The kernel does this for 512 rows at a grid point, the reference for every token at once;
both are read here as the same function of ONE row and the weights. -/

@[expose] public section
set_option maxRecDepth 16384

noncomputable section
open Idealize.ShloMosaic Idealize.ShloMosaic.TcCoe Idealize.SL.Sem
open Idealize.ShloMosaic.Pipeline (Dat)

namespace Cert.Ffn

/-- A row times the reciprocal square root of its mean square (with the printed epsilon), times the gain. -/
def rms (x g : Fin 1024 → EReal) (k : Fin 1024) : EReal :=
  x k * Ideal.rsqrt (Ideal.div (∑ l, x l * x l) (Ideal.ofBits FTy.f32 0x44800000#32)
    + Ideal.ofBits FTy.f32 0x358637BD#32) * g k

/-- The gated unit of a row: `(silu (x · gate) * (x · up)) · down`. -/
def unit (x : Fin 1024 → EReal) (wg wu : Fin 1024 → Fin 2816 → EReal) (wd : Fin 2816 → Fin 1024 → EReal)
    (j : Fin 1024) : EReal :=
  ∑ h, ((∑ k, x k * wg k h) * Ideal.div 1 (1 + Ideal.exp (-∑ k, x k * wg k h)) * ∑ k, x k * wu k h) * wd h j

/-- The half-step: the row plus half the normalised gated unit of the normalised row. -/
def step (x g p : Fin 1024 → EReal) (wg wu : Fin 1024 → Fin 2816 → EReal) (wd : Fin 2816 → Fin 1024 → EReal)
    (j : Fin 1024) : EReal :=
  x j + Ideal.ofBits FTy.f32 0x3F000000#32 * rms (unit (rms x g) wg wu wd) p j

section
open Cert.Kernel2Ideal Cert.Kernel2Ideal.Gen

/-- The block's matmul chain, read at row `r`, is the gated unit of that row normalised. -/
theorem pay3_at (x : Vec Ideal S512x1024 .f32) (g : Vec Ideal S1x1024 .f32) (wg wu : Vec Ideal S1024x2816 .bf16)
    (wd : Vec Ideal S2816x1024 .bf16) (r : Fin 512) (j : Fin 1024) :
    k0_pay3 x g wg wu wd (ix2 r j)
      = unit (rms (fun k => x (ix2 r k)) fun k => g (ix2 0 k)) (fun k h => wg (ix2 k h)) (fun k h => wu (ix2 k h))
          (fun h j => wd (ix2 h j)) j := by
  pointwise [k0_pay3, k0_pay2, unit, rms]
  rfl

/-- What the block stores at row `r` is the half-step of that row. -/
theorem pay1_at (x : Vec Ideal S512x1024 .f32) (g : Vec Ideal S1x1024 .f32) (wg wu : Vec Ideal S1024x2816 .bf16)
    (wd : Vec Ideal S2816x1024 .bf16) (p : Vec Ideal S1x1024 .f32) (r : Fin 512) (j : Fin 1024) :
    k0_pay1 (k0_pay2 x) (k0_pay3 x g wg wu wd) (k0_pay4 p) (k0_pay5 x g wg wu wd) k0_pay6 (ix2 r j)
      = step (fun k => x (ix2 r k)) (fun k => g (ix2 0 k)) (fun k => p (ix2 0 k)) (fun k h => wg (ix2 k h))
          (fun k h => wu (ix2 k h)) (fun h j => wd (ix2 h j)) j := by
  pointwise [k0_pay1, k0_pay2, k0_pay4, k0_pay5, k0_pay6]
  simp only [pay3_at]
  unfold step
  rw [rms]
end

section
open Cert.Reference2Ideal Cert.Reference2Ideal.Read

/-- The reference's gated unit, read at a token. -/
theorem ref17_at (x0 : FVec Ideal S8x4096x1024 .f32) (x1 : FVec Ideal S1024 .f32)
    (x3 x4 : FVec Ideal S1024x2816 .f32) (x5 : FVec Ideal S2816x1024 .f32) (b : Fin 8) (t : Fin 4096) (j : Fin 1024) :
    val_main_v17 (F := Ideal) x0 x1 x3 x4 x5 (ix3 b t j)
      = unit (rms (fun k => x0 (ix3 b t k)) fun k => x1 (ix1 k)) (fun k h => x3 (ix2 k h)) (fun k h => x4 (ix2 k h))
          (fun h j => x5 (ix2 h j)) j := by
  pointwise [val_main_v17, val_main_v16, val_main_v15, val_main_v14, val_main_call0_v5, val_main_call0_v4,
    val_main_call0_v3, val_main_call0_v2, val_main_call0_v1, val_main_call0_v0, val_main_call0_cst,
    val_main_call0_cst_0, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1, unit, rms]

/-- The reference's result, read at a token, is the half-step of that token's row. -/
theorem ref33_at (x0 : FVec Ideal S8x4096x1024 .f32) (x1 x2 : FVec Ideal S1024 .f32)
    (x3 x4 : FVec Ideal S1024x2816 .f32) (x5 : FVec Ideal S2816x1024 .f32) (b : Fin 8) (t : Fin 4096) (j : Fin 1024) :
    val_main_v33 (F := Ideal) x0 x1 x2 x3 x4 x5 (ix3 b t j)
      = step (fun k => x0 (ix3 b t k)) (fun k => x1 (ix1 k)) (fun k => x2 (ix1 k)) (fun k h => x3 (ix2 k h))
          (fun k h => x4 (ix2 k h)) (fun h j => x5 (ix2 h j)) j := by
  pointwise [val_main_v33, val_main_v32, val_main_v31, val_main_v30, val_main_v29, val_main_v28, val_main_v27,
    val_main_v26, val_main_v25, val_main_v24, val_main_v23, val_main_v22, val_main_v21, val_main_v20, val_main_v19,
    val_main_v18, val_main_cst_2, val_main_cst_3, val_main_cst_4, val_main_cst_5]
  simp only [ref17_at]
  unfold step
  rw [rms]

/-- The same at a row of the reshaped result. -/
theorem ref34_at (x0 : FVec Ideal S8x4096x1024 .f32) (x1 x2 : FVec Ideal S1024 .f32)
    (x3 x4 : FVec Ideal S1024x2816 .f32) (x5 : FVec Ideal S2816x1024 .f32) (b : Fin 8) (t : Fin 4096)
    (i : Fin 32768) (hi : i.val = 4096 * b.val + t.val) (j : Fin 1024) :
    val_main_v34 (F := Ideal) x0 x1 x2 x3 x4 x5 (ix2 i j)
      = step (fun k => x0 (ix3 b t k)) (fun k => x1 (ix1 k)) (fun k => x2 (ix1 k)) (fun k h => x3 (ix2 k h))
          (fun k h => x4 (ix2 k h)) (fun h j => x5 (ix2 h j)) j := by
  rw [← ref33_at, val_main_v34_apply]
  congr 1
  funext a
  fin_cases a <;> apply Fin.ext <;> simp [ix2, ix3] <;> omega
end

section
open Cert.Kernel2Ideal Cert.Kernel2Ideal.Gen
variable (m : (ℓ : Loc nD τ sig) → Buf (Elt Ideal) ℓ)

/-- The block each window shows at a grid point. -/
theorem idx : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![t.val, 0] :=
  (by decide +kernel : ∀ t : Fin grid0.N, _)

/-- The reference's result over the kernel's argument arrays. -/
abbrev REF (c : Dev nD) : FVec Ideal Cert.Reference2Ideal.S32768x1024 .f32 :=
  Cert.Reference2Ideal.Read.val_main_v34 (F := Ideal) (m ((c : Thread nD τ).loc main_arg0))
    (m ((c : Thread nD τ).loc main_arg1)) (m ((c : Thread nD τ).loc main_arg2))
    (m ((c : Thread nD τ).loc main_arg3)) (m ((c : Thread nD τ).loc main_arg4)) (m ((c : Thread nD τ).loc main_arg5))

/-- Row `r` of the block at point `t` is the token of the reshaped activations there. -/
theorem x_at (c : Dev nD) (t : Fin cfg0.N) (r : Fin 512) (k : Fin 1024) (b : Fin 8) (s : Fin 4096)
    (h : 512 * t.val + r.val = 4096 * b.val + s.val) :
    iblk m c 0 t (ix2 r k) = m ((c : Thread nD τ).loc main_arg0) (ix3 b s k) := by
  blk_simp [iblk, idx t]
  entry_read
  pointwise
  show m ((c : Thread nD τ).loc main_arg0) _ = _
  congr 1
  have h0 : ((((View.whole main_v0).slice (win0_0.rect t)).emb (ix2 r k) 0 : Fin _) : ℕ) = t.val * 512 + r.val := by
    blk_simp [idx t]
  have h1 : ((((View.whole main_v0).slice (win0_0.rect t)).emb (ix2 r k) 1 : Fin _) : ℕ) = k.val := by
    blk_simp [idx t]
  have hs := s.isLt
  funext a
  fin_cases a <;> apply Fin.ext
  · show _ / 4096 = b.val
    omega
  · show _ % 4096 = s.val
    omega
  · exact h1

/-- The first gain row. -/
theorem g_at (c : Dev nD) (t : Fin cfg0.N) (k : Fin 1024) :
    iblk m c 1 t (ix2 0 k) = m ((c : Thread nD τ).loc main_arg1) (ix1 k) := by
  blk_point [iblk, V, idx t]

/-- The second gain row. -/
theorem p_at (c : Dev nD) (t : Fin cfg0.N) (k : Fin 1024) :
    iblk m c 2 t (ix2 0 k) = m ((c : Thread nD τ).loc main_arg2) (ix1 k) := by
  blk_point [iblk, V, idx t]

/-- The gate weights. -/
theorem wg_at (c : Dev nD) (t : Fin cfg0.N) (k : Fin 1024) (h : Fin 2816) :
    iblk m c 3 t (ix2 k h) = m ((c : Thread nD τ).loc main_arg3) (ix2 k h) := by
  blk_point [iblk, V, idx t]

/-- The up-projection weights. -/
theorem wu_at (c : Dev nD) (t : Fin cfg0.N) (k : Fin 1024) (h : Fin 2816) :
    iblk m c 4 t (ix2 k h) = m ((c : Thread nD τ).loc main_arg4) (ix2 k h) := by
  blk_point [iblk, V, idx t]

/-- The down-projection weights. -/
theorem wd_at (c : Dev nD) (t : Fin cfg0.N) (h : Fin 2816) (k : Fin 1024) :
    iblk m c 5 t (ix2 h k) = m ((c : Thread nD τ).loc main_arg5) (ix2 h k) := by
  blk_point [iblk, V, idx t]

/-- What the body stores at a block index is the reference at the array index it sits at. -/
theorem point (c : Dev nD) (t : Fin cfg0.N) (y : S512x1024.Idx) :
    k0_pay1 (k0_pay2 (iblk m c 0 t)) (k0_pay3 (iblk m c 0 t) (iblk m c 1 t) (iblk m c 3 t) (iblk m c 4 t) (iblk m c 5 t))
      (k0_pay4 (iblk m c 2 t)) (k0_pay5 (iblk m c 0 t) (iblk m c 1 t) (iblk m c 3 t) (iblk m c 4 t) (iblk m c 5 t))
      (k0_pay6 (F := Ideal)) y = REF m c (((cfg0.win 6).blk t).view.emb y) := by
  have ht : t.val < 64 := t.isLt
  have hr : (y 0).val < 512 := (y 0).isLt
  have hi : 512 * t.val + (y 0).val < 32768 := by omega
  have hy : y = ix2 (y 0) (y 1) := by funext a; fin_cases a <;> rfl
  have he : ((cfg0.win 6).blk t).view.emb y
      = ix2 (⟨512 * t.val + (y 0).val, hi⟩ : Fin 32768) (⟨(y 1).val, (y 1).isLt⟩ : Fin 1024) := by
    blk_ext [idx t]
  rw [he]
  refine (congrArg _ hy).trans ((pay1_at _ _ _ _ _ _ _ _).trans ?_)
  refine Eq.trans ?_ (ref34_at _ _ _ _ _ _ (⟨(512 * t.val + (y 0).val) / 4096, by omega⟩ : Fin 8)
    (⟨(512 * t.val + (y 0).val) % 4096, by omega⟩ : Fin 4096) _ (by show _ = _; simp only []; omega) _).symm
  congr 1
  · funext k; exact x_at m c t _ k _ _ (by show _ = 4096 * (_ / 4096) + _ % 4096; omega)
  · funext k; exact g_at m c t k
  · funext k; exact p_at m c t k
  · funext k h; exact wg_at m c t k h
  · funext k h; exact wu_at m c t k h
  · funext h k; exact wd_at m c t h k

/-- The result array after the run is the reference's. -/
theorem final (c : Dev nD) : (dats m 0 c).arrAt 6 (cfgs 0).N = REF m c := by
  refine (dats m 0 c).arrAt_eq_of_covers 6 _ (by decide +kernel) fun t hf y => ?_
  blk_simp
  rw [after0_6]
  frame_out
  exact point m c t y
end

end Cert.Ffn
-- ==== Proof.Steps.lean ====
module

public import Idealize.ShloMosaic.Lib.Pipeline.FrameBody
public import Idealize.ShloMosaic.Lib.Tactic
public import Idealize.ShloMosaic.Lib.WholeRead
public import Idealize.ShloMosaic.Lib.Pointwise

/-! # The differential attention's body as a run of small steps

The kernel's body is one long sequence of loads and stores, but it only ever does two things: it puts the
scores of one block of keys into a tile of scratch (`scoreP`), and it updates the running maximum, sum and
weighted sum of one strip of 256 queries from a tile of scores (`stepP`).  Here both are stated once, over
any memrefs, together with what they do to the scratch, held strip by strip (`St`). -/

@[expose] public section
set_option maxRecDepth 16384

noncomputable section

namespace Cert.Da

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

abbrev SQ : Shape := ⟨3, ![1, 1024, 256]⟩
abbrev SK : Shape := ⟨3, ![1, 4096, 256]⟩
abbrev SV : Shape := ⟨4, ![1, 4, 128, 1024]⟩
abbrev SS : Shape := ⟨4, ![2, 2, 1024, 1024]⟩
abbrev SA : Shape := ⟨3, ![2, 128, 1024]⟩
abbrev SM : Shape := ⟨3, ![2, 1, 1024]⟩
abbrev TQ : Shape := ⟨3, ![1, 1024, 128]⟩
abbrev TS : Shape := ⟨4, ![1, 1, 1024, 1024]⟩
abbrev TA : Shape := ⟨3, ![1, 128, 256]⟩
abbrev TM : Shape := ⟨3, ![1, 1, 256]⟩

/-! ## What a strip's update computes -/

section Payloads
variable {F : FTy → Type} [FloatOps F]

/-- The shape facts of a strip of `nk` keys by 256 queries. -/
structure NkFacts (nk : ℕ) : Prop where
  pos : 0 < (⟨4, ![1, 1, nk, 256]⟩ : Shape).numel
  posV : 0 < (⟨4, ![1, 1, 128, nk]⟩ : Shape).numel
  cast : (⟨4, ![1, 1, nk, 256]⟩ : Shape).ShapeCasts ⟨2, ![nk, 256]⟩
  castV : (⟨4, ![1, 1, 128, nk]⟩ : Shape).ShapeCasts ⟨2, ![128, nk]⟩
  red : (⟨2, ![nk, 256]⟩ : Shape).Reduces [0] ⟨1, ![256]⟩
  bc : (⟨2, ![1, 256]⟩ : Shape).Broadcasts ⟨2, ![nk, 256]⟩
  iota0 : (⟨2, ![nk, 256]⟩ : Shape).Iotas .tc 32 [0]
  iota1 : (⟨2, ![nk, 256]⟩ : Shape).Iotas .tc 32 [1]
  dotO : DotDims.WF ⟨2, ![16, nk]⟩ ⟨2, ![nk, 256]⟩ ⟨2, ![16, 256]⟩ [1] [0] [0] [1] [] []
  dotV : DotDims.WF ⟨2, ![128, nk]⟩ ⟨2, ![nk, 256]⟩ ⟨2, ![128, 256]⟩ [1] [0] [0] [1] [] []

theorem nk256 : NkFacts 256 := by constructor <;> decide
theorem nk512 : NkFacts 512 := by constructor <;> decide
theorem nk768 : NkFacts 768 := by constructor <;> decide
theorem nk1024 : NkFacts 1024 := by constructor <;> decide

theorem castM : TM.ShapeCasts ⟨2, ![1, 256]⟩ := by decide
theorem castM' : (⟨2, ![1, 256]⟩ : Shape).ShapeCasts TM := by decide
theorem castA : TA.ShapeCasts ⟨2, ![128, 256]⟩ := by decide
theorem castA' : (⟨2, ![128, 256]⟩ : Shape).ShapeCasts TA := by decide
theorem cast1 : (⟨1, ![256]⟩ : Shape).ShapeCasts ⟨2, ![1, 256]⟩ := by decide
theorem castQ : TQ.ShapeCasts ⟨2, ![1024, 128]⟩ := by decide
theorem castS' : (⟨2, ![1024, 1024]⟩ : Shape).ShapeCasts TS := by decide
theorem bcA : (⟨2, ![1, 256]⟩ : Shape).Broadcasts ⟨2, ![128, 256]⟩ := by decide
theorem sl0 : (⟨2, ![16, 256]⟩ : Shape).Slices ![0, 0] ⟨2, ![1, 256]⟩ := by decide
theorem lt_bf : FTy.bits .bf16 < FTy.bits .f32 := by decide
theorem dotS_wf : DotDims.WF ⟨2, ![1024, 128]⟩ ⟨2, ![1024, 128]⟩ ⟨2, ![1024, 1024]⟩ [1] [1] [0] [0] [] [] := by decide

/-- Rows of keys against rows of queries. -/
def dotS : DotDims ⟨2, ![1024, 128]⟩ ⟨2, ![1024, 128]⟩ ⟨2, ![1024, 1024]⟩ where
  lhsContracting := [1]
  rhsContracting := [1]
  lhsNonContracting := [0]
  rhsNonContracting := [0]
  lhsBatch := []
  rhsBatch := []
  wf := dotS_wf

/-- `M` rows of `nk` weights against a strip. -/
def dotN (M nk : ℕ) (wf : DotDims.WF ⟨2, ![M, nk]⟩ ⟨2, ![nk, 256]⟩ ⟨2, ![M, 256]⟩ [1] [0] [0] [1] [] []) :
    DotDims ⟨2, ![M, nk]⟩ ⟨2, ![nk, 256]⟩ ⟨2, ![M, 256]⟩ where
  lhsContracting := [1]
  rhsContracting := [0]
  lhsNonContracting := [0]
  rhsNonContracting := [1]
  lhsBatch := []
  rhsBatch := []
  wf := wf

/-- A tile of scores: 1024 keys against 1024 queries. -/
def payS (k q : Vec F TQ .bf16) : FVec F TS .f32 :=
  shapeCast TS (matmul dotS none (shapeCast ⟨2, ![1024, 128]⟩ k castQ : FVec F _ .bf16)
    (shapeCast ⟨2, ![1024, 128]⟩ q castQ : FVec F _ .bf16) (constant ⟨2, ![1024, 1024]⟩ .f32 0x00000000#32)) castS'

variable {nk : ℕ} (H : NkFacts nk)

/-- A strip as it is. -/
def full (s : Vec F ⟨4, ![1, 1, nk, 256]⟩ .f32) : FVec F ⟨2, ![nk, 256]⟩ .f32 := shapeCast ⟨2, ![nk, 256]⟩ s H.cast

/-- A strip of the diagonal tile: keys after the query are replaced by `neg`; the strip's first query is `off`. -/
def diag (neg : F .f32) (off : BitVec 32) (s : Vec F ⟨4, ![1, 1, nk, 256]⟩ .f32) : FVec F ⟨2, ![nk, 256]⟩ .f32 :=
  select (cmpi .sle (iota .tc ⟨2, ![nk, 256]⟩ 32 [0] H.iota0)
      (addi (iota .tc ⟨2, ![nk, 256]⟩ 32 [1] H.iota1) (broadcast ⟨2, ![nk, 256]⟩ off)))
    (shapeCast ⟨2, ![nk, 256]⟩ s H.cast) (broadcast ⟨2, ![nk, 256]⟩ neg)

/-- The new running maximum. -/
def nmax (s : FVec F ⟨2, ![nk, 256]⟩ .f32) (m : Vec F TM .f32) : FVec F ⟨2, ![1, 256]⟩ .f32 :=
  maximumf (shapeCast ⟨2, ![1, 256]⟩ m castM : FVec F _ .f32)
    (shapeCast ⟨2, ![1, 256]⟩ (multiReduction .maximumf [0] ⟨1, ![256]⟩ s 0xFF800000#32 H.red (.inl rfl) rfl) cast1)

/-- The factor the old sums are scaled by. -/
def alph (s : FVec F ⟨2, ![nk, 256]⟩ .f32) (m : Vec F TM .f32) : FVec F ⟨2, ![1, 256]⟩ .f32 :=
  exp2 (subf (shapeCast ⟨2, ![1, 256]⟩ m castM : FVec F _ .f32) (nmax H s m))

/-- The strip's weights against the new maximum. -/
def wts (s : FVec F ⟨2, ![nk, 256]⟩ .f32) (m : Vec F TM .f32) : FVec F ⟨2, ![nk, 256]⟩ .bf16 :=
  truncf .bf16 (exp2 (subf s (broadcastTo ⟨2, ![nk, 256]⟩ (nmax H s m) H.bc)) : FVec F _ .f32) lt_bf

/-- The running maximum stored. -/
def payM (s : FVec F ⟨2, ![nk, 256]⟩ .f32) (m : Vec F TM .f32) : FVec F TM .f32 := shapeCast TM (nmax H s m) castM'

/-- The running sum stored. -/
def payL (s : FVec F ⟨2, ![nk, 256]⟩ .f32) (m l : Vec F TM .f32) : FVec F TM .f32 :=
  shapeCast TM (addf (mulf (alph H s m) (shapeCast ⟨2, ![1, 256]⟩ l castM : FVec F _ .f32))
    (extractStridedSlice ⟨2, ![1, 256]⟩ ![0, 0]
      (matmul (dotN 16 nk H.dotO) none (broadcast ⟨2, ![16, nk]⟩ (Scalar.ofBits .bf16 0x3F80#16 : F .bf16))
        (wts H s m) (constant ⟨2, ![16, 256]⟩ .f32 0x00000000#32)) sl0)) castM'

/-- The running weighted sum stored. -/
def payA (s : FVec F ⟨2, ![nk, 256]⟩ .f32) (m : Vec F TM .f32) (a : Vec F TA .f32) (v : Vec F ⟨4, ![1, 1, 128, nk]⟩ .bf16) :
    FVec F TA .f32 :=
  shapeCast TA (addf (mulf (broadcastTo ⟨2, ![128, 256]⟩ (alph H s m) bcA) (shapeCast ⟨2, ![128, 256]⟩ a castA : FVec F _ .f32))
    (matmul (dotN 128 nk H.dotV) none (shapeCast ⟨2, ![128, nk]⟩ v H.castV : FVec F _ .bf16) (wts H s m)
      (constant ⟨2, ![128, 256]⟩ .f32 0x00000000#32))) castA'

end Payloads

/-! ## The programs -/

section Progs
variable {F : FTy → Type} [FloatOps F] {nD : ℕ} {τ : Topo} {sig : RefSig} {Λ : Labels}

theorem inbQ (mp : Fin 2) : ∀ a, (![0, 0, 128 * mp.val] : Fin 3 → ℕ) a + TQ.size a ≤ SQ.size a := by
  revert mp; decide
theorem inbS (buf mp : Fin 2) : ∀ a, (![buf.val, mp.val, 0, 0] : Fin 4 → ℕ) a + TS.size a ≤ SS.size a := by
  revert buf mp; decide
theorem inbM (mp : Fin 2) (c : Fin 4) : ∀ a, (![mp.val, 0, 256 * c.val] : Fin 3 → ℕ) a + TM.size a ≤ SM.size a := by
  revert mp c; decide
theorem inbA (mp : Fin 2) (c : Fin 4) : ∀ a, (![mp.val, 0, 256 * c.val] : Fin 3 → ℕ) a + TA.size a ≤ SA.size a := by
  revert mp c; decide
theorem inbN (buf mp : Fin 2) (c : Fin 4) {nk : ℕ} (hn : nk ≤ 1024) :
    ∀ a, (![buf.val, mp.val, 0, 256 * c.val] : Fin 4 → ℕ) a + (⟨4, ![1, 1, nk, 256]⟩ : Shape).size a ≤ SS.size a := by
  have := buf.isLt; have := mp.isLt; have := c.isLt
  intro a
  match a with
  | ⟨0, _⟩ => show buf.val + 1 ≤ 2; omega
  | ⟨1, _⟩ => show mp.val + 1 ≤ 2; omega
  | ⟨2, _⟩ => show 0 + nk ≤ 1024; omega
  | ⟨3, _⟩ => show 256 * c.val + 256 ≤ 1024; omega
theorem posQ : 0 < TQ.numel := by decide
theorem posS : 0 < TS.numel := by decide
theorem posM : 0 < TM.numel := by decide
theorem posA : 0 < TA.numel := by decide

/-- Scores of the block of keys at `off` in tile `(buf, mp)`, with the keys already loaded. -/
def scoreTail (a3 : Memref sig .tc .vmem SQ .bf16) (a12 : Memref sig .tc .vmem SS .f32) (buf mp : Fin 2)
    (k : Vec F TQ .bf16) : Prog (TpuEff nD τ sig (Elt F) Λ .tc) PUnit := do
  let q : Vec F TQ .bf16 ← Prog.lift (.load a3 (Rect.unit (s := SQ) ![0, 0, 128 * mp.val] TQ.size (inbQ mp)).toLoadRect (View.loadsAt_vmem posQ))
  let _ ← Prog.lift (.load a12 (Rect.unit (s := SS) ![buf.val, mp.val, 0, 0] TS.size (inbS buf mp)).toLoadRect (View.loadsAt_vmem posS))
  Prog.lift (.store a12 (Rect.unit (s := SS) ![buf.val, mp.val, 0, 0] TS.size (inbS buf mp)) (payS k q) Finset.univ (View.stores_vmem_bits_univ posS rfl) (.inl rfl))

/-- Scores of the block of keys at `off` in tile `(buf, mp)`. -/
def scoreP (a3 : Memref sig .tc .vmem SQ .bf16) (a4 : Memref sig .tc .vmem SK .bf16) (a12 : Memref sig .tc .vmem SS .f32)
    (buf mp : Fin 2) (off : Fin 3 → ℕ) (inb : ∀ a, off a + TQ.size a ≤ SK.size a) : Prog (TpuEff nD τ sig (Elt F) Λ .tc) PUnit := do
  let k : Vec F TQ .bf16 ← Prog.lift (.load a4 (Rect.unit (s := SK) off TQ.size inb).toLoadRect (View.loadsAt_vmem posQ))
  scoreTail a3 a12 buf mp k

/-- One strip's update from tile `(buf, mp)` and the weighted block of values at `off`. -/
def stepP {nk : ℕ} (H : NkFacts nk) (hn : nk ≤ 1024) (sel : Vec F ⟨4, ![1, 1, nk, 256]⟩ .f32 → FVec F ⟨2, ![nk, 256]⟩ .f32)
    (a5 : Memref sig .tc .vmem SV .bf16) (a12 : Memref sig .tc .vmem SS .f32) (a13 : Memref sig .tc .vmem SA .f32)
    (a14 a15 : Memref sig .tc .vmem SM .f32) (buf mp : Fin 2) (c : Fin 4)
    (off : Fin 4 → ℕ) (inb : ∀ a, off a + (⟨4, ![1, 1, 128, nk]⟩ : Shape).size a ≤ SV.size a) :
    Prog (TpuEff nD τ sig (Elt F) Λ .tc) PUnit := do
  let s : Vec F ⟨4, ![1, 1, nk, 256]⟩ .f32 ← Prog.lift (.load a12 (Rect.unit (s := SS) ![buf.val, mp.val, 0, 256 * c.val] (⟨4, ![1, 1, nk, 256]⟩ : Shape).size (inbN buf mp c hn)).toLoadRect (View.loadsAt_vmem H.pos))
  let m : Vec F TM .f32 ← Prog.lift (.load a14 (Rect.unit (s := SM) ![mp.val, 0, 256 * c.val] TM.size (inbM mp c)).toLoadRect (View.loadsAt_vmem posM))
  let l : Vec F TM .f32 ← Prog.lift (.load a15 (Rect.unit (s := SM) ![mp.val, 0, 256 * c.val] TM.size (inbM mp c)).toLoadRect (View.loadsAt_vmem posM))
  let a : Vec F TA .f32 ← Prog.lift (.load a13 (Rect.unit (s := SA) ![mp.val, 0, 256 * c.val] TA.size (inbA mp c)).toLoadRect (View.loadsAt_vmem posA))
  let v : Vec F ⟨4, ![1, 1, 128, nk]⟩ .bf16 ← Prog.lift (.load a5 (Rect.unit (s := SV) off (⟨4, ![1, 1, 128, nk]⟩ : Shape).size inb).toLoadRect (View.loadsAt_vmem H.posV))
  let _ ← Prog.lift (.load a14 (Rect.unit (s := SM) ![mp.val, 0, 256 * c.val] TM.size (inbM mp c)).toLoadRect (View.loadsAt_vmem posM))
  Prog.lift (.store a14 (Rect.unit (s := SM) ![mp.val, 0, 256 * c.val] TM.size (inbM mp c)) (payM H (sel s) m) Finset.univ (View.stores_vmem_bits_univ posM rfl) (.inl rfl))
  let _ ← Prog.lift (.load a15 (Rect.unit (s := SM) ![mp.val, 0, 256 * c.val] TM.size (inbM mp c)).toLoadRect (View.loadsAt_vmem posM))
  Prog.lift (.store a15 (Rect.unit (s := SM) ![mp.val, 0, 256 * c.val] TM.size (inbM mp c)) (payL H (sel s) m l) Finset.univ (View.stores_vmem_bits_univ posM rfl) (.inl rfl))
  let _ ← Prog.lift (.load a13 (Rect.unit (s := SA) ![mp.val, 0, 256 * c.val] TA.size (inbA mp c)).toLoadRect (View.loadsAt_vmem posA))
  Prog.lift (.store a13 (Rect.unit (s := SA) ![mp.val, 0, 256 * c.val] TA.size (inbA mp c)) (payA H (sel s) m a v) Finset.univ (View.stores_vmem_bits_univ posA rfl) (.inl rfl))

/-- Every strip of both maps updated from the full tiles of buffer `buf`. -/
def consFull (a5 : Memref sig .tc .vmem SV .bf16) (a12 : Memref sig .tc .vmem SS .f32) (a13 : Memref sig .tc .vmem SA .f32)
    (a14 a15 : Memref sig .tc .vmem SM .f32) (buf : Fin 2)
    (off : Fin 4 → ℕ) (inb : ∀ a, off a + (⟨4, ![1, 1, 128, 1024]⟩ : Shape).size a ≤ SV.size a) :
    Prog (TpuEff nD τ sig (Elt F) Λ .tc) PUnit := do
  stepP nk1024 (le_refl _) (full nk1024) a5 a12 a13 a14 a15 buf 0 0 off inb
  stepP nk1024 (le_refl _) (full nk1024) a5 a12 a13 a14 a15 buf 0 1 off inb
  stepP nk1024 (le_refl _) (full nk1024) a5 a12 a13 a14 a15 buf 0 2 off inb
  stepP nk1024 (le_refl _) (full nk1024) a5 a12 a13 a14 a15 buf 0 3 off inb
  stepP nk1024 (le_refl _) (full nk1024) a5 a12 a13 a14 a15 buf 1 0 off inb
  stepP nk1024 (le_refl _) (full nk1024) a5 a12 a13 a14 a15 buf 1 1 off inb
  stepP nk1024 (le_refl _) (full nk1024) a5 a12 a13 a14 a15 buf 1 2 off inb
  stepP nk1024 (le_refl _) (full nk1024) a5 a12 a13 a14 a15 buf 1 3 off inb

theorem le256 : 256 ≤ 1024 := by decide
theorem le512 : 512 ≤ 1024 := by decide
theorem le768 : 768 ≤ 1024 := by decide

/-- Every strip of both maps updated from the diagonal tiles of buffer `buf`, each strip from the keys up to its end. -/
def consDiag (neg : F .f32) (a5 : Memref sig .tc .vmem SV .bf16) (a12 : Memref sig .tc .vmem SS .f32) (a13 : Memref sig .tc .vmem SA .f32)
    (a14 a15 : Memref sig .tc .vmem SM .f32) (buf : Fin 2)
    (o0 : Fin 4 → ℕ) (i0 : ∀ a, o0 a + (⟨4, ![1, 1, 128, 256]⟩ : Shape).size a ≤ SV.size a)
    (o1 : Fin 4 → ℕ) (i1 : ∀ a, o1 a + (⟨4, ![1, 1, 128, 512]⟩ : Shape).size a ≤ SV.size a)
    (o2 : Fin 4 → ℕ) (i2 : ∀ a, o2 a + (⟨4, ![1, 1, 128, 768]⟩ : Shape).size a ≤ SV.size a)
    (o3 : Fin 4 → ℕ) (i3 : ∀ a, o3 a + (⟨4, ![1, 1, 128, 1024]⟩ : Shape).size a ≤ SV.size a) :
    Prog (TpuEff nD τ sig (Elt F) Λ .tc) PUnit := do
  stepP nk256 le256 (diag nk256 neg 0#32) a5 a12 a13 a14 a15 buf 0 0 o0 i0
  stepP nk512 le512 (diag nk512 neg 256#32) a5 a12 a13 a14 a15 buf 0 1 o1 i1
  stepP nk768 le768 (diag nk768 neg 512#32) a5 a12 a13 a14 a15 buf 0 2 o2 i2
  stepP nk1024 (le_refl _) (diag nk1024 neg 768#32) a5 a12 a13 a14 a15 buf 0 3 o3 i3
  stepP nk256 le256 (diag nk256 neg 0#32) a5 a12 a13 a14 a15 buf 1 0 o0 i0
  stepP nk512 le512 (diag nk512 neg 256#32) a5 a12 a13 a14 a15 buf 1 1 o1 i1
  stepP nk768 le768 (diag nk768 neg 512#32) a5 a12 a13 a14 a15 buf 1 2 o2 i2
  stepP nk1024 (le_refl _) (diag nk1024 neg 768#32) a5 a12 a13 a14 a15 buf 1 3 o3 i3

theorem castMM : SM.ShapeCasts SM := by decide
theorem castAA : SA.ShapeCasts SA := by decide
theorem inbMM : ∀ a, (![0, 0, 0] : Fin 3 → ℕ) a + SM.size a ≤ SM.size a := by decide
theorem inbAA : ∀ a, (![0, 0, 0] : Fin 3 → ℕ) a + SA.size a ≤ SA.size a := by decide
theorem posMM : 0 < SM.numel := by decide
theorem posAA : 0 < SA.numel := by decide

/-- The running quantities reset. -/
def initP (neg : F .f32) (a13 : Memref sig .tc .vmem SA .f32) (a14 a15 : Memref sig .tc .vmem SM .f32) :
    Prog (TpuEff nD τ sig (Elt F) Λ .tc) PUnit := do
  let _ ← Prog.lift (.load a14 (Rect.unit (s := SM) ![0, 0, 0] SM.size inbMM).toLoadRect (View.loadsAt_vmem posMM))
  Prog.lift (.store a14 (Rect.unit (s := SM) ![0, 0, 0] SM.size inbMM) (shapeCast SM (broadcast SM neg : FVec F SM .f32) castMM : FVec F SM .f32) Finset.univ (View.stores_vmem_bits_univ posMM rfl) (.inl rfl))
  let _ ← Prog.lift (.load a15 (Rect.unit (s := SM) ![0, 0, 0] SM.size inbMM).toLoadRect (View.loadsAt_vmem posMM))
  Prog.lift (.store a15 (Rect.unit (s := SM) ![0, 0, 0] SM.size inbMM) (shapeCast SM (broadcast SM (Scalar.ofBits .f32 0x00000000#32) : FVec F SM .f32) castMM : FVec F SM .f32) Finset.univ (View.stores_vmem_bits_univ posMM rfl) (.inl rfl))
  let _ ← Prog.lift (.load a13 (Rect.unit (s := SA) ![0, 0, 0] SA.size inbAA).toLoadRect (View.loadsAt_vmem posAA))
  Prog.lift (.store a13 (Rect.unit (s := SA) ![0, 0, 0] SA.size inbAA) (shapeCast SA (broadcast SA (Scalar.ofBits .f32 0x00000000#32) : FVec F SA .f32) castAA : FVec F SA .f32) Finset.univ (View.stores_vmem_bits_univ posAA rfl) (.inl rfl))

end Progs

end Cert.Da

end
-- ==== Proof.Triples.lean ====
module

public import proofs.«01_k».proof.Proof.Steps

/-! # What the differential attention's steps do to the scratch

The scratch is held strip by strip (`St`): a tile of scores per buffer and map, and per map and strip of 256
queries the running maximum, sum and weighted sum.  Every step of `Proof.Steps` takes the scratch at one `St`
to the scratch at another (`Does`). -/

@[expose] public section
set_option maxRecDepth 16384

noncomputable section

namespace Cert.Da

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The scratch, strip by strip -/

section State
variable {F : FTy → Type}

/-- The scratch: scores by buffer and map, and the running quantities by map and strip. -/
@[ext] structure St (F : FTy → Type) where
  s : Fin 2 → Fin 2 → Vec F TS .f32
  a : Fin 2 → Fin 4 → Vec F TA .f32
  m : Fin 2 → Fin 4 → Vec F TM .f32
  l : Fin 2 → Fin 4 → Vec F TM .f32

/-- One entry of a two-index family replaced. -/
def upd2 {A B : Type} [DecidableEq A] [DecidableEq B] {X : Type} (f : A → B → X) (i : A) (j : B) (w : X) : A → B → X :=
  fun a b => if a = i ∧ b = j then w else f a b

theorem upd2_same {A B : Type} [DecidableEq A] [DecidableEq B] {X : Type} (f : A → B → X) (i : A) (j : B) (w : X) :
    upd2 f i j w i j = w := if_pos ⟨rfl, rfl⟩

theorem upd2_ne {A B : Type} [DecidableEq A] [DecidableEq B] {X : Type} (f : A → B → X) (i : A) (j : B) (w : X) (a : A) (b : B)
    (h : ¬ (a = i ∧ b = j)) : upd2 f i j w a b = f a b := if_neg h

/-- The strip a position of a row of 1024 lies in, and its place there. -/
def hi (n : Fin 1024) : Fin 4 := ⟨n.val / 256, by omega⟩
def lo (n : Fin 1024) : Fin 256 := ⟨n.val % 256, by omega⟩

/-- The scores' buffer from its tiles. -/
def glueS (t : Fin 2 → Fin 2 → Vec F TS .f32) : Vec F SS .f32 :=
  fun y => t (y 0) (y 1) (ix4 (0 : Fin 1) (0 : Fin 1) (y 2 : Fin 1024) (y 3 : Fin 1024))
/-- The weighted sums' buffer from its strips. -/
def glueA (t : Fin 2 → Fin 4 → Vec F TA .f32) : Vec F SA .f32 :=
  fun y => t (y 0) (hi (y 2)) (ix3 (0 : Fin 1) (y 1 : Fin 128) (lo (y 2)))
/-- The maxima's and the sums' buffers from their strips. -/
def glueM (t : Fin 2 → Fin 4 → Vec F TM .f32) : Vec F SM .f32 :=
  fun y => t (y 0) (hi (y 2)) (ix3 (0 : Fin 1) (0 : Fin 1) (lo (y 2)))

/-- Any contents of the scores' buffer are the glue of its tiles. -/
theorem glueS_split (X : Vec F SS .f32) :
    glueS (fun b p x => X (ix4 b p (x 2 : Fin 1024) (x 3 : Fin 1024))) = X := by
  funext y; exact congrArg X (ix4_eta y)

/-- A strip of a tile: `nk` keys by the 256 queries of strip `c`. -/
def strip {nk : ℕ} (hn : nk ≤ 1024) (c : Fin 4) (t : Vec F TS .f32) : Vec F ⟨4, ![1, 1, nk, 256]⟩ .f32 :=
  fun x => t (ix4 (0 : Fin 1) (0 : Fin 1) ⟨(x 2).val, lt_of_lt_of_le (x 2).isLt hn⟩
    ⟨256 * c.val + (x 3).val, by have : (x 3).val < 256 := (x 3).isLt; omega⟩)

/-- The block of keys `b` for map `mp`. -/
def kblk (K : Vec F SK .bf16) (b : Fin 4) (mp : Fin 2) : Vec F TQ .bf16 :=
  fun x => K (ix3 (0 : Fin 1) ⟨1024 * b.val + (x 1).val, by have : (x 1).val < 1024 := (x 1).isLt; omega⟩
    ⟨128 * mp.val + (x 2).val, by have : (x 2).val < 128 := (x 2).isLt; omega⟩)
/-- The queries for map `mp`. -/
def qblk (Q : Vec F SQ .bf16) (mp : Fin 2) : Vec F TQ .bf16 :=
  fun x => Q (ix3 (0 : Fin 1) (x 1 : Fin 1024)
    ⟨128 * mp.val + (x 2).val, by have : (x 2).val < 128 := (x 2).isLt; omega⟩)
/-- The first `nk` values of block `b`. -/
def vblk (V : Vec F SV .bf16) {nk : ℕ} (hn : nk ≤ 1024) (b : Fin 4) : Vec F ⟨4, ![1, 1, 128, nk]⟩ .bf16 :=
  fun x => V (ix4 (0 : Fin 1) b (x 2 : Fin 128) ⟨(x 3).val, lt_of_lt_of_le (x 3).isLt hn⟩)

end State

/-! ## Reading and storing through a whole memref -/

section Mem
variable {sig : RefSig} {Val : EltTy → Type} {κ : Kind} {sp : Space} {s : Shape} {e : EltTy} {m : Memref sig κ sp s e}

/-- A load's rectangle of contents that read `X`. -/
theorem read_own (h : m.IsWhole) (X : s.Idx → Val e) (r : Rect s) :
    (m.access r).read Val (h.unread X) = fun x => X (r.emb x) := by
  funext x
  exact congrFun (h.read_unread X) (r.emb x)

/-- A store over contents that read `X` leaves contents that read `X'`. -/
theorem write_own (h : m.IsWhole) (r : Rect s) (w : r.shape.Idx → Val e) (X X' : s.Idx → Val e)
    (h1 : ∀ x, X' (r.emb x) = w x) (h2 : ∀ y, y ∉ r.set → X' y = X y) :
    (m.access r).write Val (h.unread X) w Finset.univ = h.unread X' := by
  apply h.eq_unread
  funext y
  by_cases hy : y ∈ r.set
  · rw [← Rect.map_emb_univ] at hy
    obtain ⟨x, -, rfl⟩ := Finset.mem_map.1 hy
    exact (View.read_slice_write_emb (v := m.view) r _ w (Finset.mem_univ x)).trans (h1 x).symm
  · refine (View.read_slice_write_of_not_mem (v := m.view) r _ w _ (by rwa [Rect.map_emb_univ])).trans ?_
    rw [h.read_unread]; exact (h2 y hy).symm

theorem access_sub (r : Rect s) : (m.access r).set ⊆ m.view.set := View.set_slice_subset m.view r

end Mem

section Wp
variable {F : FTy → Type} [FloatOps F] {nD : ℕ} {τ : Topo} {sig : RefSig} {Λ : Labels}

local notation "𝕄" => MT nD τ sig Unit (Elt F) ℕ (UR sig nD τ) ℕ

variable {defs : Defs nD τ sig (Elt F) Λ} {E : Set ℕ} {c : Dev nD}

/-- The whole of a memref at contents that read `X`. -/
def Own (c : Dev nD) {sp : Space} {s : Shape} {e : EltTy} (m : Memref sig .tc sp s e) (h : m.IsWhole) (X : s.Idx → Elt F e) : sProp 𝕄 :=
  iprop(m.view.loc (c : Thread nD τ) ↦[m.view.set]{fullShare} h.unread X)

theorem wp_ld {cs : CoreSpace} {s : Shape} {e : EltTy} {m : Memref sig .tc cs s e} (h : m.IsWhole) (X : s.Idx → Elt F e) {r : Rect s}
    {hl : m.view.LoadsAt r} {Q : (r.shape.Idx → Elt F e) → sProp 𝕄} :
    Own (τ := τ) c m h X ⊢ iprop((Own (τ := τ) c m h X -∗ Q (fun x => X (r.emb x)))
      -∗ wp frame (wpE defs Variants.none (c : Thread nD τ) none) E (Prog.lift (.load m r hl)) Q) := by
  have : Own (τ := τ) c m h X ⊢ iprop((Own (τ := τ) c m h X -∗ wp frame (wpE defs Variants.none (c : Thread nD τ) none) E
      (.ret ((m.access r).read (Elt F) (h.unread X))) Q)
      -∗ wp frame (wpE defs Variants.none (c : Thread nD τ) none) E (.op (.load m r hl) .ret) Q) :=
    wp_load_rect Variants.none (c : Thread nD τ) none E (Q := Q) (hl := hl) (k := .ret) (S := m.view.set) (q := fullShare)
      (f := h.unread X) (access_sub r)
  rw [read_own h X r] at this
  exact this.trans (wand_mono_left (wand_mono_right fupd_intro))

theorem wp_st {cs : CoreSpace} {s : Shape} {e : EltTy} {m : Memref sig .tc cs s e} (h : m.IsWhole) (X X' : s.Idx → Elt F e) {r : Rect s}
    {w : r.shape.Idx → Elt F e} {hx : (m.access r).Stores Finset.univ} {hm : Finset.univ = Finset.univ ∨ ∀ a, r.stride a = 1}
    {Q : PUnit → sProp 𝕄} (h1 : ∀ x, X' (r.emb x) = w x) (h2 : ∀ y, y ∉ r.set → X' y = X y) :
    Own (τ := τ) c m h X ⊢ iprop((Own (τ := τ) c m h X' -∗ Q ⟨⟩)
      -∗ wp frame (wpE defs Variants.none (c : Thread nD τ) none) E (Prog.lift (.store m r w Finset.univ hx hm)) Q) := by
  have : Own (τ := τ) c m h X ⊢ iprop(((m.view.loc (c : Thread nD τ) ↦[m.view.set]{fullShare} (m.access r).write (Elt F) (h.unread X) w Finset.univ)
        -∗ wp frame (wpE defs Variants.none (c : Thread nD τ) none) E (.ret ⟨⟩) Q)
      -∗ wp frame (wpE defs Variants.none (c : Thread nD τ) none) E (.op (.store m r w Finset.univ hx hm) .ret) Q) :=
    wp_store Variants.none (c : Thread nD τ) none E (Q := Q) (w := w) (hx := hx) (hm := hm) (k := .ret) (Mk := Finset.univ)
      (S := m.view.set) (f := h.unread X) (access_sub r)
  rw [write_own h r w X X' h1 h2] at this
  exact this.trans (wand_mono_left (wand_mono_right fupd_intro))

/-! ## The placements -/

theorem glueS_at (t : Fin 2 → Fin 2 → Vec F TS .f32) (buf mp : Fin 2) (c : Fin 4) {nk : ℕ} (hn : nk ≤ 1024) :
    (fun x => glueS t ((Rect.unit (s := SS) ![buf.val, mp.val, 0, 256 * c.val] (⟨4, ![1, 1, nk, 256]⟩ : Shape).size (inbN buf mp c hn)).emb x))
      = strip hn c (t buf mp) := by
  funext x
  have h0 : (x 0).val = 0 := by have : (x 0).val < 1 := (x 0).isLt; omega
  have h1 : (x 1).val = 0 := by have : (x 1).val < 1 := (x 1).isLt; omega
  unfold glueS strip
  have e0 : ((Rect.unit (s := SS) ![buf.val, mp.val, 0, 256 * c.val] (⟨4, ![1, 1, nk, 256]⟩ : Shape).size (inbN buf mp c hn)).emb x 0 : Fin 2) = buf :=
    Fin.ext (show buf.val + 1 * (x 0).val = buf.val by omega)
  have e1 : ((Rect.unit (s := SS) ![buf.val, mp.val, 0, 256 * c.val] (⟨4, ![1, 1, nk, 256]⟩ : Shape).size (inbN buf mp c hn)).emb x 1 : Fin 2) = mp :=
    Fin.ext (show mp.val + 1 * (x 1).val = mp.val by omega)
  rw [e0, e1]
  congr 1
  refine (ix4_inj _ _ _ _ _ _ _ _).2 ⟨rfl, rfl, Fin.ext ?_, Fin.ext ?_⟩
  · show 0 + 1 * (x 2).val = (x 2).val; omega
  · show 256 * c.val + 1 * (x 3).val = 256 * c.val + (x 3).val; omega

theorem hi_at (c : Fin 4) (j : ℕ) (hj : j < 256) (n : Fin 1024) (h : n.val = 256 * c.val + j) : hi n = c ∧ lo n = ⟨j, hj⟩ :=
  ⟨Fin.ext (by show n.val / 256 = c.val; omega), Fin.ext (by show n.val % 256 = j; omega)⟩

theorem glueM_at (t : Fin 2 → Fin 4 → Vec F TM .f32) (mp : Fin 2) (c : Fin 4) (x : TM.Idx) :
    glueM t ((Rect.unit (s := SM) ![mp.val, 0, 256 * c.val] TM.size (inbM mp c)).emb x) = t mp c x := by
  have h0 : (x 0).val = 0 := by have : (x 0).val < 1 := (x 0).isLt; omega
  have h1 : (x 1).val = 0 := by have : (x 1).val < 1 := (x 1).isLt; omega
  have h2 : (x 2).val < 256 := (x 2).isLt
  have e0 : ((Rect.unit (s := SM) ![mp.val, 0, 256 * c.val] TM.size (inbM mp c)).emb x 0 : Fin 2) = mp :=
    Fin.ext (show mp.val + 1 * (x 0).val = mp.val by omega)
  obtain ⟨e2, e3⟩ := hi_at c (x 2).val h2 ((Rect.unit (s := SM) ![mp.val, 0, 256 * c.val] TM.size (inbM mp c)).emb x 2)
    (show 256 * c.val + 1 * (x 2).val = 256 * c.val + (x 2).val by omega)
  unfold glueM
  rw [e0, e2, e3]
  congr 1
  refine Eq.trans ?_ (ix3_eta x)
  exact (ix3_inj _ _ _ _ _ _).2 ⟨Fin.ext h0.symm, Fin.ext h1.symm, rfl⟩

theorem glueA_at (t : Fin 2 → Fin 4 → Vec F TA .f32) (mp : Fin 2) (c : Fin 4) (x : TA.Idx) :
    glueA t ((Rect.unit (s := SA) ![mp.val, 0, 256 * c.val] TA.size (inbA mp c)).emb x) = t mp c x := by
  have h0 : (x 0).val = 0 := by have : (x 0).val < 1 := (x 0).isLt; omega
  have h2 : (x 2).val < 256 := (x 2).isLt
  have e0 : ((Rect.unit (s := SA) ![mp.val, 0, 256 * c.val] TA.size (inbA mp c)).emb x 0 : Fin 2) = mp :=
    Fin.ext (show mp.val + 1 * (x 0).val = mp.val by omega)
  have e1 : ((Rect.unit (s := SA) ![mp.val, 0, 256 * c.val] TA.size (inbA mp c)).emb x 1 : Fin 128) = x 1 :=
    Fin.ext (show 0 + 1 * (x 1).val = (x 1).val by omega)
  obtain ⟨e2, e3⟩ := hi_at c (x 2).val h2 ((Rect.unit (s := SA) ![mp.val, 0, 256 * c.val] TA.size (inbA mp c)).emb x 2)
    (show 256 * c.val + 1 * (x 2).val = 256 * c.val + (x 2).val by omega)
  unfold glueA
  rw [e0, e1, e2, e3]
  congr 1
  refine Eq.trans ?_ (ix3_eta x)
  exact (ix3_inj _ _ _ _ _ _).2 ⟨Fin.ext h0.symm, rfl, rfl⟩

theorem glueM_row (t : Fin 2 → Fin 4 → Vec F TM .f32) (mp : Fin 2) (c : Fin 4) :
    (fun x => glueM t ((Rect.unit (s := SM) ![mp.val, 0, 256 * c.val] TM.size (inbM mp c)).emb x)) = t mp c := funext (glueM_at t mp c)
theorem glueA_row (t : Fin 2 → Fin 4 → Vec F TA .f32) (mp : Fin 2) (c : Fin 4) :
    (fun x => glueA t ((Rect.unit (s := SA) ![mp.val, 0, 256 * c.val] TA.size (inbA mp c)).emb x)) = t mp c := funext (glueA_at t mp c)

theorem glueS_at' (t : Fin 2 → Fin 2 → Vec F TS .f32) (buf mp : Fin 2) (x : TS.Idx) :
    glueS t ((Rect.unit (s := SS) ![buf.val, mp.val, 0, 0] TS.size (inbS buf mp)).emb x) = t buf mp x := by
  have h0 : (x 0).val = 0 := by have : (x 0).val < 1 := (x 0).isLt; omega
  have h1 : (x 1).val = 0 := by have : (x 1).val < 1 := (x 1).isLt; omega
  unfold glueS
  have e0 : ((Rect.unit (s := SS) ![buf.val, mp.val, 0, 0] TS.size (inbS buf mp)).emb x 0 : Fin 2) = buf :=
    Fin.ext (show buf.val + 1 * (x 0).val = buf.val by omega)
  have e1 : ((Rect.unit (s := SS) ![buf.val, mp.val, 0, 0] TS.size (inbS buf mp)).emb x 1 : Fin 2) = mp :=
    Fin.ext (show mp.val + 1 * (x 1).val = mp.val by omega)
  rw [e0, e1]
  congr 1
  refine Eq.trans ?_ (ix4_eta x)
  refine (ix4_inj _ _ _ _ _ _ _ _).2 ⟨Fin.ext h0.symm, Fin.ext h1.symm, Fin.ext ?_, Fin.ext ?_⟩
  · show 0 + 1 * (x 2).val = (x 2).val; omega
  · show 0 + 1 * (x 3).val = (x 3).val; omega

theorem glueM_upd (t : Fin 2 → Fin 4 → Vec F TM .f32) (mp : Fin 2) (c : Fin 4) (w : Vec F TM .f32) (y : SM.Idx)
    (hy : y ∉ (Rect.unit (s := SM) ![mp.val, 0, 256 * c.val] TM.size (inbM mp c)).set) : glueM (upd2 t mp c w) y = glueM t y := by
  have : ¬ ((y 0 : Fin 2) = mp ∧ hi (y 2) = c) := by
    rintro ⟨rfl, rfl⟩
    refine hy (Rect.mem_set_unit.2 fun a => ?_)
    have h2 : (y 2).val < 1024 := (y 2).isLt
    have h1 : (y 1).val < 1 := (y 1).isLt
    match a with
    | ⟨0, _⟩ => exact ⟨le_refl _, Nat.lt_succ_self _⟩
    | ⟨1, _⟩ => exact ⟨Nat.zero_le _, by show (y 1).val < 0 + 1; omega⟩
    | ⟨2, _⟩ => exact ⟨by show 256 * ((y 2).val / 256) ≤ (y 2).val; omega, by show (y 2).val < 256 * ((y 2).val / 256) + 256; omega⟩
  exact congrFun (upd2_ne t _ _ w _ _ this) _

theorem glueA_upd (t : Fin 2 → Fin 4 → Vec F TA .f32) (mp : Fin 2) (c : Fin 4) (w : Vec F TA .f32) (y : SA.Idx)
    (hy : y ∉ (Rect.unit (s := SA) ![mp.val, 0, 256 * c.val] TA.size (inbA mp c)).set) : glueA (upd2 t mp c w) y = glueA t y := by
  have : ¬ ((y 0 : Fin 2) = mp ∧ hi (y 2) = c) := by
    rintro ⟨rfl, rfl⟩
    refine hy (Rect.mem_set_unit.2 fun a => ?_)
    have h2 : (y 2).val < 1024 := (y 2).isLt
    have h1 : (y 1).val < 128 := (y 1).isLt
    match a with
    | ⟨0, _⟩ => exact ⟨le_refl _, Nat.lt_succ_self _⟩
    | ⟨1, _⟩ => exact ⟨Nat.zero_le _, by show (y 1).val < 0 + 128; omega⟩
    | ⟨2, _⟩ => exact ⟨by show 256 * ((y 2).val / 256) ≤ (y 2).val; omega, by show (y 2).val < 256 * ((y 2).val / 256) + 256; omega⟩
  exact congrFun (upd2_ne t _ _ w _ _ this) _

theorem glueS_upd (t : Fin 2 → Fin 2 → Vec F TS .f32) (buf mp : Fin 2) (w : Vec F TS .f32) (y : SS.Idx)
    (hy : y ∉ (Rect.unit (s := SS) ![buf.val, mp.val, 0, 0] TS.size (inbS buf mp)).set) : glueS (upd2 t buf mp w) y = glueS t y := by
  have : ¬ ((y 0 : Fin 2) = buf ∧ (y 1 : Fin 2) = mp) := by
    rintro ⟨rfl, rfl⟩
    refine hy (Rect.mem_set_unit.2 fun a => ?_)
    have h2 : (y 2).val < 1024 := (y 2).isLt
    have h3 : (y 3).val < 1024 := (y 3).isLt
    match a with
    | ⟨0, _⟩ => exact ⟨le_refl _, Nat.lt_succ_self _⟩
    | ⟨1, _⟩ => exact ⟨le_refl _, Nat.lt_succ_self _⟩
    | ⟨2, _⟩ => exact ⟨Nat.zero_le _, by show (y 2).val < 0 + 1024; omega⟩
    | ⟨3, _⟩ => exact ⟨Nat.zero_le _, by show (y 3).val < 0 + 1024; omega⟩
  exact congrFun (upd2_ne t _ _ w _ _ this) _

theorem q_at (Q : Vec F SQ .bf16) (mp : Fin 2) :
    (fun x => Q ((Rect.unit (s := SQ) ![0, 0, 128 * mp.val] TQ.size (inbQ mp)).emb x)) = qblk Q mp := by
  funext x
  have h0 : (x 0).val = 0 := by have : (x 0).val < 1 := (x 0).isLt; omega
  unfold qblk
  congr 1
  refine (ix3_eta _).symm.trans ((ix3_inj _ _ _ _ _ _).2 ⟨Fin.ext ?_, Fin.ext ?_, Fin.ext ?_⟩)
  · show 0 + 1 * (x 0).val = 0; omega
  · show 0 + 1 * (x 1).val = (x 1).val; omega
  · show 128 * mp.val + 1 * (x 2).val = 128 * mp.val + (x 2).val; omega

theorem k_at (K : Vec F SK .bf16) (b : Fin 4) (mp : Fin 2) (inb) :
    (fun x => K ((Rect.unit (s := SK) ![0, 1024 * b.val, 128 * mp.val] TQ.size inb).emb x)) = kblk K b mp := by
  funext x
  have h0 : (x 0).val = 0 := by have : (x 0).val < 1 := (x 0).isLt; omega
  unfold kblk
  congr 1
  refine (ix3_eta _).symm.trans ((ix3_inj _ _ _ _ _ _).2 ⟨Fin.ext ?_, Fin.ext ?_, Fin.ext ?_⟩)
  · show 0 + 1 * (x 0).val = 0; omega
  · show 1024 * b.val + 1 * (x 1).val = 1024 * b.val + (x 1).val; omega
  · show 128 * mp.val + 1 * (x 2).val = 128 * mp.val + (x 2).val; omega

theorem v_at (V : Vec F SV .bf16) {nk : ℕ} (hn : nk ≤ 1024) (b : Fin 4) (inb) :
    (fun x => V ((Rect.unit (s := SV) ![0, b.val, 0, 0] (⟨4, ![1, 1, 128, nk]⟩ : Shape).size inb).emb x)) = vblk V hn b := by
  funext x
  have h0 : (x 0).val = 0 := by have : (x 0).val < 1 := (x 0).isLt; omega
  have h1 : (x 1).val = 0 := by have : (x 1).val < 1 := (x 1).isLt; omega
  unfold vblk
  congr 1
  refine (ix4_eta _).symm.trans ((ix4_inj _ _ _ _ _ _ _ _).2 ⟨Fin.ext ?_, Fin.ext ?_, Fin.ext ?_, Fin.ext ?_⟩)
  · show 0 + 1 * (x 0).val = 0; omega
  · show b.val + 1 * (x 1).val = b.val; omega
  · show 0 + 1 * (x 2).val = (x 2).val; omega
  · show 0 + 1 * (x 3).val = (x 3).val; omega

/-! ## What a step does -/

section Does
variable {a3 : Memref sig .tc .vmem SQ .bf16} {a4 : Memref sig .tc .vmem SK .bf16} {a5 : Memref sig .tc .vmem SV .bf16}
  {a12 : Memref sig .tc .vmem SS .f32} {a13 : Memref sig .tc .vmem SA .f32} {a14 a15 : Memref sig .tc .vmem SM .f32}
  (h3 : a3.IsWhole) (h4 : a4.IsWhole) (h5 : a5.IsWhole) (h12 : a12.IsWhole) (h13 : a13.IsWhole) (h14 : a14.IsWhole) (h15 : a15.IsWhole)
  (Q : Vec F SQ .bf16) (K : Vec F SK .bf16) (V : Vec F SV .bf16)

/-- The three blocks the steps read and the scratch at `σ`. -/
def Res (c : Dev nD) (σ : St F) : sProp 𝕄 :=
  iprop(Own (τ := τ) c a3 h3 Q ∗ Own (τ := τ) c a4 h4 K ∗ Own (τ := τ) c a5 h5 V ∗ Own (τ := τ) c a12 h12 (glueS σ.s)
    ∗ Own (τ := τ) c a13 h13 (glueA σ.a) ∗ Own (τ := τ) c a14 h14 (glueM σ.m) ∗ Own (τ := τ) c a15 h15 (glueM σ.l))

/-- `p` takes the scratch from any `σ` to `f σ`. -/
def Does (defs : Defs nD τ sig (Elt F) Λ) (E : Set ℕ) (c : Dev nD) {α : Type} (p : Prog (TpuEff nD τ sig (Elt F) Λ .tc) α) (f : St F → St F) : Prop :=
  ∀ σ, Res (τ := τ) h3 h4 h5 h12 h13 h14 h15 Q K V c σ
    ⊢ wp frame (wpE defs Variants.none (c : Thread nD τ) none) E p (fun _ => Res (τ := τ) h3 h4 h5 h12 h13 h14 h15 Q K V c (f σ))

variable {Q K V}
variable {h3 h4 h5 h12 h13 h14 h15}

theorem Does.bind {α β : Type} {p : Prog (TpuEff nD τ sig (Elt F) Λ .tc) α} {k : α → Prog (TpuEff nD τ sig (Elt F) Λ .tc) β} {f g : St F → St F}
    (hp : Does h3 h4 h5 h12 h13 h14 h15 Q K V defs E c p f) (hk : ∀ x, Does h3 h4 h5 h12 h13 h14 h15 Q K V defs E c (k x) g) :
    Does h3 h4 h5 h12 h13 h14 h15 Q K V defs E c (p >>= k) (fun σ => g (f σ)) := fun σ => by
  rw [wp_bind]
  exact (hp σ).trans (wp_mono _ _ _ fun x => hk x (f σ))

theorem Does.pure {α : Type} (x : α) : Does h3 h4 h5 h12 h13 h14 h15 Q K V defs E c (Pure.pure x) id := fun σ => by
  rw [wp_pure]; exact fupd_intro

/-- Scores with the keys already loaded. -/
theorem does_scoreTail (buf mp : Fin 2) (k : Vec F TQ .bf16) :
    Does h3 h4 h5 h12 h13 h14 h15 Q K V defs E c (scoreTail a3 a12 buf mp k)
      (fun σ => { σ with s := upd2 σ.s buf mp (payS k (qblk Q mp)) }) := fun σ => by
  unfold scoreTail Res
  simp only [wp_bind]
  iintro ⟨H3, H4, H5, H12, H13, H14, H15⟩
  iapply (wp_ld h3 Q) $$ H3
  iintro H3
  rw [q_at]
  iapply (wp_ld h12 _) $$ H12
  iintro H12
  iapply (wp_st h12 _ (glueS (upd2 σ.s buf mp (payS k (qblk Q mp)))) (fun x => by rw [glueS_at', upd2_same]) (fun y hy => glueS_upd _ _ _ _ y hy)) $$ H12
  iintro H12
  isplitl [H3]; · iexact H3
  isplitl [H4]; · iexact H4
  isplitl [H5]; · iexact H5
  isplitl [H12]; · iexact H12
  isplitl [H13]; · iexact H13
  isplitl [H14]; · iexact H14
  iexact H15

/-- Scores of block `b`. -/
theorem does_scoreP (buf mp : Fin 2) (b : Fin 4) (off : Fin 3 → ℕ) (inb) (hoff : off = ![0, 1024 * b.val, 128 * mp.val]) :
    Does h3 h4 h5 h12 h13 h14 h15 Q K V defs E c (scoreP a3 a4 a12 buf mp off inb)
      (fun σ => { σ with s := upd2 σ.s buf mp (payS (kblk K b mp) (qblk Q mp)) }) := fun σ => by
  subst hoff
  unfold scoreP
  rw [wp_bind]
  unfold Res
  iintro ⟨H3, H4, H5, H12, H13, H14, H15⟩
  iapply (wp_ld h4 K) $$ H4
  iintro H4
  rw [k_at]
  iapply (does_scoreTail (h3 := h3) (h4 := h4) (h5 := h5) (h12 := h12) (h13 := h13) (h14 := h14) (h15 := h15) (Q := Q) (K := K) (V := V)
    (defs := defs) (E := E) (c := c) buf mp (kblk K b mp) σ)
  unfold Res
  isplitl [H3]; · iexact H3
  isplitl [H4]; · iexact H4
  isplitl [H5]; · iexact H5
  isplitl [H12]; · iexact H12
  isplitl [H13]; · iexact H13
  isplitl [H14]; · iexact H14
  iexact H15

/-- What one strip's update is of a tile of scores and the old quantities. -/
structure Upd (F : FTy → Type) where
  m : Vec F TS .f32 → Vec F TM .f32 → Vec F TM .f32
  l : Vec F TS .f32 → Vec F TM .f32 → Vec F TM .f32 → Vec F TM .f32
  a : Vec F TS .f32 → Vec F TM .f32 → Vec F TA .f32 → Vec F TA .f32

/-- The update of strip `c` from `nk` keys of a tile and the values `v` of them. -/
def updOf {nk : ℕ} (H : NkFacts nk) (hn : nk ≤ 1024) (sel : Vec F ⟨4, ![1, 1, nk, 256]⟩ .f32 → FVec F ⟨2, ![nk, 256]⟩ .f32)
    (c : Fin 4) (v : Vec F ⟨4, ![1, 1, 128, nk]⟩ .bf16) : Upd F where
  m t m := payM H (sel (strip hn c t)) m
  l t m l := payL H (sel (strip hn c t)) m l
  a t m a := payA H (sel (strip hn c t)) m a v

/-- One strip of one map updated from buffer `buf`. -/
def stepF (u : Upd F) (buf mp : Fin 2) (c : Fin 4) (σ : St F) : St F where
  s := σ.s
  m := upd2 σ.m mp c (u.m (σ.s buf mp) (σ.m mp c))
  l := upd2 σ.l mp c (u.l (σ.s buf mp) (σ.m mp c) (σ.l mp c))
  a := upd2 σ.a mp c (u.a (σ.s buf mp) (σ.m mp c) (σ.a mp c))

/-- One strip's update does `stepF`. -/
theorem does_stepP {nk : ℕ} (H : NkFacts nk) (hn : nk ≤ 1024) (sel : Vec F ⟨4, ![1, 1, nk, 256]⟩ .f32 → FVec F ⟨2, ![nk, 256]⟩ .f32)
    (buf mp : Fin 2) (cc : Fin 4) (b : Fin 4) (off : Fin 4 → ℕ) (inb) (hoff : off = ![0, b.val, 0, 0]) :
    Does h3 h4 h5 h12 h13 h14 h15 Q K V defs E c (stepP H hn sel a5 a12 a13 a14 a15 buf mp cc off inb)
      (stepF (updOf H hn sel cc (vblk V hn b)) buf mp cc) := fun σ => by
  subst hoff
  unfold stepP Res
  simp only [wp_bind]
  iintro ⟨H3, H4, H5, H12, H13, H14, H15⟩
  iapply (wp_ld h12 _) $$ H12
  iintro H12
  rw [glueS_at _ _ _ _ hn]
  iapply (wp_ld h14 _) $$ H14
  iintro H14
  rw [glueM_row]
  iapply (wp_ld h15 _) $$ H15
  iintro H15
  rw [glueM_row]
  iapply (wp_ld h13 _) $$ H13
  iintro H13
  rw [glueA_row]
  iapply (wp_ld h5 V) $$ H5
  iintro H5
  rw [v_at _ hn]
  iapply (wp_ld h14 _) $$ H14
  iintro H14
  iapply (wp_st h14 _ (glueM (stepF (updOf H hn sel cc (vblk V hn b)) buf mp cc σ).m)
    (fun x => (glueM_at _ mp cc x).trans (congrFun (upd2_same σ.m mp cc _) x)) (fun y hy => glueM_upd _ _ _ _ y hy)) $$ H14
  iintro H14
  iapply (wp_ld h15 _) $$ H15
  iintro H15
  iapply (wp_st h15 _ (glueM (stepF (updOf H hn sel cc (vblk V hn b)) buf mp cc σ).l)
    (fun x => (glueM_at _ mp cc x).trans (congrFun (upd2_same σ.l mp cc _) x)) (fun y hy => glueM_upd _ _ _ _ y hy)) $$ H15
  iintro H15
  iapply (wp_ld h13 _) $$ H13
  iintro H13
  iapply (wp_st h13 _ (glueA (stepF (updOf H hn sel cc (vblk V hn b)) buf mp cc σ).a)
    (fun x => (glueA_at _ mp cc x).trans (congrFun (upd2_same σ.a mp cc _) x)) (fun y hy => glueA_upd _ _ _ _ y hy)) $$ H13
  iintro H13
  isplitl [H3]; · iexact H3
  isplitl [H4]; · iexact H4
  isplitl [H5]; · iexact H5
  isplitl [H12]; · iexact H12
  isplitl [H13]; · iexact H13
  isplitl [H14]; · iexact H14
  iexact H15

end Does
end Wp
end Cert.Da
end
-- ==== Proof.Blocks.lean ====
module

public import proofs.«01_k».proof.Proof.Triples

/-! # What a block of keys, the loop and the whole body do to the scratch

A block of keys updates every strip of both maps at once (`consF`).  After the blocks a query tile reads, strip
`c` of map `mp` is `colAt`: the updates of the full blocks in turn, then the diagonal's. -/

@[expose] public section
set_option maxRecDepth 16384

noncomputable section

namespace Cert.Da

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section Fold
variable {F : FTy → Type} [FloatOps F]

/-- Every strip of both maps updated at once from buffer `buf`. -/
def consF (u : Fin 4 → Upd F) (buf : Fin 2) (σ : St F) : St F where
  s := σ.s
  a mp c := (u c).a (σ.s buf mp) (σ.m mp c) (σ.a mp c)
  m mp c := (u c).m (σ.s buf mp) (σ.m mp c)
  l mp c := (u c).l (σ.s buf mp) (σ.m mp c) (σ.l mp c)

/-- The eight strips in turn are all of them at once. -/
theorem consF_steps (u : Fin 4 → Upd F) (buf : Fin 2) (σ : St F) :
    stepF (u 3) buf 1 3 (stepF (u 2) buf 1 2 (stepF (u 1) buf 1 1 (stepF (u 0) buf 1 0
      (stepF (u 3) buf 0 3 (stepF (u 2) buf 0 2 (stepF (u 1) buf 0 1 (stepF (u 0) buf 0 0 σ))))))) = consF u buf σ := by
  refine St.ext rfl ?_ ?_ ?_ <;> (funext mp c; fin_cases mp <;> fin_cases c <;> rfl)

/-- A tile of scores: block `b` of keys against the queries, for map `mp`. -/
def tile (Q : Vec F SQ .bf16) (K : Vec F SK .bf16) (b : Fin 4) (mp : Fin 2) : Vec F TS .f32 := payS (kblk K b mp) (qblk Q mp)

/-- Both maps' tiles of block `b` put in buffer `buf`. -/
def scF (Q : Vec F SQ .bf16) (K : Vec F SK .bf16) (buf : Fin 2) (b : Fin 4) (σ : St F) : St F :=
  { σ with s := upd2 (upd2 σ.s buf 0 (tile Q K b 0)) buf 1 (tile Q K b 1) }

/-- The update of strip `c` from a full block of keys. -/
def fullU (V : Vec F SV .bf16) (b : Fin 4) (c : Fin 4) : Upd F := updOf nk1024 (le_refl _) (full nk1024) c (vblk V (le_refl _) b)

/-- The update of strip `c` from the diagonal block. -/
def diagU (neg : F .f32) (V : Vec F SV .bf16) (b : Fin 4) : Fin 4 → Upd F
  | 0 => updOf nk256 le256 (diag nk256 neg 0#32) 0 (vblk V le256 b)
  | 1 => updOf nk512 le512 (diag nk512 neg 256#32) 1 (vblk V le512 b)
  | 2 => updOf nk768 le768 (diag nk768 neg 512#32) 2 (vblk V le768 b)
  | 3 => updOf nk1024 (le_refl _) (diag nk1024 neg 768#32) 3 (vblk V (le_refl _) b)

/-- The running quantities of one strip of one map. -/
@[ext] structure Col (F : FTy → Type) where
  a : Vec F TA .f32
  m : Vec F TM .f32
  l : Vec F TM .f32

/-- An update of a tile applied to them. -/
def Upd.app (u : Upd F) (t : Vec F TS .f32) (x : Col F) : Col F := ⟨u.a t x.m x.a, u.m t x.m, u.l t x.m x.l⟩

/-- Before any block. -/
def col0 (neg : F .f32) : Col F :=
  ⟨fun _ => Scalar.ofBits .f32 0x00000000#32, fun _ => neg, fun _ => Scalar.ofBits .f32 0x00000000#32⟩

/-- After the first `n` blocks, all full. -/
def colFull (neg : F .f32) (Q : Vec F SQ .bf16) (K : Vec F SK .bf16) (V : Vec F SV .bf16) (mp : Fin 2) (c : Fin 4) : ℕ → Col F
  | 0 => col0 neg
  | n + 1 => (fullU V (Fin.ofNat 4 n) c).app (tile Q K (Fin.ofNat 4 n) mp) (colFull neg Q K V mp c n)

/-- After every block query tile `j` reads: the first `j` full, the next the diagonal. -/
def colAt (neg : F .f32) (Q : Vec F SQ .bf16) (K : Vec F SK .bf16) (V : Vec F SV .bf16) (j : Fin 4) (mp : Fin 2) (c : Fin 4) : Col F :=
  (diagU neg V j c).app (tile Q K j mp) (colFull neg Q K V mp c j.val)

/-- The scratch at the start. -/
def st0 (neg : F .f32) (s : Fin 2 → Fin 2 → Vec F TS .f32) : St F :=
  ⟨s, fun _ _ => (col0 neg).a, fun _ _ => (col0 neg).m, fun _ _ => (col0 neg).l⟩

/-- One trip of the main loop, from block `b`. -/
def tripF (Q : Vec F SQ .bf16) (K : Vec F SK .bf16) (V : Vec F SV .bf16) (t : ℕ) (σ : St F) : St F :=
  consF (fullU V (Fin.ofNat 4 (2 * t + 1))) 1 (scF Q K 0 (Fin.ofNat 4 (2 * t + 2))
    (consF (fullU V (Fin.ofNat 4 (2 * t))) 0 (scF Q K 1 (Fin.ofNat 4 (2 * t + 1)) σ)))

/-- What follows the loop where the last block is odd: its scores, the block before it, the diagonal. -/
def oddF (neg : F .f32) (Q : Vec F SQ .bf16) (K : Vec F SK .bf16) (V : Vec F SV .bf16) (j : Fin 4) (σ : St F) : St F :=
  if j.val % 2 = 1 then consF (diagU neg V j) 1 (consF (fullU V (j - 1)) 0 (scF Q K 1 j σ)) else σ

/-- What follows it where the last block is even: the diagonal. -/
def evenF (neg : F .f32) (V : Vec F SV .bf16) (j : Fin 4) (σ : St F) : St F :=
  if j.val % 2 = 0 then consF (diagU neg V j) 0 σ else σ

/-- The whole body on the scratch. -/
def bodyF (neg : F .f32) (Q : Vec F SQ .bf16) (K : Vec F SK .bf16) (V : Vec F SV .bf16) (j : Fin 4) (n : ℕ) (σ : St F) : St F :=
  evenF neg V j (oddF neg Q K V j ((List.finRange n).foldl (fun σ t => tripF Q K V t.val σ) (scF Q K 0 0 σ)))

/-- It leaves `colAt`. -/
theorem bodyF_col (neg : F .f32) (Q : Vec F SQ .bf16) (K : Vec F SK .bf16) (V : Vec F SV .bf16) (j : Fin 4) (s) :
    (bodyF neg Q K V j (j.val / 2) (st0 neg s)).a = (fun mp c => (colAt neg Q K V j mp c).a)
    ∧ (bodyF neg Q K V j (j.val / 2) (st0 neg s)).l = (fun mp c => (colAt neg Q K V j mp c).l) := by
  fin_cases j <;> constructor <;> funext mp c <;> fin_cases mp <;> rfl

end Fold

section Wp
variable {F : FTy → Type} [FloatOps F] {nD : ℕ} {τ : Topo} {sig : RefSig} {Λ : Labels}

local notation "𝕄" => MT nD τ sig Unit (Elt F) ℕ (UR sig nD τ) ℕ

variable {defs : Defs nD τ sig (Elt F) Λ} {E : Set ℕ} {c : Dev nD}

/-- A memref owned is owned at contents that read what it holds, -/
theorem own_of_owns {sp : Space} {s : Shape} {e : EltTy} (m : Memref sig .tc sp s e) (h : m.IsWhole) (X : s.Idx → Elt F e) :
    (owns (c : Thread nD τ) m fullShare X : sProp 𝕄) ⊢ Own (τ := τ) c m h X := by
  unfold owns Own
  iintro ⟨%f, %hf, H⟩
  rw [h.eq_unread hf]
  iexact H

/-- and back. -/
theorem owns_of_own {sp : Space} {s : Shape} {e : EltTy} (m : Memref sig .tc sp s e) (h : m.IsWhole) (X : s.Idx → Elt F e) :
    Own (τ := τ) c m h X ⊢ (owns (c : Thread nD τ) m fullShare X : sProp 𝕄) := by
  unfold owns Own
  iintro H
  iexists _
  isplitr
  swap; · iexact H
  ipureintro
  exact h.read_unread X

section Does
variable {a3 : Memref sig .tc .vmem SQ .bf16} {a4 : Memref sig .tc .vmem SK .bf16} {a5 : Memref sig .tc .vmem SV .bf16}
  {a12 : Memref sig .tc .vmem SS .f32} {a13 : Memref sig .tc .vmem SA .f32} {a14 a15 : Memref sig .tc .vmem SM .f32}
  {h3 : a3.IsWhole} {h4 : a4.IsWhole} {h5 : a5.IsWhole} {h12 : a12.IsWhole} {h13 : a13.IsWhole} {h14 : a14.IsWhole} {h15 : a15.IsWhole}
  {Q : Vec F SQ .bf16} {K : Vec F SK .bf16} {V : Vec F SV .bf16}

theorem Does.congr {α : Type} {p : Prog (TpuEff nD τ sig (Elt F) Λ .tc) α} {f g : St F → St F}
    (hp : Does h3 h4 h5 h12 h13 h14 h15 Q K V defs E c p f) (h : ∀ σ, f σ = g σ) :
    Does h3 h4 h5 h12 h13 h14 h15 Q K V defs E c p g := (funext h : f = g) ▸ hp

/-- What `Does` says, to a continuation. -/
theorem Does.wand {α : Type} {p : Prog (TpuEff nD τ sig (Elt F) Λ .tc) α} {f : St F → St F}
    (hp : Does h3 h4 h5 h12 h13 h14 h15 Q K V defs E c p f) (σ : St F) {R : α → sProp 𝕄} :
    Res (τ := τ) h3 h4 h5 h12 h13 h14 h15 Q K V c σ ⊢ iprop((∀ x, Res (τ := τ) h3 h4 h5 h12 h13 h14 h15 Q K V c (f σ) -∗ R x)
      -∗ wp frame (wpE defs Variants.none (c : Thread nD τ) none) E p R) :=
  (hp σ).trans (wp_wand _ _ _)

/-- The keys of a block loaded, to a continuation. -/
theorem wp_ldK (b : Fin 4) (mp : Fin 2) {off : Fin 3 → ℕ} {inb} (hoff : off = ![0, 1024 * b.val, 128 * mp.val]) {hl} (σ : St F)
    {R : Vec F TQ .bf16 → sProp 𝕄} :
    Res (τ := τ) h3 h4 h5 h12 h13 h14 h15 Q K V c σ ⊢ iprop((Res (τ := τ) h3 h4 h5 h12 h13 h14 h15 Q K V c σ -∗ R (kblk K b mp))
      -∗ wp frame (wpE defs Variants.none (c : Thread nD τ) none) E (Prog.lift (.load a4 (Rect.unit (s := SK) off TQ.size inb).toLoadRect hl)) R) := by
  subst hoff
  unfold Res
  iintro ⟨H3, H4, H5, H12, H13, H14, H15⟩
  iintro Hk
  iapply (wp_ld h4 K) $$ H4
  iintro H4
  rw [k_at]
  iapply Hk
  isplitl [H3]; · iexact H3
  isplitl [H4]; · iexact H4
  isplitl [H5]; · iexact H5
  isplitl [H12]; · iexact H12
  isplitl [H13]; · iexact H13
  isplitl [H14]; · iexact H14
  iexact H15

/-- A full block used. -/
theorem does_consFull (buf : Fin 2) (b : Fin 4) (off : Fin 4 → ℕ) (inb) (hoff : off = ![0, b.val, 0, 0]) :
    Does h3 h4 h5 h12 h13 h14 h15 Q K V defs E c (consFull a5 a12 a13 a14 a15 buf off inb) (consF (fullU V b) buf) := by
  have st := fun mp cc => does_stepP (h3 := h3) (h4 := h4) (h5 := h5) (h12 := h12) (h13 := h13) (h14 := h14) (h15 := h15)
    (Q := Q) (K := K) (V := V) (defs := defs) (E := E) (c := c) nk1024 (le_refl _) (full nk1024) buf mp cc b off inb hoff
  unfold consFull
  exact ((st 0 0).bind fun _ => (st 0 1).bind fun _ => (st 0 2).bind fun _ => (st 0 3).bind fun _ =>
    (st 1 0).bind fun _ => (st 1 1).bind fun _ => (st 1 2).bind fun _ => st 1 3).congr (consF_steps (fullU V b) buf)

/-- The diagonal block used. -/
theorem does_consDiag (neg : F .f32) (buf : Fin 2) (b : Fin 4) (o0 i0 o1 i1 o2 i2 o3 i3) (e0 : o0 = ![0, b.val, 0, 0]) (e1 : o1 = ![0, b.val, 0, 0])
    (e2 : o2 = ![0, b.val, 0, 0]) (e3 : o3 = ![0, b.val, 0, 0]) :
    Does h3 h4 h5 h12 h13 h14 h15 Q K V defs E c (consDiag neg a5 a12 a13 a14 a15 buf o0 i0 o1 i1 o2 i2 o3 i3) (consF (diagU neg V b) buf) := by
  have s0 := fun mp => does_stepP (h3 := h3) (h4 := h4) (h5 := h5) (h12 := h12) (h13 := h13) (h14 := h14) (h15 := h15)
    (Q := Q) (K := K) (V := V) (defs := defs) (E := E) (c := c) nk256 le256 (diag nk256 neg 0#32) buf mp 0 b o0 i0 e0
  have s1 := fun mp => does_stepP (h3 := h3) (h4 := h4) (h5 := h5) (h12 := h12) (h13 := h13) (h14 := h14) (h15 := h15)
    (Q := Q) (K := K) (V := V) (defs := defs) (E := E) (c := c) nk512 le512 (diag nk512 neg 256#32) buf mp 1 b o1 i1 e1
  have s2 := fun mp => does_stepP (h3 := h3) (h4 := h4) (h5 := h5) (h12 := h12) (h13 := h13) (h14 := h14) (h15 := h15)
    (Q := Q) (K := K) (V := V) (defs := defs) (E := E) (c := c) nk768 le768 (diag nk768 neg 512#32) buf mp 2 b o2 i2 e2
  have s3 := fun mp => does_stepP (h3 := h3) (h4 := h4) (h5 := h5) (h12 := h12) (h13 := h13) (h14 := h14) (h15 := h15)
    (Q := Q) (K := K) (V := V) (defs := defs) (E := E) (c := c) nk1024 (le_refl _) (diag nk1024 neg 768#32) buf mp 3 b o3 i3 e3
  unfold consDiag
  exact ((s0 0).bind fun _ => (s1 0).bind fun _ => (s2 0).bind fun _ => (s3 0).bind fun _ =>
    (s0 1).bind fun _ => (s1 1).bind fun _ => (s2 1).bind fun _ => s3 1).congr (consF_steps (diagU neg V b) buf)

/-- Trips in turn. -/
theorem Does.forFrom {n : ℕ} {body : Fin n → Unit → Prog (TpuEff nD τ sig (Elt F) Λ .tc) Unit} {g : Fin n → St F → St F}
    (h : ∀ t u, Does h3 h4 h5 h12 h13 h14 h15 Q K V defs E c (body t u) (g t)) :
    ∀ (L : List (Fin n)) (u : Unit), Does h3 h4 h5 h12 h13 h14 h15 Q K V defs E c (Scf.forFrom body L u) (fun σ => L.foldl (fun σ t => g t σ) σ) := by
  intro L
  induction L with
  | nil => intro u; exact Does.pure u
  | cons t L ih =>
    intro u
    rw [Scf.forFrom_cons]
    exact Does.congr (Does.bind (f := g t) (g := fun σ => L.foldl (fun σ t => g t σ) σ) (h t u) ih) fun σ => (List.foldl_cons ..).symm

/-- A loop. -/
theorem Does.for {w : ℕ} (l : Scf.Loop w) (hok : l.OK) {body : Fin l.trips → Unit → Prog (TpuEff nD τ sig (Elt F) Λ .tc) Unit} {g : Fin l.trips → St F → St F}
    (h : ∀ t u, Does h3 h4 h5 h12 h13 h14 h15 Q K V defs E c (body t u) (g t)) :
    Does h3 h4 h5 h12 h13 h14 h15 Q K V defs E c (Scf.Loop.for l hok ⟨⟩ body) (fun σ => (List.finRange l.trips).foldl (fun σ t => g t σ) σ) := by
  have e : Scf.Loop.for l hok ⟨⟩ body = Scf.forFrom body (List.finRange l.trips) ⟨⟩ := Scf.for_eq _ _ _ hok ⟨⟩ body
  rw [e]
  exact Does.forFrom h _ _

end Does

/-- A whole buffer's rectangle places every index at itself. -/
theorem emb_whole {s : Shape} {o : Fin s.rank → ℕ} (ho : ∀ a, o a = 0) (inb) (x : s.Idx) : (Rect.unit (s := s) o s.size inb).emb x = x := by
  funext a
  refine Fin.ext ?_
  show o a + 1 * (x a).val = (x a).val
  rw [ho]; omega

theorem ld_whole {A : Type} {s : Shape} {o : Fin s.rank → ℕ} (ho : ∀ a, o a = 0) (inb) (X : s.Idx → A) :
    (fun x => X ((Rect.unit (s := s) o s.size inb).emb x)) = X := funext fun x => congrArg X (emb_whole ho inb x)

abbrev RA' : Shape := ⟨3, ![1, 128, 1024]⟩
abbrev RM' : Shape := ⟨3, ![1, 1, 1024]⟩

/-- One map's weighted sums, all strips. -/
def rowA {F : FTy → Type} (t : Fin 2 → Fin 4 → Vec F TA .f32) (mp : Fin 2) : Vec F RA' .f32 :=
  fun x => t mp (hi (x 2)) (ix3 (0 : Fin 1) (x 1 : Fin 128) (lo (x 2)))
/-- One map's sums, all strips. -/
def rowM {F : FTy → Type} (t : Fin 2 → Fin 4 → Vec F TM .f32) (mp : Fin 2) : Vec F RM' .f32 :=
  fun x => t mp (hi (x 2)) (ix3 (0 : Fin 1) (0 : Fin 1) (lo (x 2)))

theorem rowA_at {F : FTy → Type} (t : Fin 2 → Fin 4 → Vec F TA .f32) (mp : Fin 2) (o : Fin 3 → ℕ) (ho : o = ![mp.val, 0, 0]) (inb) :
    (fun x => glueA t ((Rect.unit (s := SA) o RA'.size inb).emb x)) = rowA t mp := by
  subst ho
  funext x
  have h0 : (x 0).val = 0 := by have : (x 0).val < 1 := (x 0).isLt; omega
  have e0 : ((Rect.unit (s := SA) ![mp.val, 0, 0] RA'.size inb).emb x 0 : Fin 2) = mp := Fin.ext (show mp.val + 1 * (x 0).val = mp.val by omega)
  have e1 : ((Rect.unit (s := SA) ![mp.val, 0, 0] RA'.size inb).emb x 1 : Fin 128) = x 1 := Fin.ext (show 0 + 1 * (x 1).val = (x 1).val by omega)
  have e2 : ((Rect.unit (s := SA) ![mp.val, 0, 0] RA'.size inb).emb x 2 : Fin 1024) = x 2 := Fin.ext (show 0 + 1 * (x 2).val = (x 2).val by omega)
  unfold glueA rowA
  rw [e0, e1, e2]

theorem rowM_at {F : FTy → Type} (t : Fin 2 → Fin 4 → Vec F TM .f32) (mp : Fin 2) (o : Fin 3 → ℕ) (ho : o = ![mp.val, 0, 0]) (inb) :
    (fun x => glueM t ((Rect.unit (s := SM) o RM'.size inb).emb x)) = rowM t mp := by
  subst ho
  funext x
  have h0 : (x 0).val = 0 := by have : (x 0).val < 1 := (x 0).isLt; omega
  have e0 : ((Rect.unit (s := SM) ![mp.val, 0, 0] RM'.size inb).emb x 0 : Fin 2) = mp := Fin.ext (show mp.val + 1 * (x 0).val = mp.val by omega)
  have e2 : ((Rect.unit (s := SM) ![mp.val, 0, 0] RM'.size inb).emb x 2 : Fin 1024) = x 2 := Fin.ext (show 0 + 1 * (x 2).val = (x 2).val by omega)
  unfold glueM rowM
  rw [e0, e2]

theorem notin_whole {s : Shape} {o : Fin s.rank → ℕ} (ho : ∀ a, o a = 0) (inb) (y : s.Idx) (hy : y ∉ (Rect.unit (s := s) o s.size inb).set) : False :=
  hy (Rect.mem_set_unit.2 fun a => ⟨by rw [ho]; exact Nat.zero_le _, by rw [ho, Nat.zero_add]; exact (y a).isLt⟩)

/-- The reset, to a continuation. -/
theorem wp_initP {a13 : Memref sig .tc .vmem SA .f32} {a14 a15 : Memref sig .tc .vmem SM .f32}
    (h13 : a13.IsWhole) (h14 : a14.IsWhole) (h15 : a15.IsWhole) (neg : F .f32) (X13 : Vec F SA .f32) (X14 X15 : Vec F SM .f32) {R : PUnit → sProp 𝕄} :
    iprop(Own (τ := τ) c a13 h13 X13 ∗ Own (τ := τ) c a14 h14 X14 ∗ Own (τ := τ) c a15 h15 X15) ⊢
      iprop((iprop(Own (τ := τ) c a13 h13 (glueA fun _ _ => (col0 neg).a) ∗ Own (τ := τ) c a14 h14 (glueM fun _ _ => (col0 neg).m)
        ∗ Own (τ := τ) c a15 h15 (glueM fun _ _ => (col0 neg).l)) -∗ R ⟨⟩)
      -∗ wp frame (wpE defs Variants.none (c : Thread nD τ) none) E (initP neg a13 a14 a15) R) := by
  unfold initP
  simp only [wp_bind]
  have z : ∀ a, (![0, 0, 0] : Fin 3 → ℕ) a = 0 := by decide
  iintro ⟨H13, H14, H15⟩
  iintro Hk
  iapply (wp_ld h14 _) $$ H14
  iintro H14
  iapply (wp_st h14 _ (glueM fun _ _ => (col0 neg).m) (fun x => rfl) (fun y hy => (notin_whole (s := SM) z _ y hy).elim)) $$ H14
  iintro H14
  iapply (wp_ld h15 _) $$ H15
  iintro H15
  iapply (wp_st h15 _ (glueM fun _ _ => (col0 neg).l) (fun x => rfl) (fun y hy => (notin_whole (s := SM) z _ y hy).elim)) $$ H15
  iintro H15
  iapply (wp_ld h13 _) $$ H13
  iintro H13
  iapply (wp_st h13 _ (glueA fun _ _ => (col0 neg).a) (fun x => rfl) (fun y hy => (notin_whole (s := SA) z _ y hy).elim)) $$ H13
  iintro H13
  iapply Hk
  isplitl [H13]; · iexact H13
  isplitl [H14]; · iexact H14
  iexact H15

end Wp
end Cert.Da
end
-- ==== Proof.BodyKernelIdeal.lean ====
module
public import proofs.«01_k».proof.Proof.Steps
public import proofs.«01_k».proof.Proof.Gen.KernelIdeal.Skeleton

/-! # `KernelIdeal`'s body, printed operation by operation, is the run of small steps of `Proof.Steps` -/

@[expose] public section
set_option maxRecDepth 65536
set_option maxHeartbeats 4000000
noncomputable section
namespace Cert.KernelIdeal.Gen
open Idealize.ShloMosaic Idealize.SL.Sem Cert.Da
variable {F : FTy → Type} [FloatOps F] [Named F]

/-- What masked scores and the first maximum are. -/
abbrev neg : F .f32 := Named.named κ "mask" 0xF149F2CA#32

/-- One trip of the main loop: the next two blocks' scores, each followed by the use of the block before. -/
def tripP (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole) (t : Fin (k0_t1_loop i).trips) :
    Prog (TpuEff nD τ sig (Elt F) Λ₀ .tc) PUnit := do
  scoreP arg3 arg4 arg12 1 0 (k0_off1 i t 1#32) (k0_off1_inb i t 0)
  scoreP arg3 arg4 arg12 1 1 (k0_off2 i t 1#32) (k0_off2_inb i t 0)
  consFull arg5 arg12 arg13 arg14 arg15 0 (k0_off3 i t) (k0_off3_inb i t)
  scoreP arg3 arg4 arg12 0 0 (k0_off1 i t 2#32) (k0_off1_inb i t 1)
  scoreP arg3 arg4 arg12 0 1 (k0_off2 i t 2#32) (k0_off2_inb i t 1)
  consFull arg5 arg12 arg13 arg14 arg15 1 (k0_off4 i t) (k0_off4_inb i t)

/-- The loop's region is such a trip. -/
theorem t1_body_eq (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole) (arg2 : BitVec 32) (v24 : FVec F S1024x128 .bf16) (t : Fin (k0_t1_loop i).trips) (u : Unit) :
    k0_t1_body i arg3 harg3 arg4 harg4 arg5 harg5 arg6 harg6 arg7 harg7 arg8 harg8 arg9 harg9 arg10 harg10 arg11 harg11 arg12 harg12 arg13 harg13 arg14 harg14 arg15 harg15 arg2 v24 t u = tripP (F := F) i arg3 harg3 arg4 harg4 arg5 harg5 arg6 harg6 arg7 harg7 arg8 harg8 arg9 harg9 arg10 harg10 arg11 harg11 arg12 harg12 arg13 harg13 arg14 harg14 arg15 harg15 t := by
  unfold k0_t1_body
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  rfl

/-- What follows the loop: the last block's scores where it is an odd one, and the diagonal. -/
def diagOdd (i : grid0.Coords) (h : k0_cond1 i = 1#1) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole) :
    Prog (TpuEff nD τ sig (Elt F) Λ₀ .tc) PUnit := do
  scoreP arg3 arg4 arg12 1 0 (k0_off9 i) (k0_off9_inb i h)
  scoreP arg3 arg4 arg12 1 1 (k0_off10 i) (k0_off10_inb i h)
  consFull arg5 arg12 arg13 arg14 arg15 0 (k0_off11 i) (k0_off11_inb i h)
  consDiag neg arg5 arg12 arg13 arg14 arg15 1 (k0_off12 i) (k0_off12_inb i h) (k0_off13 i) (k0_off13_inb i h) (k0_off14 i) (k0_off14_inb i h) (k0_off15 i) (k0_off15_inb i h)

/-- The diagonal where the last block is an even one. -/
def diagEven (i : grid0.Coords) (h : k0_cond2 i = 1#1) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole) :
    Prog (TpuEff nD τ sig (Elt F) Λ₀ .tc) PUnit :=
  consDiag neg arg5 arg12 arg13 arg14 arg15 0 (k0_off16 i) (k0_off16_inb i h) (k0_off17 i) (k0_off17_inb i h) (k0_off18 i) (k0_off18_inb i h) (k0_off19 i) (k0_off19_inb i h)

/-- The weight of the second map. -/
def lamP (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole) : Prog (TpuEff nD τ sig (Elt F) Λ₀ .tc) (Σ' (v95 : FVec F S1x1 .f32), F .f32) := do
  let v79 : Vec F S1x64 .f32 ← Prog.lift (.load arg6 (Rect.unit (s := S1x64) ![0, 0] S1x64.size inb_S1x64_S1x64_0_0).toLoadRect (View.loadsAt_vmem h_S1x64))
  let v81 : Vec F S1x64 .f32 ← Prog.lift (.load arg7 (Rect.unit (s := S1x64) ![0, 0] S1x64.size inb_S1x64_S1x64_0_0).toLoadRect (View.loadsAt_vmem h_S1x64))
  let v87 : Vec F S1x64 .f32 ← Prog.lift (.load arg8 (Rect.unit (s := S1x64) ![0, 0] S1x64.size inb_S1x64_S1x64_0_0).toLoadRect (View.loadsAt_vmem h_S1x64))
  let v89 : Vec F S1x64 .f32 ← Prog.lift (.load arg9 (Rect.unit (s := S1x64) ![0, 0] S1x64.size inb_S1x64_S1x64_0_0).toLoadRect (View.loadsAt_vmem h_S1x64))
  pure ⟨k0_pay584 v79 v81 v87 v89, Scalar.ofBits .f32 0x3E4CCCCD#32⟩

/-- The two maps combined, normalised and stored. -/
def tailP (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole) (v95 : FVec F S1x1 .f32) (cst_64 : F .f32) : Prog (TpuEff nD τ sig (Elt F) Λ₀ .tc) PUnit := do
  let v98 : Vec F S1x128x1024 .f32 ← Prog.lift (.load arg13 (Rect.unit (s := S2x128x1024) ![0, 0, 0] S1x128x1024.size inb_S2x128x1024_S1x128x1024_0_0_0).toLoadRect (View.loadsAt_vmem h_S1x128x1024))
  let v100 : Vec F S1x1x1024 .f32 ← Prog.lift (.load arg15 (Rect.unit (s := S2x1x1024) ![0, 0, 0] S1x1x1024.size inb_S2x1x1024_S1x1x1024_0_0_0).toLoadRect (View.loadsAt_vmem h_S1x1x1024))
  let v104 : Vec F S1x128x1024 .f32 ← Prog.lift (.load arg13 (Rect.unit (s := S2x128x1024) ![1, 0, 0] S1x128x1024.size inb_S2x128x1024_S1x128x1024_1_0_0).toLoadRect (View.loadsAt_vmem h_S1x128x1024))
  let v106 : Vec F S1x1x1024 .f32 ← Prog.lift (.load arg15 (Rect.unit (s := S2x1x1024) ![1, 0, 0] S1x1x1024.size inb_S2x1x1024_S1x1x1024_1_0_0).toLoadRect (View.loadsAt_vmem h_S1x1x1024))
  let v114 : Vec F S1x128 .f32 ← Prog.lift (.load arg10 (Rect.unit (s := S1x128) ![0, 0] S1x128.size inb_S1x128_S1x128_0_0).toLoadRect (View.loadsAt_vmem h_S1x128))
  let _ ← Prog.lift (.load arg11 (Rect.unit (s := S1x1024x128) ![0, 0, 0] S1x1024x128.size inb_S1x1024x128_S1x1024x128_0_0_0).toLoadRect (View.loadsAt_vmem h_S1x1024x128))
  Prog.lift (.store arg11 (Rect.unit (s := S1x1024x128) ![0, 0, 0] S1x1024x128.size inb_S1x1024x128_S1x1024x128_0_0_0) (k0_pay585 v95 cst_64 v98 v100 v104 v106 v114) Finset.univ (View.stores_vmem h_S1x1024x128 (harg11.storeExact_slice rfl _ packedbf16_S1x1024x128_S1x1024x128_0_0_0) (fun _ => rfl)) (.inl rfl))

theorem t1_trips : ∀ i : grid0.Coords, (k0_t1_loop i).trips = (i 2).val / 2 := by decide +kernel
theorem t2_trips : ∀ i : grid0.Coords, (k0_t2_loop i).trips = 0 := by decide +kernel
theorem cond1_iff : ∀ i : grid0.Coords, k0_cond1 i = 1#1 ↔ (i 2).val % 2 = 1 := by decide +kernel
theorem cond2_iff : ∀ i : grid0.Coords, k0_cond2 i = 1#1 ↔ (i 2).val % 2 = 0 := by decide +kernel

/-- The second loop has no trip. -/
theorem t2_for (i : grid0.Coords) (hok) (body : Fin (k0_t2_loop i).trips → Unit → Prog (TpuEff nD τ sig (Elt F) Λ₀ .tc) Unit) :
    Scf.Loop.for (k0_t2_loop i) hok ⟨⟩ body = .ret ⟨⟩ := by
  have h : List.finRange (k0_t2_loop i).trips = [] := List.eq_nil_of_length_eq_zero (by rw [List.length_finRange, t2_trips])
  refine (Scf.for_eq _ _ _ hok ⟨⟩ body).trans ?_
  rw [h]; rfl

/-- The loop's region is such a trip, as functions. -/
theorem t1_fn (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole) (arg2 : BitVec 32) (v24 : FVec F S1024x128 .bf16) :
    k0_t1_body i arg3 harg3 arg4 harg4 arg5 harg5 arg6 harg6 arg7 harg7 arg8 harg8 arg9 harg9 arg10 harg10 arg11 harg11 arg12 harg12 arg13 harg13 arg14 harg14 arg15 harg15 arg2 v24 = fun t _ => tripP (F := F) i arg3 harg3 arg4 harg4 arg5 harg5 arg6 harg6 arg7 harg7 arg8 harg8 arg9 harg9 arg10 harg10 arg11 harg11 arg12 harg12 arg13 harg13 arg14 harg14 arg15 harg15 t :=
  funext fun t => funext fun u => t1_body_eq i arg3 harg3 arg4 harg4 arg5 harg5 arg6 harg6 arg7 harg7 arg8 harg8 arg9 harg9 arg10 harg10 arg11 harg11 arg12 harg12 arg13 harg13 arg14 harg14 arg15 harg15 arg2 v24 t u

/-- The body's first part: the reset, the first block's scores for one map, its keys for the other. -/
theorem part71_eq (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole) :
    k0_part71 (F := F) i arg3 harg3 arg4 harg4 arg5 harg5 arg6 harg6 arg7 harg7 arg8 harg8 arg9 harg9 arg10 harg10 arg11 harg11 arg12 harg12 arg13 harg13 arg14 harg14 arg15 harg15 = (do
      initP neg arg13 arg14 arg15
      scoreP arg3 arg4 arg12 0 0 ![0, 0, 0] inb_S1x4096x256_S1x1024x128_0_0_0
      let v23 : Vec F S1x1024x128 .bf16 ← Prog.lift (.load arg4 (Rect.unit (s := S1x4096x256) ![0, 0, 128] S1x1024x128.size inb_S1x4096x256_S1x1024x128_0_0_128).toLoadRect (View.loadsAt_vmem h_S1x1024x128))
      pure ⟨BitVec.ofNat 32 (i 2).val, k0_pay567 v23⟩) := by
  rw [k0_part71_eq_skeleton]; rfl

/-- Its second part: the first block's scores for the other map, and the loop. -/
theorem part72_eq (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole) (arg2 : BitVec 32) (v23 : Vec F S1x1024x128 .bf16) :
    ∃ x, k0_part72 (F := F) i arg3 harg3 arg4 harg4 arg5 harg5 arg6 harg6 arg7 harg7 arg8 harg8 arg9 harg9 arg10 harg10 arg11 harg11 arg12 harg12 arg13 harg13 arg14 harg14 arg15 harg15 arg2 (k0_pay567 v23) = (do
      scoreTail arg3 arg12 0 1 v23
      Scf.Loop.for (k0_t1_loop i) (k0_t1_ok i) ⟨⟩ (fun t _ => tripP i arg3 harg3 arg4 harg4 arg5 harg5 arg6 harg6 arg7 harg7 arg8 harg8 arg9 harg9 arg10 harg10 arg11 harg11 arg12 harg12 arg13 harg13 arg14 harg14 arg15 harg15 t)
      pure x) := by
  rw [k0_part72_eq_skeleton]
  unfold k0_part72_skel
  simp only [t1_fn, t2_for i]
  exact ⟨_, rfl⟩

/-- The branch of an odd last block is its run of steps, whatever follows. -/
theorem odd_eq {α : Type} (i : grid0.Coords) (k0_h1 : k0_cond1 i = 1#1) (arg2 : BitVec 32) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole) (k : Unit → Prog (TpuEff nD τ sig (Elt F) Λ₀ .tc) α) :
    (do
    let ⟨v154, v156, v158, v159⟩ : Σ' (v154 : BitVec 32) (v156 : FVec F S1024x256 .f32) (v158 : FVec F S1x256 .f32), Vec F S1x1x256 .f32 ← k0_part41 i arg3 harg3 arg4 harg4 arg5 harg5 arg6 harg6 arg7 harg7 arg8 harg8 arg9 harg9 arg10 harg10 arg11 harg11 arg12 harg12 arg13 harg13 arg14 harg14 arg15 harg15 arg2 k0_h1
    let v193 : Vec F S1x1x1024x256 .f32 ← k0_part42 i arg3 harg3 arg4 harg4 arg5 harg5 arg6 harg6 arg7 harg7 arg8 harg8 arg9 harg9 arg10 harg10 arg11 harg11 arg12 harg12 arg13 harg13 arg14 harg14 arg15 harg15 k0_h1 v154 v156 v158 v159
    let v221 : FVec F S128x256 .f32 ← k0_part43 i arg3 harg3 arg4 harg4 arg5 harg5 arg6 harg6 arg7 harg7 arg8 harg8 arg9 harg9 arg10 harg10 arg11 harg11 arg12 harg12 arg13 harg13 arg14 harg14 arg15 harg15 k0_h1 v154 v193
    let ⟨v255, v259, v262⟩ : Σ' (v255 : FVec F S1x256 .f32) (v259 : FVec F S128x256 .f32), FVec F S1x1x256 .f32 ← k0_part44 i arg3 harg3 arg4 harg4 arg5 harg5 arg6 harg6 arg7 harg7 arg8 harg8 arg9 harg9 arg10 harg10 arg11 harg11 arg12 harg12 arg13 harg13 arg14 harg14 arg15 harg15 k0_h1 v154 v221
    let ⟨v276, v279, v283, v289, v293, v294⟩ : Σ' (v276 : FVec F S128x256 .f32) (v279 : FVec F S128x1024 .bf16) (v283 : FVec F S1x256 .f32) (v289 : FVec F S1024x256 .bf16) (v293 : FVec F S1x256 .f32), FVec F S128x256 .f32 ← k0_part45 i arg3 harg3 arg4 harg4 arg5 harg5 arg6 harg6 arg7 harg7 arg8 harg8 arg9 harg9 arg10 harg10 arg11 harg11 arg12 harg12 arg13 harg13 arg14 harg14 arg15 harg15 k0_h1 v154 v255 v259 v262
    let ⟨v308, v312, v314, v317, v318, v321, v323⟩ : Σ' (v308 : FVec F S1024x256 .f32) (v312 : FVec F S1x256 .f32) (v314 : FVec F S128x256 .f32) (v317 : FVec F S128x1024 .bf16) (v318 : FVec F S16x1024 .bf16) (v321 : FVec F S1x256 .f32), FVec F S1x256 .f32 ← k0_part46 i arg3 harg3 arg4 harg4 arg5 harg5 arg6 harg6 arg7 harg7 arg8 harg8 arg9 harg9 arg10 harg10 arg11 harg11 arg12 harg12 arg13 harg13 arg14 harg14 arg15 harg15 k0_h1 v154 v276 v279 v283 v289 v293 v294
    let ⟨v346, v348, v350, v352⟩ : Σ' (v346 : FVec F S1024x256 .f32) (v348 : FVec F S1x256 .f32) (v350 : FVec F S1x256 .f32), FVec F S128x256 .f32 ← k0_part47 i arg3 harg3 arg4 harg4 arg5 harg5 arg6 harg6 arg7 harg7 arg8 harg8 arg9 harg9 arg10 harg10 arg11 harg11 arg12 harg12 arg13 harg13 arg14 harg14 arg15 harg15 v154 v308 v312 v314 v317 v318 v321 v323
    let ⟨v384, v386, v387⟩ : Σ' (v384 : FVec F S1024x256 .f32) (v386 : FVec F S1x256 .f32), Vec F S1x1x256 .f32 ← k0_part48 i arg3 harg3 arg4 harg4 arg5 harg5 arg6 harg6 arg7 harg7 arg8 harg8 arg9 harg9 arg10 harg10 arg11 harg11 arg12 harg12 arg13 harg13 arg14 harg14 arg15 harg15 k0_h1 v346 v348 v350 v352
    let v421 : Vec F S1x1x1024x256 .f32 ← k0_part49 i arg3 harg3 arg4 harg4 arg5 harg5 arg6 harg6 arg7 harg7 arg8 harg8 arg9 harg9 arg10 harg10 arg11 harg11 arg12 harg12 arg13 harg13 arg14 harg14 arg15 harg15 k0_h1 v154 v384 v386 v387
    let v449 : FVec F S128x256 .f32 ← k0_part50 i arg3 harg3 arg4 harg4 arg5 harg5 arg6 harg6 arg7 harg7 arg8 harg8 arg9 harg9 arg10 harg10 arg11 harg11 arg12 harg12 arg13 harg13 arg14 harg14 arg15 harg15 k0_h1 v154 v421
    let ⟨v476, v480, v486, v490, v492⟩ : Σ' (v476 : FVec F S128x256 .bf16) (v480 : FVec F S1x256 .f32) (v486 : FVec F S256x256 .bf16) (v490 : FVec F S1x256 .f32), FVec F S128x256 .f32 ← k0_part51 i arg3 harg3 arg4 harg4 arg5 harg5 arg6 harg6 arg7 harg7 arg8 harg8 arg9 harg9 arg10 harg10 arg11 harg11 arg12 harg12 arg13 harg13 arg14 harg14 arg15 harg15 arg2 k0_h1 v449
    let ⟨v512, v514, v516, v518, v521⟩ : Σ' (v512 : FVec F S512x256 .f32) (v514 : FVec F S1x256 .f32) (v516 : FVec F S1x256 .f32) (v518 : FVec F S128x256 .f32), FVec F S128x512 .bf16 ← k0_part52 i arg3 harg3 arg4 harg4 arg5 harg5 arg6 harg6 arg7 harg7 arg8 harg8 arg9 harg9 arg10 harg10 arg11 harg11 arg12 harg12 arg13 harg13 arg14 harg14 arg15 harg15 arg2 k0_h1 v476 v480 v486 v490 v492
    let v557 : FVec F S768x256 .f32 ← k0_part53 i arg3 harg3 arg4 harg4 arg5 harg5 arg6 harg6 arg7 harg7 arg8 harg8 arg9 harg9 arg10 harg10 arg11 harg11 arg12 harg12 arg13 harg13 arg14 harg14 arg15 harg15 v512 v514 v516 v518 v521
    let v584 : FVec F S128x256 .f32 ← k0_part54 i arg3 harg3 arg4 harg4 arg5 harg5 arg6 harg6 arg7 harg7 arg8 harg8 arg9 harg9 arg10 harg10 arg11 harg11 arg12 harg12 arg13 harg13 arg14 harg14 arg15 harg15 arg2 k0_h1 v557
    let ⟨v615, v625, v629⟩ : Σ' (v615 : FVec F S1x256 .f32) (v625 : FVec F S1x256 .f32), FVec F S128x256 .f32 ← k0_part55 i arg3 harg3 arg4 harg4 arg5 harg5 arg6 harg6 arg7 harg7 arg8 harg8 arg9 harg9 arg10 harg10 arg11 harg11 arg12 harg12 arg13 harg13 arg14 harg14 arg15 harg15 arg2 k0_h1 v584
    let ⟨v647, v649, v651, v653, v656, v657⟩ : Σ' (v647 : FVec F S256x256 .f32) (v649 : FVec F S1x256 .f32) (v651 : FVec F S1x256 .f32) (v653 : FVec F S128x256 .f32) (v656 : FVec F S128x256 .bf16), FVec F S16x256 .bf16 ← k0_part56 i arg3 harg3 arg4 harg4 arg5 harg5 arg6 harg6 arg7 harg7 arg8 harg8 arg9 harg9 arg10 harg10 arg11 harg11 arg12 harg12 arg13 harg13 arg14 harg14 arg15 harg15 arg2 k0_h1 v615 v625 v629
    let ⟨v692, v694⟩ : Σ' (v692 : FVec F S512x256 .f32), FVec F S1x256 .f32 ← k0_part57 i arg3 harg3 arg4 harg4 arg5 harg5 arg6 harg6 arg7 harg7 arg8 harg8 arg9 harg9 arg10 harg10 arg11 harg11 arg12 harg12 arg13 harg13 arg14 harg14 arg15 harg15 v647 v649 v651 v653 v656 v657
    k0_part58 i arg3 harg3 arg4 harg4 arg5 harg5 arg6 harg6 arg7 harg7 arg8 harg8 arg9 harg9 arg10 harg10 arg11 harg11 arg12 harg12 arg13 harg13 arg14 harg14 arg15 harg15 arg2 k0_h1 v692 v694
    let ⟨v750, v760, v764⟩ : Σ' (v750 : FVec F S1x256 .f32) (v760 : FVec F S1x256 .f32), FVec F S128x256 .f32 ← k0_part59 i arg3 harg3 arg4 harg4 arg5 harg5 arg6 harg6 arg7 harg7 arg8 harg8 arg9 harg9 arg10 harg10 arg11 harg11 arg12 harg12 arg13 harg13 arg14 harg14 arg15 harg15 arg2 k0_h1
    let ⟨v782, v784, v786, v788, v791, v792, v795⟩ : Σ' (v782 : FVec F S1024x256 .f32) (v784 : FVec F S1x256 .f32) (v786 : FVec F S1x256 .f32) (v788 : FVec F S128x256 .f32) (v791 : FVec F S128x1024 .bf16) (v792 : FVec F S16x1024 .bf16), FVec F S1x256 .f32 ← k0_part60 i arg3 harg3 arg4 harg4 arg5 harg5 arg6 harg6 arg7 harg7 arg8 harg8 arg9 harg9 arg10 harg10 arg11 harg11 arg12 harg12 arg13 harg13 arg14 harg14 arg15 harg15 arg2 k0_h1 v750 v760 v764
    let v810 : Vec F S1x1x256 .f32 ← Prog.lift (.load arg14 (Rect.unit (s := S2x1x1024) ![1, 0, 768] S1x1x256.size inb_S2x1x1024_S1x1x256_1_0_768).toLoadRect (View.loadsAt_vmem h_S1x1x256))
    Prog.lift (.store arg14 (Rect.unit (s := S2x1x1024) ![1, 0, 768] S1x1x256.size inb_S2x1x1024_S1x1x256_1_0_768) (k0_pay577 v795) Finset.univ (View.stores_vmem_bits_univ h_S1x1x256 rfl) (.inl rfl))
    let v813 : Vec F S1x1x256 .f32 ← Prog.lift (.load arg15 (Rect.unit (s := S2x1x1024) ![1, 0, 768] S1x1x256.size inb_S2x1x1024_S1x1x256_1_0_768).toLoadRect (View.loadsAt_vmem h_S1x1x256))
    Prog.lift (.store arg15 (Rect.unit (s := S2x1x1024) ![1, 0, 768] S1x1x256.size inb_S2x1x1024_S1x1x256_1_0_768) (k0_pay578 v782 v784 v786 v792 v795) Finset.univ (View.stores_vmem_bits_univ h_S1x1x256 rfl) (.inl rfl))
    let v816 : Vec F S1x128x256 .f32 ← Prog.lift (.load arg13 (Rect.unit (s := S2x128x1024) ![1, 0, 768] S1x128x256.size inb_S2x128x1024_S1x128x256_1_0_768).toLoadRect (View.loadsAt_vmem h_S1x128x256))
    Prog.lift (.store arg13 (Rect.unit (s := S2x128x1024) ![1, 0, 768] S1x128x256.size inb_S2x128x1024_S1x128x256_1_0_768) (k0_pay579 v782 v784 v788 v791 v795) Finset.univ (View.stores_vmem_bits_univ h_S1x128x256 rfl) (.inl rfl))
    k ⟨⟩) = (do diagOdd i k0_h1 arg3 harg3 arg4 harg4 arg5 harg5 arg6 harg6 arg7 harg7 arg8 harg8 arg9 harg9 arg10 harg10 arg11 harg11 arg12 harg12 arg13 harg13 arg14 harg14 arg15 harg15; k ⟨⟩) := by
  rw [k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  rfl

/-- The branch of an even last block is its run of steps, whatever follows. -/
theorem even_eq {α : Type} (i : grid0.Coords) (k0_h2 : k0_cond2 i = 1#1) (arg2 : BitVec 32) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole) (k : Unit → Prog (TpuEff nD τ sig (Elt F) Λ₀ .tc) α) :
    (do
    let ⟨v155, v165, v169⟩ : Σ' (v155 : FVec F S1x256 .f32) (v165 : FVec F S1x256 .f32), FVec F S128x256 .f32 ← k0_part61 i arg3 harg3 arg4 harg4 arg5 harg5 arg6 harg6 arg7 harg7 arg8 harg8 arg9 harg9 arg10 harg10 arg11 harg11 arg12 harg12 arg13 harg13 arg14 harg14 arg15 harg15 arg2 k0_h2
    let ⟨v187, v189, v191, v193, v196, v197, v199⟩ : Σ' (v187 : FVec F S512x256 .f32) (v189 : FVec F S1x256 .f32) (v191 : FVec F S1x256 .f32) (v193 : FVec F S128x256 .f32) (v196 : FVec F S128x512 .bf16) (v197 : FVec F S16x512 .bf16), FVec F S1x256 .f32 ← k0_part62 i arg3 harg3 arg4 harg4 arg5 harg5 arg6 harg6 arg7 harg7 arg8 harg8 arg9 harg9 arg10 harg10 arg11 harg11 arg12 harg12 arg13 harg13 arg14 harg14 arg15 harg15 arg2 k0_h2 v155 v165 v169
    let ⟨v232, v234⟩ : Σ' (v232 : FVec F S768x256 .f32), FVec F S1x256 .f32 ← k0_part63 i arg3 harg3 arg4 harg4 arg5 harg5 arg6 harg6 arg7 harg7 arg8 harg8 arg9 harg9 arg10 harg10 arg11 harg11 arg12 harg12 arg13 harg13 arg14 harg14 arg15 harg15 v187 v189 v191 v193 v196 v197 v199
    k0_part64 i arg3 harg3 arg4 harg4 arg5 harg5 arg6 harg6 arg7 harg7 arg8 harg8 arg9 harg9 arg10 harg10 arg11 harg11 arg12 harg12 arg13 harg13 arg14 harg14 arg15 harg15 arg2 k0_h2 v232 v234
    let ⟨v290, v300, v304⟩ : Σ' (v290 : FVec F S1x256 .f32) (v300 : FVec F S1x256 .f32), FVec F S128x256 .f32 ← k0_part65 i arg3 harg3 arg4 harg4 arg5 harg5 arg6 harg6 arg7 harg7 arg8 harg8 arg9 harg9 arg10 harg10 arg11 harg11 arg12 harg12 arg13 harg13 arg14 harg14 arg15 harg15 arg2 k0_h2
    let ⟨v322, v326, v328, v331, v332, v335, v337⟩ : Σ' (v322 : FVec F S256x256 .f32) (v326 : FVec F S1x256 .f32) (v328 : FVec F S128x256 .f32) (v331 : FVec F S128x256 .bf16) (v332 : FVec F S16x256 .bf16) (v335 : FVec F S1x256 .f32), FVec F S1x256 .f32 ← k0_part66 i arg3 harg3 arg4 harg4 arg5 harg5 arg6 harg6 arg7 harg7 arg8 harg8 arg9 harg9 arg10 harg10 arg11 harg11 arg12 harg12 arg13 harg13 arg14 harg14 arg15 harg15 arg2 k0_h2 v290 v300 v304
    let ⟨v367, v369, v371⟩ : Σ' (v367 : FVec F S512x256 .f32) (v369 : FVec F S1x256 .f32), FVec F S1x256 .f32 ← k0_part67 i arg3 harg3 arg4 harg4 arg5 harg5 arg6 harg6 arg7 harg7 arg8 harg8 arg9 harg9 arg10 harg10 arg11 harg11 arg12 harg12 arg13 harg13 arg14 harg14 arg15 harg15 v322 v326 v328 v331 v332 v335 v337
    let v405 : FVec F S768x256 .f32 ← k0_part68 i arg3 harg3 arg4 harg4 arg5 harg5 arg6 harg6 arg7 harg7 arg8 harg8 arg9 harg9 arg10 harg10 arg11 harg11 arg12 harg12 arg13 harg13 arg14 harg14 arg15 harg15 arg2 k0_h2 v367 v369 v371
    let ⟨v435, v439⟩ : Σ' (v435 : FVec F S1x256 .f32), FVec F S128x256 .f32 ← k0_part69 i arg3 harg3 arg4 harg4 arg5 harg5 arg6 harg6 arg7 harg7 arg8 harg8 arg9 harg9 arg10 harg10 arg11 harg11 arg12 harg12 arg13 harg13 arg14 harg14 arg15 harg15 arg2 k0_h2 v405
    let ⟨v461, v463, v466, v467, v470, v472, v475⟩ : Σ' (v461 : FVec F S1x256 .f32) (v463 : FVec F S128x256 .f32) (v466 : FVec F S128x1024 .bf16) (v467 : FVec F S16x1024 .bf16) (v470 : FVec F S1x256 .f32) (v472 : FVec F S1x256 .f32), FVec F S1024x256 .f32 ← k0_part70 i arg3 harg3 arg4 harg4 arg5 harg5 arg6 harg6 arg7 harg7 arg8 harg8 arg9 harg9 arg10 harg10 arg11 harg11 arg12 harg12 arg13 harg13 arg14 harg14 arg15 harg15 arg2 k0_h2 v435 v439
    let v485 : Vec F S1x1x256 .f32 ← Prog.lift (.load arg14 (Rect.unit (s := S2x1x1024) ![1, 0, 768] S1x1x256.size inb_S2x1x1024_S1x1x256_1_0_768).toLoadRect (View.loadsAt_vmem h_S1x1x256))
    Prog.lift (.store arg14 (Rect.unit (s := S2x1x1024) ![1, 0, 768] S1x1x256.size inb_S2x1x1024_S1x1x256_1_0_768) (k0_pay581 v470) Finset.univ (View.stores_vmem_bits_univ h_S1x1x256 rfl) (.inl rfl))
    let v488 : Vec F S1x1x256 .f32 ← Prog.lift (.load arg15 (Rect.unit (s := S2x1x1024) ![1, 0, 768] S1x1x256.size inb_S2x1x1024_S1x1x256_1_0_768).toLoadRect (View.loadsAt_vmem h_S1x1x256))
    Prog.lift (.store arg15 (Rect.unit (s := S2x1x1024) ![1, 0, 768] S1x1x256.size inb_S2x1x1024_S1x1x256_1_0_768) (k0_pay582 v461 v467 v472 v475) Finset.univ (View.stores_vmem_bits_univ h_S1x1x256 rfl) (.inl rfl))
    let v491 : Vec F S1x128x256 .f32 ← Prog.lift (.load arg13 (Rect.unit (s := S2x128x1024) ![1, 0, 768] S1x128x256.size inb_S2x128x1024_S1x128x256_1_0_768).toLoadRect (View.loadsAt_vmem h_S1x128x256))
    Prog.lift (.store arg13 (Rect.unit (s := S2x128x1024) ![1, 0, 768] S1x128x256.size inb_S2x128x1024_S1x128x256_1_0_768) (k0_pay583 v463 v466 v472 v475) Finset.univ (View.stores_vmem_bits_univ h_S1x128x256 rfl) (.inl rfl))
    k ⟨⟩) = (do diagEven i k0_h2 arg3 harg3 arg4 harg4 arg5 harg5 arg6 harg6 arg7 harg7 arg8 harg8 arg9 harg9 arg10 harg10 arg11 harg11 arg12 harg12 arg13 harg13 arg14 harg14 arg15 harg15; k ⟨⟩) := by
  rw [k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
  rfl

/-- Its third part: the diagonal, and the weight of the second map. -/
theorem part73_eq (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole) (arg2 : BitVec 32) (v54 v55 : BitVec 32) (v56 v57 v58 : BitVec 1) :
    k0_part73 (F := F) i arg3 harg3 arg4 harg4 arg5 harg5 arg6 harg6 arg7 harg7 arg8 harg8 arg9 harg9 arg10 harg10 arg11 harg11 arg12 harg12 arg13 harg13 arg14 harg14 arg15 harg15 arg2 v54 v55 v56 v57 v58 = (do
      (if h1 : k0_cond1 i = 1#1 then diagOdd i h1 arg3 harg3 arg4 harg4 arg5 harg5 arg6 harg6 arg7 harg7 arg8 harg8 arg9 harg9 arg10 harg10 arg11 harg11 arg12 harg12 arg13 harg13 arg14 harg14 arg15 harg15 else pure ⟨⟩)
      (if h2 : k0_cond2 i = 1#1 then diagEven i h2 arg3 harg3 arg4 harg4 arg5 harg5 arg6 harg6 arg7 harg7 arg8 harg8 arg9 harg9 arg10 harg10 arg11 harg11 arg12 harg12 arg13 harg13 arg14 harg14 arg15 harg15 else pure ⟨⟩)
      lamP i arg3 harg3 arg4 harg4 arg5 harg5 arg6 harg6 arg7 harg7 arg8 harg8 arg9 harg9 arg10 harg10 arg11 harg11 arg12 harg12 arg13 harg13 arg14 harg14 arg15 harg15) := by
  rw [k0_part73_eq_skeleton]
  unfold k0_part73_skel
  by_cases h1 : k0_cond1 i = 1#1 <;> by_cases h2 : k0_cond2 i = 1#1
  · exact absurd ((cond1_iff i).1 h1) (by rw [(cond2_iff i).1 h2]; decide)
  · simp only [dif_pos h1, dif_neg h2]
    exact odd_eq i h1 arg2 arg3 harg3 arg4 harg4 arg5 harg5 arg6 harg6 arg7 harg7 arg8 harg8 arg9 harg9 arg10 harg10 arg11 harg11 arg12 harg12 arg13 harg13 arg14 harg14 arg15 harg15 (fun _ => lamP i arg3 harg3 arg4 harg4 arg5 harg5 arg6 harg6 arg7 harg7 arg8 harg8 arg9 harg9 arg10 harg10 arg11 harg11 arg12 harg12 arg13 harg13 arg14 harg14 arg15 harg15)
  · simp only [dif_neg h1, dif_pos h2]
    exact even_eq i h2 arg2 arg3 harg3 arg4 harg4 arg5 harg5 arg6 harg6 arg7 harg7 arg8 harg8 arg9 harg9 arg10 harg10 arg11 harg11 arg12 harg12 arg13 harg13 arg14 harg14 arg15 harg15 (fun _ => lamP i arg3 harg3 arg4 harg4 arg5 harg5 arg6 harg6 arg7 harg7 arg8 harg8 arg9 harg9 arg10 harg10 arg11 harg11 arg12 harg12 arg13 harg13 arg14 harg14 arg15 harg15)
  · simp only [dif_neg h1, dif_neg h2]; rfl

/-- Its last. -/
theorem part74_eq (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole) (v95 : FVec F S1x1 .f32) (cst_64 : F .f32) :
    k0_part74 (F := F) i arg3 harg3 arg4 harg4 arg5 harg5 arg6 harg6 arg7 harg7 arg8 harg8 arg9 harg9 arg10 harg10 arg11 harg11 arg12 harg12 arg13 harg13 arg14 harg14 arg15 harg15 v95 cst_64 = tailP i arg3 harg3 arg4 harg4 arg5 harg5 arg6 harg6 arg7 harg7 arg8 harg8 arg9 harg9 arg10 harg10 arg11 harg11 arg12 harg12 arg13 harg13 arg14 harg14 arg15 harg15 v95 cst_64 := by
  rw [k0_part74_eq_skeleton]; rfl

end Cert.KernelIdeal.Gen
end
-- ==== Proof.RunKernelIdeal.lean ====
module
public import Idealize.ShloMosaic.Lib.Claim
public import proofs.«01_k».proof.Proof.Blocks
public import proofs.«01_k».proof.Proof.BodyKernelIdeal
public import proofs.«01_k».proof.Proof.Gen.KernelIdeal.Frame

/-! # `KernelIdeal`'s body runs, and so does its call: its frame

The body takes the scratch to `bodyF` and stores the block `outV` of the blocks it reads; the pipeline around it is the
frame kit's. -/

@[expose] public section
set_option maxRecDepth 65536
set_option maxHeartbeats 1000000

noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Da
variable {F : FTy → Type} [FloatOps F] [Named F]
local notation "𝕄" => MT nD τ sig Unit (Elt F) ℕ (UR sig nD τ) ℕ

/-- The block of queries a point is of. -/
abbrev qi (i : grid0.Coords) : Fin 4 := i 2

/-! ## Where the body reads the keys and values -/

theorem off1_eq : ∀ (i : grid0.Coords) (t : Fin (k0_t1_loop i).trips), k0_off1 i t 1#32 = ![0, 1024 * (Fin.ofNat 4 (2 * t.val + 1)).val, 128 * (0 : Fin 2).val] := by decide +kernel
theorem off1_eq' : ∀ (i : grid0.Coords) (t : Fin (k0_t1_loop i).trips), k0_off1 i t 2#32 = ![0, 1024 * (Fin.ofNat 4 (2 * t.val + 2)).val, 128 * (0 : Fin 2).val] := by decide +kernel
theorem off2_eq : ∀ (i : grid0.Coords) (t : Fin (k0_t1_loop i).trips), k0_off2 i t 1#32 = ![0, 1024 * (Fin.ofNat 4 (2 * t.val + 1)).val, 128 * (1 : Fin 2).val] := by decide +kernel
theorem off2_eq' : ∀ (i : grid0.Coords) (t : Fin (k0_t1_loop i).trips), k0_off2 i t 2#32 = ![0, 1024 * (Fin.ofNat 4 (2 * t.val + 2)).val, 128 * (1 : Fin 2).val] := by decide +kernel
theorem off3_eq : ∀ (i : grid0.Coords) (t : Fin (k0_t1_loop i).trips), k0_off3 i t = ![0, (Fin.ofNat 4 (2 * t.val)).val, 0, 0] := by decide +kernel
theorem off4_eq : ∀ (i : grid0.Coords) (t : Fin (k0_t1_loop i).trips), k0_off4 i t = ![0, (Fin.ofNat 4 (2 * t.val + 1)).val, 0, 0] := by decide +kernel
theorem off9_eq : ∀ i : grid0.Coords, k0_off9 i = ![0, 1024 * (qi i).val, 128 * (0 : Fin 2).val] := by decide +kernel
theorem off10_eq : ∀ i : grid0.Coords, k0_off10 i = ![0, 1024 * (qi i).val, 128 * (1 : Fin 2).val] := by decide +kernel
theorem off11_eq : ∀ i : grid0.Coords, k0_cond1 i = 1#1 → k0_off11 i = ![0, ((qi i) - 1).val, 0, 0] := by decide +kernel
theorem off12_eq : ∀ i : grid0.Coords, k0_off12 i = ![0, (qi i).val, 0, 0] := by decide +kernel
theorem off13_eq : ∀ i : grid0.Coords, k0_off13 i = ![0, (qi i).val, 0, 0] := by decide +kernel
theorem off14_eq : ∀ i : grid0.Coords, k0_off14 i = ![0, (qi i).val, 0, 0] := by decide +kernel
theorem off15_eq : ∀ i : grid0.Coords, k0_off15 i = ![0, (qi i).val, 0, 0] := by decide +kernel
theorem off16_eq : ∀ i : grid0.Coords, k0_off16 i = ![0, (qi i).val, 0, 0] := by decide +kernel
theorem off17_eq : ∀ i : grid0.Coords, k0_off17 i = ![0, (qi i).val, 0, 0] := by decide +kernel
theorem off18_eq : ∀ i : grid0.Coords, k0_off18 i = ![0, (qi i).val, 0, 0] := by decide +kernel
theorem off19_eq : ∀ i : grid0.Coords, k0_off19 i = ![0, (qi i).val, 0, 0] := by decide +kernel

section Body
variable {E : Set ℕ} {c : Dev nD} {Q : Vec F S1x1024x256 .bf16} {K : Vec F S1x4096x256 .bf16} {V : Vec F S1x4x128x1024 .bf16}

/-- A trip. -/
theorem does_tripP (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole) (t : Fin (k0_t1_loop i).trips) :
    Does harg3 harg4 harg5 harg12 harg13 harg14 harg15 Q K V (defs₀ (F := F)) E c (tripP i arg3 harg3 arg4 harg4 arg5 harg5 arg6 harg6 arg7 harg7 arg8 harg8 arg9 harg9 arg10 harg10 arg11 harg11 arg12 harg12 arg13 harg13 arg14 harg14 arg15 harg15 t) (tripF Q K V t.val) := by
  unfold tripP
  exact ((does_scoreP 1 0 _ _ _ (off1_eq i t)).bind fun _ => (does_scoreP 1 1 _ _ _ (off2_eq i t)).bind fun _ =>
    (does_consFull 0 _ _ _ (off3_eq i t)).bind fun _ => (does_scoreP 0 0 _ _ _ (off1_eq' i t)).bind fun _ =>
    (does_scoreP 0 1 _ _ _ (off2_eq' i t)).bind fun _ => does_consFull 1 _ _ _ (off4_eq i t)).congr fun σ => rfl

/-- The branch of an odd last block. -/
theorem does_odd (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole) :
    Does harg3 harg4 harg5 harg12 harg13 harg14 harg15 Q K V (defs₀ (F := F)) E c (if h1 : k0_cond1 i = 1#1 then diagOdd i h1 arg3 harg3 arg4 harg4 arg5 harg5 arg6 harg6 arg7 harg7 arg8 harg8 arg9 harg9 arg10 harg10 arg11 harg11 arg12 harg12 arg13 harg13 arg14 harg14 arg15 harg15 else pure ⟨⟩) (oddF neg Q K V (qi i)) := by
  by_cases h1 : k0_cond1 i = 1#1
  · rw [dif_pos h1]
    unfold diagOdd
    exact ((does_scoreP 1 0 _ _ _ (off9_eq i)).bind fun _ => (does_scoreP 1 1 _ _ _ (off10_eq i)).bind fun _ =>
      (does_consFull 0 _ _ _ (off11_eq i h1)).bind fun _ => does_consDiag neg 1 _ _ _ _ _ _ _ _ _ (off12_eq i) (off13_eq i) (off14_eq i) (off15_eq i)).congr
      fun σ => by unfold oddF; rw [if_pos ((cond1_iff i).1 h1)]; rfl
  · rw [dif_neg h1]
    exact (Does.pure _).congr fun σ => by unfold oddF; rw [if_neg (fun h => h1 ((cond1_iff i).2 h))]; rfl

/-- The branch of an even one. -/
theorem does_even (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole) :
    Does harg3 harg4 harg5 harg12 harg13 harg14 harg15 Q K V (defs₀ (F := F)) E c (if h2 : k0_cond2 i = 1#1 then diagEven i h2 arg3 harg3 arg4 harg4 arg5 harg5 arg6 harg6 arg7 harg7 arg8 harg8 arg9 harg9 arg10 harg10 arg11 harg11 arg12 harg12 arg13 harg13 arg14 harg14 arg15 harg15 else pure ⟨⟩) (evenF neg V (qi i)) := by
  by_cases h2 : k0_cond2 i = 1#1
  · rw [dif_pos h2]
    unfold diagEven
    exact (does_consDiag neg 0 _ _ _ _ _ _ _ _ _ (off16_eq i) (off17_eq i) (off18_eq i) (off19_eq i)).congr
      fun σ => by unfold evenF; rw [if_pos ((cond2_iff i).1 h2)]
  · rw [dif_neg h2]
    exact (Does.pure _).congr fun σ => by unfold evenF; rw [if_neg (fun h => h2 ((cond2_iff i).2 h))]; rfl

/-- What the body stores, of the blocks it reads. -/
def outV (i : grid0.Coords) (Q : Vec F S1x1024x256 .bf16) (K : Vec F S1x4096x256 .bf16) (V : Vec F S1x4x128x1024 .bf16)
    (x3 x4 x5 x6 : Vec F S1x64 .f32) (x7 : Vec F S1x128 .f32) : Vec F S1x1024x128 .bf16 :=
  k0_pay585 (k0_pay584 x3 x4 x5 x6) (Scalar.ofBits .f32 0x3E4CCCCD#32)
    (rowA (fun mp cc => (colAt neg Q K V (qi i) mp cc).a) 0) (rowM (fun mp cc => (colAt neg Q K V (qi i) mp cc).l) 0)
    (rowA (fun mp cc => (colAt neg Q K V (qi i) mp cc).a) 1) (rowM (fun mp cc => (colAt neg Q K V (qi i) mp cc).l) 1) x7

theorem z2 : ∀ a, (![0, 0] : Fin 2 → ℕ) a = 0 := by decide
theorem z3 : ∀ a, (![0, 0, 0] : Fin 3 → ℕ) a = 0 := by decide

/-- The kernel body on whole staging memrefs and its scratch at anything runs to the continuation holding the inputs' as they
    were and the output's at `outV` of them, the scratch at something. -/
theorem sound_kernel (c : Dev nD) (E : Set ℕ) (i : grid0.Coords) (arg3 : Memref sig .tc .vmem S1x1024x256 .bf16) (harg3 : arg3.IsWhole) (arg4 : Memref sig .tc .vmem S1x4096x256 .bf16) (harg4 : arg4.IsWhole) (arg5 : Memref sig .tc .vmem S1x4x128x1024 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x1024x128 .bf16) (harg11 : arg11.IsWhole) (arg12 : Memref sig .tc .vmem S2x2x1024x1024 .f32) (harg12 : arg12.IsWhole) (arg13 : Memref sig .tc .vmem S2x128x1024 .f32) (harg13 : arg13.IsWhole) (arg14 : Memref sig .tc .vmem S2x1x1024 .f32) (harg14 : arg14.IsWhole) (arg15 : Memref sig .tc .vmem S2x1x1024 .f32) (harg15 : arg15.IsWhole)
    (Q : Vec F S1x1024x256 .bf16) (K : Vec F S1x4096x256 .bf16) (V : Vec F S1x4x128x1024 .bf16)
    (x3 x4 x5 x6 : Vec F S1x64 .f32) (x7 : Vec F S1x128 .f32) (R : PUnit → sProp 𝕄) :
    iprop(owns (c : Thread nD τ) arg3 fullShare Q ∗ owns (c : Thread nD τ) arg4 fullShare K ∗ owns (c : Thread nD τ) arg5 fullShare V ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d)
        ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg3 fullShare Q ∗ owns (c : Thread nD τ) arg4 fullShare K ∗ owns (c : Thread nD τ) arg5 fullShare V ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (outV i Q K V x3 x4 x5 x6 x7)
          ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ R ⟨⟩))
      ⊢ wp frame (wpE (defs₀ (F := F)) Variants.none c none) E (cc0_diff_attn i arg3 harg3 arg4 harg4 arg5 harg5 arg6 harg6 arg7 harg7 arg8 harg8 arg9 harg9 arg10 harg10 arg11 harg11 arg12 harg12 arg13 harg13 arg14 harg14 arg15 harg15) R := by
  simp only [cc0_diff_attn_eq_skeleton]; unfold cc0_diff_attn_skel
  rw [part71_eq]
  simp only [wp_bind]
  iintro ⟨I3, I4, I5, I6, I7, I8, I9, I10, ⟨%d11, I11⟩, ⟨%d12, I12⟩, ⟨%d13, I13⟩, ⟨%d14, I14⟩, ⟨%d15, I15⟩, Hk⟩
  ihave H3 := (own_of_owns (c := c) arg3 harg3 _) $$ I3
  ihave H4 := (own_of_owns (c := c) arg4 harg4 _) $$ I4
  ihave H5 := (own_of_owns (c := c) arg5 harg5 _) $$ I5
  ihave H6 := (own_of_owns (c := c) arg6 harg6 _) $$ I6
  ihave H7 := (own_of_owns (c := c) arg7 harg7 _) $$ I7
  ihave H8 := (own_of_owns (c := c) arg8 harg8 _) $$ I8
  ihave H9 := (own_of_owns (c := c) arg9 harg9 _) $$ I9
  ihave H10 := (own_of_owns (c := c) arg10 harg10 _) $$ I10
  ihave H11 := (own_of_owns (c := c) arg11 harg11 _) $$ I11
  ihave H12 := (own_of_owns (c := c) arg12 harg12 _) $$ I12
  ihave H13 := (own_of_owns (c := c) arg13 harg13 _) $$ I13
  ihave H14 := (own_of_owns (c := c) arg14 harg14 _) $$ I14
  ihave H15 := (own_of_owns (c := c) arg15 harg15 _) $$ I15
  iapply (wp_initP (c := c) harg13 harg14 harg15 neg d13 d14 d15) $$ [H13 H14 H15]
  · isplitl [H13]; · iexact H13
    isplitl [H14]; · iexact H14
    iexact H15
  iintro ⟨H13, H14, H15⟩
  ihave HR := (show iprop(Own (τ := τ) c arg3 harg3 Q ∗ Own (τ := τ) c arg4 harg4 K ∗ Own (τ := τ) c arg5 harg5 V ∗ Own (τ := τ) c arg12 harg12 d12
      ∗ Own (τ := τ) c arg13 harg13 (glueA fun _ _ => (col0 neg).a) ∗ Own (τ := τ) c arg14 harg14 (glueM fun _ _ => (col0 neg).m)
      ∗ Own (τ := τ) c arg15 harg15 (glueM fun _ _ => (col0 neg).l)) ⊢ Res (τ := τ) harg3 harg4 harg5 harg12 harg13 harg14 harg15 Q K V c (st0 neg (fun b p x => d12 (ix4 b p (x 2 : Fin 1024) (x 3 : Fin 1024)))) from by
        unfold Res st0; rw [glueS_split]) $$ [H3 H4 H5 H12 H13 H14 H15]
  · isplitl [H3]; · iexact H3
    isplitl [H4]; · iexact H4
    isplitl [H5]; · iexact H5
    isplitl [H12]; · iexact H12
    isplitl [H13]; · iexact H13
    isplitl [H14]; · iexact H14
    iexact H15
  iapply (Does.wand (does_scoreP 0 0 (0 : Fin 4) _ _ rfl) _) $$ HR
  iintro %_ HR
  iapply (wp_ldK (0 : Fin 4) (1 : Fin 2) rfl _) $$ HR
  iintro HR
  rw [wp_pure]
  iapply fupd_intro
  obtain ⟨x72, h72⟩ := part72_eq i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (kblk K 0 1)
  dsimp only
  rw [h72]
  simp only [wp_bind]
  iapply (Does.wand (does_scoreTail 0 1 _) _) $$ HR
  iintro %_ HR
  iapply (Does.wand (Does.for (k0_t1_loop i) (k0_t1_ok i) (fun t u => does_tripP i arg3 harg3 arg4 harg4 arg5 harg5 arg6 harg6 arg7 harg7 arg8 harg8 arg9 harg9 arg10 harg10 arg11 harg11 arg12 harg12 arg13 harg13 arg14 harg14 arg15 harg15 t)) _) $$ HR
  iintro %_ HR
  rw [wp_pure]
  iapply fupd_intro
  rw [part73_eq]
  simp only [wp_bind]
  iapply (Does.wand (does_odd i arg3 harg3 arg4 harg4 arg5 harg5 arg6 harg6 arg7 harg7 arg8 harg8 arg9 harg9 arg10 harg10 arg11 harg11 arg12 harg12 arg13 harg13 arg14 harg14 arg15 harg15) _) $$ HR
  iintro %_ HR
  iapply (Does.wand (does_even i arg3 harg3 arg4 harg4 arg5 harg5 arg6 harg6 arg7 harg7 arg8 harg8 arg9 harg9 arg10 harg10 arg11 harg11 arg12 harg12 arg13 harg13 arg14 harg14 arg15 harg15) _) $$ HR
  iintro %_ HR
  unfold lamP
  simp only [wp_bind]
  iapply (wp_ld harg6 _) $$ H6
  iintro H6
  iapply (wp_ld harg7 _) $$ H7
  iintro H7
  iapply (wp_ld harg8 _) $$ H8
  iintro H8
  iapply (wp_ld harg9 _) $$ H9
  iintro H9
  rw [wp_pure]
  iapply fupd_intro
  rw [part74_eq]
  unfold tailP
  simp only [wp_bind]
  have hb : Res (τ := τ) harg3 harg4 harg5 harg12 harg13 harg14 harg15 Q K V c (bodyF neg Q K V (qi i) (k0_t1_loop i).trips (st0 neg (fun b p x => d12 (ix4 b p (x 2 : Fin 1024) (x 3 : Fin 1024)))))
      ⊢ iprop(Own (τ := τ) c arg3 harg3 Q ∗ Own (τ := τ) c arg4 harg4 K ∗ Own (τ := τ) c arg5 harg5 V ∗ (∃ X, Own (τ := τ) c arg12 harg12 X)
      ∗ Own (τ := τ) c arg13 harg13 (glueA fun mp cc => (colAt neg Q K V (qi i) mp cc).a) ∗ (∃ X, Own (τ := τ) c arg14 harg14 X)
      ∗ Own (τ := τ) c arg15 harg15 (glueM fun mp cc => (colAt neg Q K V (qi i) mp cc).l)) := by
    unfold Res
    rw [t1_trips, (bodyF_col neg Q K V (qi i) _).1, (bodyF_col neg Q K V (qi i) _).2]
    iintro ⟨H3, H4, H5, H12, H13, H14, H15⟩
    isplitl [H3]; · iexact H3
    isplitl [H4]; · iexact H4
    isplitl [H5]; · iexact H5
    isplitl [H12]; · iexists _; iexact H12
    isplitl [H13]; · iexact H13
    isplitl [H14]; · iexists _; iexact H14
    iexact H15
  unfold bodyF scF tile at hb
  ihave HR := hb $$ HR
  icases HR with ⟨H3, H4, H5, ⟨%X12, H12⟩, H13, ⟨%X14, H14⟩, H15⟩
  iapply (wp_ld harg13 _) $$ H13
  iintro H13
  iapply (wp_ld harg15 _) $$ H15
  iintro H15
  iapply (wp_ld harg13 _) $$ H13
  iintro H13
  iapply (wp_ld harg15 _) $$ H15
  iintro H15
  iapply (wp_ld harg10 _) $$ H10
  iintro H10
  iapply (wp_ld harg11 _) $$ H11
  iintro H11
  iapply (wp_st harg11 _ (outV i Q K V x3 x4 x5 x6 x7)
    (fun x => by
      refine (congrArg (outV i Q K V x3 x4 x5 x6 x7) (emb_whole z3 _ x)).trans (congrFun ?_ x)
      unfold outV
      rw [← rowA_at (fun mp cc => (colAt neg Q K V (qi i) mp cc).a) 0 ![0, 0, 0] rfl inb_S2x128x1024_S1x128x1024_0_0_0,
        ← rowM_at (fun mp cc => (colAt neg Q K V (qi i) mp cc).l) 0 ![0, 0, 0] rfl inb_S2x1x1024_S1x1x1024_0_0_0,
        ← rowA_at (fun mp cc => (colAt neg Q K V (qi i) mp cc).a) 1 ![1, 0, 0] rfl inb_S2x128x1024_S1x128x1024_1_0_0,
        ← rowM_at (fun mp cc => (colAt neg Q K V (qi i) mp cc).l) 1 ![1, 0, 0] rfl inb_S2x1x1024_S1x1x1024_1_0_0]
      exact (congr (congrArg (fun v95 => k0_pay585 v95 _ _ _ _ _) (congr (congr (congr (congrArg k0_pay584 (ld_whole (X := x3) z2 _).symm) (ld_whole (X := x4) z2 _).symm) (ld_whole (X := x5) z2 _).symm) (ld_whole (X := x6) z2 _).symm)) (ld_whole (X := x7) z2 _).symm))
    (fun y hy => (notin_whole z3 _ y hy).elim)) $$ H11
  iintro H11
  rw [wp_pure]
  iapply fupd_intro
  iapply Hk
  isplitl [H3]; · iapply (owns_of_own (c := c) arg3 harg3 _) $$ H3
  isplitl [H4]; · iapply (owns_of_own (c := c) arg4 harg4 _) $$ H4
  isplitl [H5]; · iapply (owns_of_own (c := c) arg5 harg5 _) $$ H5
  isplitl [H6]; · iapply (owns_of_own (c := c) arg6 harg6 _) $$ H6
  isplitl [H7]; · iapply (owns_of_own (c := c) arg7 harg7 _) $$ H7
  isplitl [H8]; · iapply (owns_of_own (c := c) arg8 harg8 _) $$ H8
  isplitl [H9]; · iapply (owns_of_own (c := c) arg9 harg9 _) $$ H9
  isplitl [H10]; · iapply (owns_of_own (c := c) arg10 harg10 _) $$ H10
  isplitl [H11]; · iapply (owns_of_own (c := c) arg11 harg11 _) $$ H11
  isplitl [H12]; · iexists _; iapply (owns_of_own (c := c) arg12 harg12 _) $$ H12
  isplitl [H13]; · iexists _; iapply (owns_of_own (c := c) arg13 harg13 _) $$ H13
  isplitl [H14]; · iexists _; iapply (owns_of_own (c := c) arg14 harg14 _) $$ H14
  iexists _; iapply (owns_of_own (c := c) arg15 harg15 _) $$ H15

end Body

/-! ## The pipeline's proof data -/

variable (m : (ℓ : Loc nD τ sig) → Buf (Elt F) ℓ) (ρ : Dev nD → PrngReg)

/-- The arrays as the region finds them; after the body each input's buffer at its block, the output's at `outV` of the input
    blocks; the scoped rest at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outV (grid0.coords t) (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outV (grid0.coords t) (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The invariant opened: the scratch at anything, and the generator register. -/
theorem Φ_eq (c : Dev nD) (k) : (dats m 0 c).Φ k = iprop(((∃ d, owns (c : Thread nD τ) (Memref.whole cc0_scratch0) fullShare d)
    ∗ (∃ d, owns (c : Thread nD τ) (Memref.whole cc0_scratch1) fullShare d) ∗ (∃ d, owns (c : Thread nD τ) (Memref.whole cc0_scratch2) fullShare d)
    ∗ (∃ d, owns (c : Thread nD τ) (Memref.whole cc0_scratch3) fullShare d)) ∗ ∃ r, prngReg c r) := by
  show Pipeline.ΦA spec0 c = _
  unfold Pipeline.ΦA
  rw [scopedRest0_eq]
  simp only [owns_whole]

/-- The body at any point: the inputs' memrefs hold their blocks, the scratch is lent out of the invariant and given back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl, Φ_eq, Φ_eq,
    after0_0, after0_1, after0_2, after0_3, after0_4, after0_5, after0_6, after0_7, after0_8]
  iintro ⟨⟨⟨S0, S1, S2, S3⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexact S0
  isplitl [S1]; · iexact S1
  isplitl [S2]; · iexact S2
  isplitl [S3]; · iexact S3
  iintro ⟨H0, H1, H2, H3, H4, H5, H6, H7, H8, S0, S1, S2, S3⟩
  isplitl [S0 S1 S2 S3 Hr]
  · isplitl [S0 S1 S2 S3]
    · isplitl [S0]; · iexact S0
      isplitl [S1]; · iexact S1
      isplitl [S2]; · iexact S2
      iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline at what the proof data says, every counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Gen
end
-- ==== Proof.Pay.lean ====
module
public import proofs.«01_k».proof.Proof.Blocks
import Idealize.ShloMosaic.Lib.Pointwise

/-! # A strip's update, read at one query

Over the extended reals each payload of a strip's update is, at one query, an expression in that query's column alone. -/

@[expose] public section
set_option maxRecDepth 16384
noncomputable section
open Idealize.ShloMosaic Idealize.ShloMosaic.TcCoe Idealize.SL.Sem
namespace Cert.Da

/-- A score is the product of a key's row and a query's. -/
theorem payS_at (k q : Vec Ideal TQ .bf16) (x y : Fin 1024) :
    payS k q (ix4 0 0 x y) = ∑ l : Fin 128, k (ix3 0 x l) * q (ix3 0 y l) := by
  pointwise [payS, dotS]

/-- The lengths a strip can have. -/
abbrev IsNk (nk : ℕ) : Prop := nk = 256 ∨ nk = 512 ∨ nk = 768 ∨ nk = 1024

variable {nk : ℕ} (H : NkFacts nk) (hnk : IsNk nk)
include hnk

theorem full_at (s : Vec Ideal ⟨4, ![1, 1, nk, 256]⟩ .f32) (k : Fin nk) (x : Fin 256) :
    full H s (ix2 k x) = s (ix4 0 0 k x) := by
  rcases hnk with rfl | rfl | rfl | rfl <;> pointwise [full]

theorem diag_at (neg : Ideal .f32) (off : BitVec 32) (s : Vec Ideal ⟨4, ![1, 1, nk, 256]⟩ .f32) (k : Fin nk) (x : Fin 256) :
    diag H neg off s (ix2 k x) = Scalar.select (IntOp.cmpi CmpIPredicate.sle (BitVec.ofNat 32 k.val) (IntOp.addi (BitVec.ofNat 32 x.val) off))
      (s (ix4 0 0 k x)) neg := by
  rcases hnk with rfl | rfl | rfl | rfl <;> pointwise [diag]

theorem nmax_at (s : FVec Ideal ⟨2, ![nk, 256]⟩ .f32) (m : Vec Ideal TM .f32) (x : Fin 256) :
    nmax H s m (ix2 0 x) = max (m (ix3 0 0 x)) (Finset.fold max (Ideal.ofBits FTy.f32 4286578688#32) (fun k => s (ix2 k x)) Finset.univ) := by
  rcases hnk with rfl | rfl | rfl | rfl <;> pointwise [nmax]

theorem payM_at (s : FVec Ideal ⟨2, ![nk, 256]⟩ .f32) (m : Vec Ideal TM .f32) (x : Fin 256) :
    payM H s m (ix3 0 0 x) = nmax H s m (ix2 0 x) := by
  rcases hnk with rfl | rfl | rfl | rfl <;> pointwise [payM]

theorem payL_at (s : FVec Ideal ⟨2, ![nk, 256]⟩ .f32) (m l : Vec Ideal TM .f32) (x : Fin 256) :
    payL H s m l (ix3 0 0 x) = Ideal.exp2 (m (ix3 0 0 x) - nmax H s m (ix2 0 x)) * l (ix3 0 0 x)
      + ∑ k : Fin nk, Ideal.exp2 (s (ix2 k x) - nmax H s m (ix2 0 x)) := by
  rcases hnk with rfl | rfl | rfl | rfl <;> pointwise [payL, alph, wts, dotN] <;> rfl

theorem payA_at (s : FVec Ideal ⟨2, ![nk, 256]⟩ .f32) (m : Vec Ideal TM .f32) (a : Vec Ideal TA .f32) (v : Vec Ideal ⟨4, ![1, 1, 128, nk]⟩ .bf16) (d : Fin 128) (x : Fin 256) :
    payA H s m a v (ix3 0 d x) = Ideal.exp2 (m (ix3 0 0 x) - nmax H s m (ix2 0 x)) * a (ix3 0 d x)
      + ∑ k : Fin nk, v (ix4 0 0 d k) * Ideal.exp2 (s (ix2 k x) - nmax H s m (ix2 0 x)) := by
  rcases hnk with rfl | rfl | rfl | rfl <;> pointwise [payA, alph, wts, dotN] <;> rfl
end Cert.Da
end
-- ==== Proof.Online.lean ====
module
public import Idealize.ShloMosaic.Lib.Pipeline.ValueKit
import Idealize.ShloMosaic.Lib.Pointwise

/-! # The running maximum, sum and weighted sum of a softmax in base two

A state `(m, l, a)` holds the sums `Z` and `W` of the terms met so far, both scaled by `2^(-m)`; before any term it is
`(⊥, 0, 0)`.  One step over a block of scores keeps this, whatever the block's maximum is. -/

@[expose] public section
noncomputable section
open Idealize.ShloMosaic
namespace Cert.Da

/-- Two to a score, as a real. -/
def e2 (x : EReal) : ℝ := (Ideal.exp2 x).toReal

/-- Two to a real. -/
def p2 (r : ℝ) : ℝ := Real.rpow 2 r

theorem e2_coe (r : ℝ) : e2 (r : EReal) = p2 r := by simp [e2, p2, Ideal.exp2_coe]

theorem e2_bot : e2 ⊥ = 0 := by simp [e2, Ideal.exp2_bot]

theorem p2_pos (r : ℝ) : 0 < p2 r := Real.rpow_pos_of_pos two_pos r

theorem p2_add (r s : ℝ) : p2 (r + s) = p2 r * p2 s := Real.rpow_add two_pos r s

/-- A score below a real maximum. -/
theorem exp2_sub {s : EReal} (hs : s ≠ ⊤) (μ : ℝ) : Ideal.exp2 (s - (μ : EReal)) = ((p2 (-μ) * e2 s : ℝ) : EReal) := by
  induction s with
  | bot => rw [EReal.bot_sub, e2_bot, Ideal.exp2_bot]; simp
  | top => exact absurd rfl hs
  | coe r =>
    rw [← EReal.coe_sub, e2_coe, Ideal.exp2_coe, ← p2_add]
    show ((p2 (r - μ) : ℝ) : EReal) = _
    congr 2
    ring

theorem coe_sum {ι : Type} (s : Finset ι) (f : ι → ℝ) : ((∑ i ∈ s, f i : ℝ) : EReal) = ∑ i ∈ s, ((f i : ℝ) : EReal) := by
  classical
  induction s using Finset.induction with
  | empty => simp
  | insert a s h ih => rw [Finset.sum_insert h, Finset.sum_insert h, EReal.coe_add, ih]

/-- A state holds the sums `Z` and `W`. -/
def Inv (m l a : EReal) (Z W : ℝ) : Prop :=
  (m = ⊥ ∧ l = 0 ∧ a = 0 ∧ Z = 0 ∧ W = 0) ∨ ∃ μ : ℝ, m = (μ : EReal) ∧ l = ((p2 (-μ) * Z : ℝ) : EReal) ∧ a = ((p2 (-μ) * W : ℝ) : EReal)

/-- The new maximum is a real. -/
theorem max_real {n : ℕ} {m : EReal} {s : Fin n → EReal} (hm : m ≠ ⊤) (hs : ∀ k, s k ≠ ⊤) (hex : ∃ k, s k ≠ ⊥) :
    ∃ μ : ℝ, max m (Finset.fold max ⊥ s Finset.univ) = (μ : EReal) := by
  have e : Finset.fold max (⊥ : EReal) s Finset.univ = Finset.univ.sup s := rfl
  rw [e]
  have ht : max m (Finset.univ.sup s) ≠ ⊤ := by
    refine ne_of_lt (max_lt (lt_top_iff_ne_top.2 hm) ?_)
    exact (Finset.sup_lt_iff (bot_lt_top)).2 fun k _ => lt_top_iff_ne_top.2 (hs k)
  have hb : max m (Finset.univ.sup s) ≠ ⊥ := by
    obtain ⟨k, hk⟩ := hex
    refine ne_of_gt (lt_of_lt_of_le (bot_lt_iff_ne_bot.2 hk) ?_)
    exact le_max_of_le_right (Finset.le_sup (f := s) (Finset.mem_univ k))
  exact ⟨_, (EReal.coe_toReal ht hb).symm⟩

/-- One block. -/
theorem Inv.step {m l a : EReal} {Z W : ℝ} (h : Inv m l a Z W) {n : ℕ} {s v : Fin n → EReal} {w : Fin n → ℝ} {m' : EReal}
    (hm' : m' = max m (Finset.fold max ⊥ s Finset.univ)) (hs : ∀ k, s k ≠ ⊤) (hex : ∃ k, s k ≠ ⊥) (hv : ∀ k, v k = (w k : EReal)) :
    Inv m' (Ideal.exp2 (m - m') * l + ∑ k, Ideal.exp2 (s k - m')) (Ideal.exp2 (m - m') * a + ∑ k, v k * Ideal.exp2 (s k - m'))
      (Z + ∑ k, e2 (s k)) (W + ∑ k, w k * e2 (s k)) := by
  have hm : m ≠ ⊤ := by
    rcases h with ⟨rfl, _⟩ | ⟨μ, rfl, _⟩
    · exact bot_ne_top
    · exact EReal.coe_ne_top μ
  obtain ⟨μ', e⟩ := max_real hm hs hex
  rw [e] at hm'
  subst hm'
  have hl : ∑ k, Ideal.exp2 (s k - (μ' : EReal)) = ((p2 (-μ') * ∑ k, e2 (s k) : ℝ) : EReal) := by
    rw [Finset.mul_sum, coe_sum]
    exact Finset.sum_congr rfl fun k _ => exp2_sub (hs k) μ'
  have ha : ∑ k, v k * Ideal.exp2 (s k - (μ' : EReal)) = ((p2 (-μ') * ∑ k, w k * e2 (s k) : ℝ) : EReal) := by
    rw [Finset.mul_sum, coe_sum]
    refine Finset.sum_congr rfl fun k _ => ?_
    rw [hv, exp2_sub (hs k), ← EReal.coe_mul]
    congr 1
    ring
  refine Or.inr ⟨μ', rfl, ?_, ?_⟩
  · rcases h with ⟨rfl, rfl, rfl, rfl, rfl⟩ | ⟨μ, rfl, rfl, rfl⟩
    · rw [hl, mul_zero, zero_add, zero_add]
    · rw [hl, exp2_sub (EReal.coe_ne_top μ), e2_coe, ← EReal.coe_mul, ← EReal.coe_add]
      congr 1
      have : p2 μ * p2 (-μ) = 1 := by rw [← p2_add]; simp [p2]
      linear_combination p2 (-μ') * Z * this
  · rcases h with ⟨rfl, rfl, rfl, rfl, rfl⟩ | ⟨μ, rfl, rfl, rfl⟩
    · rw [ha, mul_zero, zero_add, zero_add]
    · rw [ha, exp2_sub (EReal.coe_ne_top μ), e2_coe, ← EReal.coe_mul, ← EReal.coe_add]
      congr 1
      have : p2 μ * p2 (-μ) = 1 := by rw [← p2_add]; simp [p2]
      linear_combination p2 (-μ') * W * this

/-- What is left at the end: the quotient of the sums. -/
theorem Inv.div {m l a : EReal} {Z W : ℝ} (h : Inv m l a Z W) (hZ : 0 < Z) : Ideal.div a l = ((W / Z : ℝ) : EReal) := by
  rcases h with ⟨_, _, _, rfl, _⟩ | ⟨μ, _, rfl, rfl⟩
  · exact absurd hZ (lt_irrefl 0)
  · have hp := p2_pos (-μ)
    rw [Ideal.div_coe (by positivity), ← EReal.coe_mul]
    congr 1
    field_simp
end Cert.Da
end
-- ==== Proof.Column.lean ====
module
public import proofs.«01_k».proof.Proof.Pay
public import proofs.«01_k».proof.Proof.Online

/-! # What one query's column holds after its blocks

With every score and every value a real, the state at query `256 c + x` of tile `j` holds the sums over the keys up to
that query: of two to the score, and of the value times it. -/

@[expose] public section
set_option maxRecDepth 16384
noncomputable section
open Idealize.ShloMosaic Idealize.ShloMosaic.TcCoe Idealize.SL.Sem
open Finset (range)
namespace Cert.Da

theorem ofBits_neg_inf : Ideal.ofBits FTy.f32 4286578688#32 = (⊥ : EReal) := by simp [Ideal.ofBits, Ideal.ieee]

/-- The diagonal's mask on the counters of a strip. -/
theorem sel_sle {α : Type} {k x o : ℕ} (hk : k < 1024) (hx : x < 256) (ho : o < 1024) (a b : α) :
    Scalar.select (IntOp.cmpi CmpIPredicate.sle (BitVec.ofNat 32 k) (IntOp.addi (BitVec.ofNat 32 x) (BitVec.ofNat 32 o))) a b = if k ≤ x + o then a else b := by
  have e : (BitVec.ofNat 32 k).sle (BitVec.ofNat 32 x + BitVec.ofNat 32 o) = decide (k ≤ x + o) := by
    rw [← BitVec.ofNat_add, BitVec.sle_eq_decide, BitVec.toInt_eq_toNat_of_lt, BitVec.toInt_eq_toNat_of_lt]
    · simp only [BitVec.toNat_ofNat]
      rw [Nat.mod_eq_of_lt (by omega), Nat.mod_eq_of_lt (by omega)]
      norm_cast
    · simp only [BitVec.toNat_ofNat]; omega
    · simp only [BitVec.toNat_ofNat]; omega
  simp only [Scalar.select, IntOp.cmpi, IntOp.addi, e]
  by_cases h : k ≤ x + o <;> simp [h]

/-- One strip's update keeps the sums. -/
theorem upd_inv {nk : ℕ} (H : NkFacts nk) (hnk : IsNk nk) (s : FVec Ideal ⟨2, ![nk, 256]⟩ .f32) (m l : Vec Ideal TM .f32) (a : Vec Ideal TA .f32)
    (v : Vec Ideal ⟨4, ![1, 1, 128, nk]⟩ .bf16) (x : Fin 256) (d : Fin 128) (S : Fin nk → EReal) (w : Fin nk → ℝ) {Z W : ℝ}
    (h : Inv (m (ix3 0 0 x)) (l (ix3 0 0 x)) (a (ix3 0 d x)) Z W) (hS : ∀ k, s (ix2 k x) = S k) (hs : ∀ k, S k ≠ ⊤) (hex : ∃ k, S k ≠ ⊥)
    (hv : ∀ k, v (ix4 0 0 d k) = ((w k : ℝ) : EReal)) :
    Inv (payM H s m (ix3 0 0 x)) (payL H s m l (ix3 0 0 x)) (payA H s m a v (ix3 0 d x)) (Z + ∑ k, e2 (S k)) (W + ∑ k, w k * e2 (S k)) := by
  obtain rfl : (fun k => s (ix2 k x)) = S := funext hS
  rw [payM_at H hnk, payL_at H hnk, payA_at H hnk]
  exact h.step (by rw [nmax_at H hnk, ofBits_neg_inf]) hs hex hv

/-- A strip's query is one of its tile's. -/
theorem col_lt (c : Fin 4) (x : Fin 256) : 256 * c.val + x.val < 1024 := by omega

variable {Q : Vec Ideal SQ .bf16} {K : Vec Ideal SK .bf16} {V : Vec Ideal SV .bf16} {neg : Ideal .f32} (hneg : neg = (⊥ : EReal))
  {mp : Fin 2} {c : Fin 4} {x : Fin 256} {d : Fin 128} {sR vN : ℕ → ℝ}
  (hS : ∀ (b : Fin 4) (k : Fin 1024), tile Q K b mp (ix4 0 0 k ⟨256 * c.val + x.val, col_lt c x⟩) = ((sR (1024 * b.val + k.val) : ℝ) : EReal))
  (hV : ∀ (b : Fin 4) (k : Fin 1024), V (ix4 0 b d k) = ((vN (1024 * b.val + k.val) : ℝ) : EReal))
include hneg hS hV

/-- After the first `n` full blocks. -/
theorem colFull_inv : ∀ n, n ≤ 4 → Inv ((colFull neg Q K V mp c n).m (ix3 0 0 x)) ((colFull neg Q K V mp c n).l (ix3 0 0 x))
    ((colFull neg Q K V mp c n).a (ix3 0 d x)) (∑ kk ∈ range (1024 * n), p2 (sR kk)) (∑ kk ∈ range (1024 * n), vN kk * p2 (sR kk))
  | 0, _ => Or.inl ⟨hneg, Ideal.ofBits_zero_f32, Ideal.ofBits_zero_f32, by simp, by simp⟩
  | n + 1, hn => by
    have h := upd_inv nk1024 (.inr (.inr (.inr rfl))) (full nk1024 (strip (le_refl _) c (tile Q K (Fin.ofNat 4 n) mp))) _ _ _
      (vblk V (le_refl _) (Fin.ofNat 4 n)) x d (fun k => ((sR (1024 * n + k.val) : ℝ) : EReal)) (fun k => vN (1024 * n + k.val))
      (colFull_inv n (by omega))
      (fun k => by
        rw [full_at nk1024 (.inr (.inr (.inr rfl)))]
        refine (hS (Fin.ofNat 4 n) k).trans ?_
        rw [Fin.val_ofNat, Nat.mod_eq_of_lt (by omega)])
      (fun k => EReal.coe_ne_top _) ⟨0, EReal.coe_ne_bot _⟩
      (fun k => by
        refine (hV (Fin.ofNat 4 n) k).trans ?_
        rw [Fin.val_ofNat, Nat.mod_eq_of_lt (by omega)])
    simp only [e2_coe] at h
    rw [Fin.sum_univ_eq_sum_range (fun k => p2 (sR (1024 * n + k))), Fin.sum_univ_eq_sum_range (fun k => vN (1024 * n + k) * p2 (sR (1024 * n + k))),
      ← Finset.sum_range_add, ← Finset.sum_range_add (fun kk => vN kk * p2 (sR kk))] at h
    exact h

/-- The terms a query keeps. -/
def keep (sR : ℕ → ℝ) (qq kk : ℕ) : ℝ := if kk ≤ qq then p2 (sR kk) else 0

omit hneg hS hV in
/-- The kept terms are those of the full blocks and of the diagonal's strip. -/
theorem sum_keep (f : ℕ → ℝ) (j c x : ℕ) (hj : j < 4) (hc : c < 4) (hx : x < 256) :
    ∑ kk ∈ range (1024 * j), f kk * p2 (sR kk) + ∑ k ∈ range (256 * c + 256), f (1024 * j + k) * (if k ≤ x + 256 * c then p2 (sR (1024 * j + k)) else 0)
      = ∑ kk ∈ range 4096, f kk * keep sR (1024 * j + (256 * c + x)) kk := by
  have e1 : ∑ kk ∈ range (1024 * j), f kk * p2 (sR kk) = ∑ kk ∈ range (1024 * j), f kk * keep sR (1024 * j + (256 * c + x)) kk :=
    Finset.sum_congr rfl fun kk hk => by
      have := Finset.mem_range.1 hk
      rw [keep, if_pos (by omega)]
  have e2 : ∑ k ∈ range (256 * c + 256), f (1024 * j + k) * (if k ≤ x + 256 * c then p2 (sR (1024 * j + k)) else 0)
      = ∑ k ∈ range (256 * c + 256), f (1024 * j + k) * keep sR (1024 * j + (256 * c + x)) (1024 * j + k) :=
    Finset.sum_congr rfl fun k _ => by
      rw [keep]
      by_cases h : k ≤ x + 256 * c
      · rw [if_pos h, if_pos (by omega)]
      · rw [if_neg h, if_neg (by omega)]
  rw [e1, e2, ← Finset.sum_range_add (fun kk => f kk * keep sR (1024 * j + (256 * c + x)) kk)]
  refine Finset.sum_subset (fun a ha => Finset.mem_range.2 ?_) (fun a _ ha => ?_)
  · have := Finset.mem_range.1 ha; omega
  · have : ¬ a < 1024 * j + (256 * c + 256) := fun h => ha (Finset.mem_range.2 h)
    rw [keep, if_neg (by omega), mul_zero]

/-- The diagonal's strip of `nk = o + 256` keys. -/
theorem diag_inv {nk : ℕ} (H : NkFacts nk) (hnk : IsNk nk) (hn : nk ≤ 1024) (j : Fin 4) (ho : nk = 256 * c.val + 256) :
    let C := (updOf H hn (diag H neg (BitVec.ofNat 32 (256 * c.val))) c (vblk V hn j)).app (tile Q K j mp) (colFull neg Q K V mp c j.val)
    Inv (C.m (ix3 0 0 x)) (C.l (ix3 0 0 x)) (C.a (ix3 0 d x))
      (∑ kk ∈ range 4096, keep sR (1024 * j.val + (256 * c.val + x.val)) kk)
      (∑ kk ∈ range 4096, vN kk * keep sR (1024 * j.val + (256 * c.val + x.val)) kk) := by
  intro C
  have h := upd_inv H hnk (diag H neg (BitVec.ofNat 32 (256 * c.val)) (strip hn c (tile Q K j mp))) _ _ _
      (vblk V hn j) x d (fun k => if k.val ≤ x.val + 256 * c.val then ((sR (1024 * j.val + k.val) : ℝ) : EReal) else ⊥) (fun k => vN (1024 * j.val + k.val))
      (colFull_inv hneg hS hV j.val (by omega))
      (fun k => by
        rw [diag_at H hnk]
        refine (sel_sle (by omega) (by omega) (by omega) _ _).trans ?_
        rw [hneg]
        by_cases hk : k.val ≤ x.val + 256 * c.val
        · rw [if_pos hk, if_pos hk]
          exact hS j ⟨k.val, by omega⟩
        · rw [if_neg hk, if_neg hk])
      (fun k => by by_cases hk : k.val ≤ x.val + 256 * c.val <;> simp [hk])
      ⟨⟨0, by omega⟩, by simp⟩
      (fun k => hV j ⟨k.val, by omega⟩)
  have e : ∀ k : Fin nk, e2 (if k.val ≤ x.val + 256 * c.val then ((sR (1024 * j.val + k.val) : ℝ) : EReal) else ⊥)
      = if k.val ≤ x.val + 256 * c.val then p2 (sR (1024 * j.val + k.val)) else 0 := fun k => by
    by_cases hk : k.val ≤ x.val + 256 * c.val
    · rw [if_pos hk, if_pos hk, e2_coe]
    · rw [if_neg hk, if_neg hk, e2_bot]
  simp only [e] at h
  rw [Fin.sum_univ_eq_sum_range (fun k => if k ≤ x.val + 256 * c.val then p2 (sR (1024 * j.val + k)) else 0),
    Fin.sum_univ_eq_sum_range (fun k => vN (1024 * j.val + k) * if k ≤ x.val + 256 * c.val then p2 (sR (1024 * j.val + k)) else 0)] at h
  have s1 := sum_keep (sR := sR) (fun _ => 1) j.val c.val x.val j.isLt c.isLt x.isLt
  have s2 := sum_keep (sR := sR) vN j.val c.val x.val j.isLt c.isLt x.isLt
  simp only [one_mul] at s1
  subst ho
  rw [s1, s2] at h
  exact h

omit hneg hS hV in
theorem diagU_0 (b : Fin 4) : diagU neg V b 0 = updOf nk256 le256 (diag nk256 neg (BitVec.ofNat 32 (256 * (0 : Fin 4).val))) 0 (vblk V le256 b) := rfl
omit hneg hS hV in
theorem diagU_1 (b : Fin 4) : diagU neg V b 1 = updOf nk512 le512 (diag nk512 neg (BitVec.ofNat 32 (256 * (1 : Fin 4).val))) 1 (vblk V le512 b) := rfl
omit hneg hS hV in
theorem diagU_2 (b : Fin 4) : diagU neg V b 2 = updOf nk768 le768 (diag nk768 neg (BitVec.ofNat 32 (256 * (2 : Fin 4).val))) 2 (vblk V le768 b) := rfl
omit hneg hS hV in
theorem diagU_3 (b : Fin 4) : diagU neg V b 3 = updOf nk1024 (le_refl _) (diag nk1024 neg (BitVec.ofNat 32 (256 * (3 : Fin 4).val))) 3 (vblk V (le_refl _) b) := rfl

/-- After every block. -/
theorem colAt_inv (j : Fin 4) :
    Inv ((colAt neg Q K V j mp c).m (ix3 0 0 x)) ((colAt neg Q K V j mp c).l (ix3 0 0 x)) ((colAt neg Q K V j mp c).a (ix3 0 d x))
      (∑ kk ∈ range 4096, keep sR (1024 * j.val + (256 * c.val + x.val)) kk)
      (∑ kk ∈ range 4096, vN kk * keep sR (1024 * j.val + (256 * c.val + x.val)) kk) := by
  unfold colAt
  have h0 : c = 0 ∨ c = 1 ∨ c = 2 ∨ c = 3 := (by decide : ∀ c : Fin 4, c = 0 ∨ c = 1 ∨ c = 2 ∨ c = 3) c
  rcases h0 with rfl | rfl | rfl | rfl
  · rw [diagU_0]; exact diag_inv hneg hS hV nk256 (.inl rfl) le256 j rfl
  · rw [diagU_1]; exact diag_inv hneg hS hV nk512 (.inr (.inl rfl)) le512 j rfl
  · rw [diagU_2]; exact diag_inv hneg hS hV nk768 (.inr (.inr (.inl rfl))) le768 j rfl
  · rw [diagU_3]; exact diag_inv hneg hS hV nk1024 (.inr (.inr (.inr rfl))) (le_refl _) j rfl

omit hneg hS hV in
theorem keep_pos (qq : ℕ) (h : qq < 4096) : 0 < ∑ kk ∈ range 4096, keep sR qq kk := by
  refine lt_of_lt_of_le (p2_pos (sR 0)) ?_
  have h0 : p2 (sR 0) = keep sR qq 0 := by rw [keep, if_pos (Nat.zero_le _)]
  rw [h0]
  refine Finset.single_le_sum (f := fun kk => keep sR qq kk) (fun kk _ => ?_) (Finset.mem_range.2 (by omega))
  show 0 ≤ keep sR qq kk
  rw [keep]
  split
  · exact (p2_pos _).le
  · exact le_refl _

/-- The quotient the kernel takes at the end. -/
theorem colAt_div (j : Fin 4) :
    Ideal.div ((colAt neg Q K V j mp c).a (ix3 0 d x)) ((colAt neg Q K V j mp c).l (ix3 0 0 x))
      = (((∑ kk ∈ range 4096, vN kk * keep sR (1024 * j.val + (256 * c.val + x.val)) kk)
          / ∑ kk ∈ range 4096, keep sR (1024 * j.val + (256 * c.val + x.val)) kk : ℝ) : EReal) :=
  (colAt_inv hneg hS hV j).div (keep_pos _ (by omega))

end Cert.Da
end
-- ==== Proof.DaRef.lean ====
module
public import proofs.«01_k».proof.Proof.Gen.ReferenceIdeal.Read
public import Idealize.ShloMosaic.Lib.Pointwise.Index
public import proofs.«01_k».proof.Proof.Column
import Idealize.ShloMosaic.Lib.Pointwise

/-! # The reference, read at one index

Each value of the reference at literal indices; with every argument a real, a row of its masked softmax is the kept
terms over their sum, and the attention's output is the difference of the two maps' quotients. -/

@[expose] public section
set_option maxRecDepth 16384
noncomputable section
open Idealize.ShloMosaic Idealize.ShloMosaic.TcCoe Idealize.SL.Sem
/-- The head's norm over its 128 lanes, its gain and the layer's scale. -/
def Cert.Da.rmsO (o g : Fin 128 → EReal) (d : Fin 128) : EReal :=
  o d * Ideal.rsqrt (Ideal.div (∑ k, o k * o k) (Ideal.ofBits .f32 0x43000000#32) + Ideal.ofBits .f32 0x358637BD#32) * g d * Ideal.ofBits .f32 0x3F4CCCCD#32

namespace Cert.DaRef
open Cert.ReferenceIdeal Cert.ReferenceIdeal.Read
variable (x0 x1 : FVec Ideal S8x4096x1024 .bf16) (x2 : FVec Ideal S8x4x512x1024 .bf16) (x3 x4 x5 x6 : FVec Ideal S64 .f32) (x7 : FVec Ideal S128 .f32)
  (b : Fin 8) (h : Fin 4) (mp : Fin 2) (qq kk : Fin 4096) (d : Fin 128)

/-- The queries of a head and map. -/
theorem v2_at (l : Fin 128) (e : Fin 1024) (he : e.val = 256 * h.val + 128 * mp.val + l.val) :
    val_main_v2 (F := Ideal) x0 (ix5 b h mp qq l) = x0 (ix3 b qq e) := by
  rw [val_main_v2_apply, val_main_v1_apply]
  show x0 _ = x0 _
  refine congrArg x0 (funext fun a => ?_)
  fin_cases a <;> refine Fin.ext ?_
  · show ((((b.val * 4096 + qq.val) * 4 + h.val) * 2 + mp.val) * 128 + l.val) / 4194304 = b.val; omega
  · show ((((b.val * 4096 + qq.val) * 4 + h.val) * 2 + mp.val) * 128 + l.val) / 1024 % 4096 = qq.val; omega
  · show ((((b.val * 4096 + qq.val) * 4 + h.val) * 2 + mp.val) * 128 + l.val) % 1024 = e.val; omega

/-- The keys. -/
theorem v5_at (l : Fin 128) (e : Fin 1024) (he : e.val = 256 * h.val + 128 * mp.val + l.val) :
    val_main_v5 (F := Ideal) x1 (ix5 b h mp kk l) = x1 (ix3 b kk e) := by
  rw [val_main_v5_apply, val_main_v4_apply]
  show x1 _ = x1 _
  refine congrArg x1 (funext fun a => ?_)
  fin_cases a <;> refine Fin.ext ?_
  · show ((((b.val * 4096 + kk.val) * 4 + h.val) * 2 + mp.val) * 128 + l.val) / 4194304 = b.val; omega
  · show ((((b.val * 4096 + kk.val) * 4 + h.val) * 2 + mp.val) * 128 + l.val) / 1024 % 4096 = kk.val; omega
  · show ((((b.val * 4096 + kk.val) * 4 + h.val) * 2 + mp.val) * 128 + l.val) % 1024 = e.val; omega

/-- The values. -/
theorem v9_at (t : Fin 4) (k : Fin 1024) (hk : kk.val = 1024 * t.val + k.val) (e : Fin 512) (he : e.val = 128 * h.val + d.val) :
    val_main_v9 (F := Ideal) x2 (ix4 b h kk d) = x2 (ix4 b t e k) := by
  rw [val_main_v9_apply, val_main_v8_apply, val_main_v7_apply]
  show x2 _ = x2 _
  refine congrArg x2 (funext fun a => ?_)
  fin_cases a <;> refine Fin.ext ?_
  · show (((b.val * 4 + h.val) * 128 + d.val) * 4096 + kk.val) / 2097152 = b.val; omega
  · show (((b.val * 4 + h.val) * 128 + d.val) * 4096 + kk.val) / 1024 % 4 = t.val; omega
  · show (((b.val * 4 + h.val) * 128 + d.val) * 4096 + kk.val) / 4096 % 512 = e.val; omega
  · show (((b.val * 4 + h.val) * 128 + d.val) * 4096 + kk.val) % 1024 = k.val; omega

/-- The mask on the counters of the whole array. -/
theorem sel_sge {α : Type} {q k : ℕ} (hq : q < 4096) (hk : k < 4096) (a b : α) :
    Scalar.select (IntOp.cmpi CmpIPredicate.sge (IntOp.subi (BitVec.ofNat 32 q) (BitVec.ofNat 32 k)) 0#32) a b = if k ≤ q then a else b := by
  have e : (0#32).sle (BitVec.ofNat 32 q - BitVec.ofNat 32 k) = decide (k ≤ q) := by
    rw [BitVec.sle_eq_decide]
    by_cases h : k ≤ q
    · have e1 : BitVec.ofNat 32 q - BitVec.ofNat 32 k = BitVec.ofNat 32 (q - k) := by
        apply BitVec.eq_of_toNat_eq
        rw [BitVec.toNat_sub]
        simp only [BitVec.toNat_ofNat]
        omega
      rw [e1, BitVec.toInt_eq_toNat_of_lt (x := BitVec.ofNat 32 (q - k)) (by simp only [BitVec.toNat_ofNat]; omega)]
      simp only [BitVec.toInt_zero, h, decide_true, decide_eq_true_eq]
      exact Int.natCast_nonneg _
    · have e1 : BitVec.ofNat 32 q - BitVec.ofNat 32 k = BitVec.ofNat 32 (2 ^ 32 - (k - q)) := by
        apply BitVec.eq_of_toNat_eq
        rw [BitVec.toNat_sub]
        simp only [BitVec.toNat_ofNat]
        omega
      rw [e1]
      have : (BitVec.ofNat 32 (2 ^ 32 - (k - q))).toInt < 0 := by
        rw [BitVec.toInt_eq_toNat_cond, if_neg (by simp only [BitVec.toNat_ofNat]; omega)]
        simp only [BitVec.toNat_ofNat]
        omega
      simp only [BitVec.toInt_zero, h, decide_false, decide_eq_false_iff_not]
      omega
  simp only [Scalar.select, IntOp.cmpi, IntOp.subi, e]
  by_cases h : k ≤ q <;> simp [h]

/-- The difference's factor. -/
theorem v17_at (i : S_.Idx) : val_main_v17 (F := Ideal) x3 x4 x5 x6 i = Ideal.exp (∑ l : Fin 64, x3 (ix1 l) * x4 (ix1 l)) - Ideal.exp (∑ l : Fin 64, x5 (ix1 l) * x6 (ix1 l)) + Ideal.ofBits .f32 0x3E4CCCCD#32 := by
  pointwise [val_main_v17, val_main_v16, val_main_v15, val_main_v14, val_main_v13, val_main_v12, val_main_v11, val_main_v10, val_main_cst, val_main_cst_0, val_main_cst_1]

/-- The scores. -/
theorem v26_at : val_main_v26 (F := Ideal) x0 x1 (ix5 b h mp qq kk) = ∑ l : Fin 128, val_main_v2 (F := Ideal) x0 (ix5 b h mp qq l) * val_main_v5 (F := Ideal) x1 (ix5 b h mp kk l) := by
  pointwise [val_main_v26]

/-- The word of two. -/
theorem ofBits_two : Ideal.ofBits FTy.f32 1073741824#32 = ((2 : ℝ) : EReal) := by
  simp [Ideal.ofBits, Ideal.ieee, -EReal.coe_mul]; norm_num

/-- The masked scores. -/
theorem v31_at : val_main_v31 (F := Ideal) x0 x1 (ix5 b h mp qq kk)
    = if kk.val ≤ qq.val then val_main_v26 (F := Ideal) x0 x1 (ix5 b h mp qq kk) * ((Real.log 2 : ℝ) : EReal) else ⊥ := by
  have e1 : id (Host.log (constant (F := Ideal) S_ FTy.f32 1073741824#32)) ix0 = ((Real.log 2 : ℝ) : EReal) := by
    show Ideal.log (Ideal.ofBits FTy.f32 1073741824#32) = _
    rw [ofBits_two, Ideal.log_coe, if_neg (by norm_num)]
  have e2 : id (constant (F := Ideal) S_ FTy.f32 4286578688#32) ix0 = (⊥ : EReal) := Cert.Da.ofBits_neg_inf
  pointwise [val_main_v31, val_main_v30, val_main_v29, val_main_v28, val_main_v27, val_main_cst_2, val_main_cst_3, val_main_call0_v0, val_main_call0_v1, val_main_call0_v2, val_main_v25, val_main_v24, val_main_v23, val_main_v22, val_main_v21, val_main_v20, val_main_v19, val_main_v18, val_main_c]
  rw [e1, e2]
  exact sel_sge qq.isLt kk.isLt _ _

/-- The softmax. -/
theorem v42_at : val_main_v42 (F := Ideal) x0 x1 (ix5 b h mp qq kk)
    = Ideal.div (Ideal.exp (val_main_v31 (F := Ideal) x0 x1 (ix5 b h mp qq kk) - val_main_v34 (F := Ideal) x0 x1 (ix4 b h mp qq)))
      (∑ x, Ideal.exp (val_main_v31 (F := Ideal) x0 x1 (ix5 b h mp qq x) - val_main_v34 (F := Ideal) x0 x1 (ix4 b h mp qq))) := by
  pointwise [val_main_v42, val_main_v41, val_main_v40, val_main_v39, val_main_v38, val_main_v37, val_main_v36, val_main_v35, val_main_cst_6]

/-- Masked again. -/
theorem v43_at : val_main_v43 (F := Ideal) x0 x1 (ix5 b h mp qq kk) = if kk.val ≤ qq.val then val_main_v42 (F := Ideal) x0 x1 (ix5 b h mp qq kk) else 0 := by
  have e2 : id (constant (F := Ideal) S_ FTy.f32 0#32) ix0 = (0 : EReal) := Ideal.ofBits_zero_f32
  pointwise [val_main_v43, val_main_call1_v0, val_main_call1_v1, val_main_call1_v2, val_main_cst_7, val_main_v25, val_main_v24, val_main_v23, val_main_v22, val_main_v21, val_main_v20, val_main_v19, val_main_v18, val_main_c]
  rw [e2]
  exact sel_sge qq.isLt kk.isLt _ _

/-- The weighted values. -/
theorem v51_at : val_main_v51 (F := Ideal) x0 x1 x2 x3 x4 x5 x6 (ix4 b h qq d)
    = ∑ x, val_main_v50 (F := Ideal) x0 x1 x3 x4 x5 x6 (ix4 b h qq x) * val_main_v9 (F := Ideal) x2 (ix4 b h x d) := by
  pointwise [val_main_v51]

/-- A row's maximum. -/
theorem v34_at : val_main_v34 (F := Ideal) x0 x1 (ix4 b h mp qq)
    = max ⊥ (Finset.fold max ⊥ (fun k : Fin 4096 => val_main_v31 (F := Ideal) x0 x1 (ix5 b h mp qq k)) Finset.univ) := by
  have e : val_main_v32 (F := Ideal) x0 x1 (ix4 b h mp qq)
      = Finset.fold max ⊥ (fun k : Fin 4096 => val_main_v31 (F := Ideal) x0 x1 (ix5 b h mp qq k)) Finset.univ := by
    unfold val_main_v32
    refine (Host.reduce_eq_fold_single _ _ _ _ (by decide) _ _).trans ?_
    have e1 : val_main_cst_4 (F := Ideal) (Shape.Idx.first Cert.ReferenceIdeal.Gen.h_S_) = (⊥ : EReal) := Cert.Da.ofBits_neg_inf
    rw [e1]
    refine congrArg (fun f : Fin 4096 → EReal => Finset.fold max ⊥ f Finset.univ) (funext fun k => ?_)
    refine congrArg (val_main_v31 (F := Ideal) x0 x1) (funext fun a => ?_)
    fin_cases a <;> rfl
  rw [val_main_v34_apply, e, val_main_v33_apply]
  exact congrArg (max · _) Cert.Da.ofBits_neg_inf

/-- The first map. -/
theorem v45_at : val_main_v45 (F := Ideal) x0 x1 (ix4 b h qq kk) = val_main_v43 (F := Ideal) x0 x1 (ix5 b h 0 qq kk) := by
  rw [val_main_v45_apply, val_main_v44_apply]
  refine congrArg (val_main_v43 (F := Ideal) x0 x1) (funext fun a => ?_)
  fin_cases a <;> refine Fin.ext ?_
  · show (((b.val * 4 + h.val) * 4096 + qq.val) * 4096 + kk.val) / 67108864 = b.val; omega
  · show (((b.val * 4 + h.val) * 4096 + qq.val) * 4096 + kk.val) / 16777216 % 4 = h.val; omega
  · rfl
  · show (((b.val * 4 + h.val) * 4096 + qq.val) * 4096 + kk.val) / 4096 % 4096 = qq.val; omega
  · show (((b.val * 4 + h.val) * 4096 + qq.val) * 4096 + kk.val) % 4096 = kk.val; omega

/-- The second. -/
theorem v47_at : val_main_v47 (F := Ideal) x0 x1 (ix4 b h qq kk) = val_main_v43 (F := Ideal) x0 x1 (ix5 b h 1 qq kk) := by
  rw [val_main_v47_apply, val_main_v46_apply]
  refine congrArg (val_main_v43 (F := Ideal) x0 x1) (funext fun a => ?_)
  fin_cases a <;> refine Fin.ext ?_
  · show (((b.val * 4 + h.val) * 4096 + qq.val) * 4096 + kk.val) / 67108864 = b.val; omega
  · show (((b.val * 4 + h.val) * 4096 + qq.val) * 4096 + kk.val) / 16777216 % 4 = h.val; omega
  · rfl
  · show (((b.val * 4 + h.val) * 4096 + qq.val) * 4096 + kk.val) / 4096 % 4096 = qq.val; omega
  · show (((b.val * 4 + h.val) * 4096 + qq.val) * 4096 + kk.val) % 4096 = kk.val; omega

/-- Their difference. -/
theorem v50_at : val_main_v50 (F := Ideal) x0 x1 x3 x4 x5 x6 (ix4 b h qq kk)
    = val_main_v43 (F := Ideal) x0 x1 (ix5 b h 0 qq kk) - val_main_v17 (F := Ideal) x3 x4 x5 x6 ix0 * val_main_v43 (F := Ideal) x0 x1 (ix5 b h 1 qq kk) := by
  rw [val_main_v50_apply, val_main_v49_apply, val_main_v48_apply, v45_at, v47_at, show idx_main_v48 (ix4 b h qq kk) = ix0 from funext fun a => a.elim0]
  rfl

/-- The sum of squares. -/
theorem v53_at : val_main_v53 (F := Ideal) x0 x1 x2 x3 x4 x5 x6 (ix3 b h qq)
    = ∑ k : Fin 128, val_main_v51 (F := Ideal) x0 x1 x2 x3 x4 x5 x6 (ix4 b h qq k) * val_main_v51 (F := Ideal) x0 x1 x2 x3 x4 x5 x6 (ix4 b h qq k) := by
  have e3 : val_main_cst_8 (F := Ideal) (Shape.Idx.first Cert.ReferenceIdeal.Gen.h_S_) = (0 : EReal) := Ideal.ofBits_zero_f32
  rw [val_main_v53_apply, e3, zero_add]
  refine Finset.sum_congr rfl fun k _ => ?_
  have e2 : idx_main_v53 (ix3 b h qq) k = ix4 b h qq k := funext fun a => by fin_cases a <;> rfl
  rw [val_main_v52_apply, e2, Ideal.mulf_def]

/-- The norm. -/
theorem v66_at : val_main_v66 (F := Ideal) x0 x1 x2 x3 x4 x5 x6 x7 (ix4 b h qq d)
    = Cert.Da.rmsO (fun k => val_main_v51 (F := Ideal) x0 x1 x2 x3 x4 x5 x6 (ix4 b h qq k)) (fun k => x7 (ix1 k)) d := by
  have e1 : idx_main_v62 (idx_main_v63 (ix4 b h qq d)) = ix1 d := funext fun a => by fin_cases a; rfl
  have e2 : idx_main_v54 (idx_main_v60 (ix4 b h qq d)) = ix3 b h qq := funext fun a => by fin_cases a <;> rfl
  have e4 : ∀ i, val_main_cst_9 (F := Ideal) i = Ideal.ofBits .f32 0x43000000#32 := fun i => rfl
  have e5 : ∀ i, val_main_cst_10 (F := Ideal) i = Ideal.ofBits .f32 0x358637BD#32 := fun i => rfl
  have e6 : ∀ i, val_main_cst_11 (F := Ideal) i = Ideal.ofBits .f32 0x3F4CCCCD#32 := fun i => rfl
  rw [val_main_v66_apply, val_main_v65_apply, val_main_v64_apply, val_main_v63_apply, val_main_v62_apply, val_main_v61_apply, val_main_v60_apply,
    val_main_v59_apply, val_main_v58_apply, val_main_v57_apply, val_main_v56_apply, val_main_v55_apply, val_main_v54_apply, e1, e2, v53_at, e4, e5, e6]
  generalize val_main_v51 (F := Ideal) x0 x1 x2 x3 x4 x5 x6 = O
  rfl

/-- The result. -/
theorem v69_at (e : Fin 512) (he : e.val = 128 * h.val + d.val) : val_main_v69 (F := Ideal) x0 x1 x2 x3 x4 x5 x6 x7 (ix3 b qq e)
    = val_main_v66 (F := Ideal) x0 x1 x2 x3 x4 x5 x6 x7 (ix4 b h qq d) := by
  rw [val_main_v69_apply, val_main_v68_apply, val_main_v67_apply]
  rw [Ideal.truncf_def]
  refine congrArg (val_main_v66 (F := Ideal) x0 x1 x2 x3 x4 x5 x6 x7) (funext fun a => ?_)
  fin_cases a <;> refine Fin.ext ?_
  · show ((b.val * 4096 + qq.val) * 512 + e.val) / 2097152 = b.val; omega
  · show ((b.val * 4096 + qq.val) * 512 + e.val) / 128 % 4 = h.val; omega
  · show ((b.val * 4096 + qq.val) * 512 + e.val) / 512 % 4096 = qq.val; omega
  · show ((b.val * 4096 + qq.val) * 512 + e.val) % 128 = d.val; omega

/-! ## Over the reals -/

section Rows
open Finset (range)
open Cert.Da
variable {x0 x1 x2 x3 x4 x5 x6 x7} {b h mp qq d}

/-- A row of the masked softmax. -/
theorem v43_row {sR : ℕ → ℝ} (hS : ∀ kk : Fin 4096, val_main_v26 (F := Ideal) x0 x1 (ix5 b h mp qq kk) = ((sR kk.val : ℝ) : EReal)) (kk : Fin 4096) :
    val_main_v43 (F := Ideal) x0 x1 (ix5 b h mp qq kk) = ((keep sR qq.val kk.val / ∑ kk ∈ range 4096, keep sR qq.val kk : ℝ) : EReal) := by
  have h31 : ∀ kk : Fin 4096, val_main_v31 (F := Ideal) x0 x1 (ix5 b h mp qq kk)
      = if kk.val ≤ qq.val then ((sR kk.val * Real.log 2 : ℝ) : EReal) else ⊥ := fun kk => by
    rw [v31_at, hS, ← EReal.coe_mul]
  obtain ⟨μ, hμ⟩ := max_real (m := ⊥) (s := fun k : Fin 4096 => val_main_v31 (F := Ideal) x0 x1 (ix5 b h mp qq k)) bot_ne_top
    (fun k => by
      rw [h31]
      split
      · exact EReal.coe_ne_top _
      · exact bot_ne_top)
    ⟨0, by
      rw [h31, if_pos (show (0 : Fin 4096).val ≤ qq.val from Nat.zero_le _)]
      exact EReal.coe_ne_bot _⟩
  have he : ∀ kk : Fin 4096, Ideal.exp (val_main_v31 (F := Ideal) x0 x1 (ix5 b h mp qq kk) - ((μ : ℝ) : EReal))
      = ((keep sR qq.val kk.val * Real.exp (-μ) : ℝ) : EReal) := fun kk => by
    rw [h31]
    unfold keep
    split
    · rw [← EReal.coe_sub, Ideal.exp_coe]
      congr 1
      have e : p2 (sR kk.val) = Real.exp (Real.log 2 * sR kk.val) := Real.rpow_def_of_pos two_pos _
      rw [e, ← Real.exp_add]
      congr 1
      ring
    · rw [EReal.bot_sub, Ideal.exp_bot, zero_mul]
      rfl
  have hZ := keep_pos (sR := sR) qq.val qq.isLt
  rw [v43_at, v42_at, v34_at, hμ]
  simp only [he]
  rw [← coe_sum, ← Finset.sum_mul, Fin.sum_univ_eq_sum_range (fun k => keep sR qq.val k)]
  have hp := Real.exp_pos (-μ)
  rw [Ideal.div_coe (by positivity), ← EReal.coe_mul]
  split
  · congr 1
    field_simp
  · rename_i hk
    rw [keep, if_neg hk, zero_div]
    rfl

/-- The attention's output before its norm. -/
theorem v51_row {sR0 sR1 vN : ℕ → ℝ} {lam : ℝ}
    (hS0 : ∀ kk : Fin 4096, val_main_v26 (F := Ideal) x0 x1 (ix5 b h 0 qq kk) = ((sR0 kk.val : ℝ) : EReal))
    (hS1 : ∀ kk : Fin 4096, val_main_v26 (F := Ideal) x0 x1 (ix5 b h 1 qq kk) = ((sR1 kk.val : ℝ) : EReal))
    (hV : ∀ kk : Fin 4096, val_main_v9 (F := Ideal) x2 (ix4 b h kk d) = ((vN kk.val : ℝ) : EReal))
    (hlam : val_main_v17 (F := Ideal) x3 x4 x5 x6 ix0 = ((lam : ℝ) : EReal)) :
    val_main_v51 (F := Ideal) x0 x1 x2 x3 x4 x5 x6 (ix4 b h qq d)
      = (((∑ kk ∈ range 4096, vN kk * keep sR0 qq.val kk) / (∑ kk ∈ range 4096, keep sR0 qq.val kk)
          - lam * ((∑ kk ∈ range 4096, vN kk * keep sR1 qq.val kk) / ∑ kk ∈ range 4096, keep sR1 qq.val kk) : ℝ) : EReal) := by
  rw [v51_at]
  have e : ∀ kk : Fin 4096, val_main_v50 (F := Ideal) x0 x1 x3 x4 x5 x6 (ix4 b h qq kk) * val_main_v9 (F := Ideal) x2 (ix4 b h kk d)
      = (((keep sR0 qq.val kk.val / (∑ kk ∈ range 4096, keep sR0 qq.val kk) - lam * (keep sR1 qq.val kk.val / ∑ kk ∈ range 4096, keep sR1 qq.val kk)) * vN kk.val : ℝ) : EReal) :=
    fun kk => by rw [v50_at, v43_row hS0, v43_row hS1, hlam, hV, ← EReal.coe_mul, ← EReal.coe_sub, ← EReal.coe_mul]
  simp only [e]
  rw [← coe_sum]
  congr 1
  rw [Fin.sum_univ_eq_sum_range (fun k => (keep sR0 qq.val k / (∑ kk ∈ range 4096, keep sR0 qq.val kk) - lam * (keep sR1 qq.val k / ∑ kk ∈ range 4096, keep sR1 qq.val kk)) * vN k)]
  rw [Finset.sum_div, Finset.sum_div, Finset.mul_sum, ← Finset.sum_sub_distrib]
  refine Finset.sum_congr rfl fun k _ => ?_
  ring

end Rows

end Cert.DaRef
end
-- ==== Proof.DaPay.lean ====
module
public import proofs.«01_k».proof.Proof.RunKernelIdeal
public import proofs.«01_k».proof.Proof.DaRef
import Idealize.ShloMosaic.Lib.Pointwise

/-! # The payloads of the attention's last store, read at one index -/

@[expose] public section
set_option maxRecDepth 16384
noncomputable section
open Idealize.ShloMosaic Idealize.ShloMosaic.TcCoe Idealize.SL.Sem
namespace Cert.DaPay
open Cert.KernelIdeal Cert.KernelIdeal.Gen

/-- The difference of the two exponentials. -/
theorem pay584_at (x3 x4 x5 x6 : Vec Ideal S1x64 .f32) :
    k0_pay584 x3 x4 x5 x6 (ix2 0 0) = Ideal.exp (∑ l : Fin 64, x3 (ix2 0 l) * x4 (ix2 0 l)) - Ideal.exp (∑ l : Fin 64, x5 (ix2 0 l) * x6 (ix2 0 l)) := by
  pointwise [k0_pay584]

/-- The stored block. -/
theorem pay585_at (v : FVec Ideal S1x1 .f32) (cst : Ideal .f32) (a0 : Vec Ideal S1x128x1024 .f32) (l0 : Vec Ideal S1x1x1024 .f32)
    (a1 : Vec Ideal S1x128x1024 .f32) (l1 : Vec Ideal S1x1x1024 .f32) (g : Vec Ideal S1x128 .f32) (y : Fin 1024) (d : Fin 128) :
    k0_pay585 v cst a0 l0 a1 l1 g (ix3 0 y d)
      = Cert.Da.rmsO (fun k => Ideal.div (a0 (ix3 0 k y)) (l0 (ix3 0 0 y)) - (v (ix2 0 0) + cst) * Ideal.div (a1 (ix3 0 k y)) (l1 (ix3 0 0 y)))
          (fun k => g (ix2 0 k)) d := by
  pointwise [k0_pay585, Cert.Da.rmsO]
end Cert.DaPay
end
-- ==== Proof.DaPre.lean ====
module
public import proofs.«01_k».proof.Defs
public import proofs.«01_k».proof.Proof.Gen.Pre_finite
public import Idealize.ShloMosaic.Lib.Pointwise.Index
import Idealize.ShloMosaic.Lib.ReduceAll
import Idealize.ShloMosaic.Lib.WordArith

/-! # What the precondition says

Every entry of the queries, keys, values and of the four vectors of the difference's factor is a real. -/

@[expose] public section
set_option maxRecDepth 16384
noncomputable section
open Idealize.ShloMosaic Idealize.ShloMosaic.TcCoe Idealize.SL.Sem
namespace Cert.DaPre

theorem and_one {a b : BitVec 1} (h : IntOp.andi a b = 1#1) : a = 1#1 ∧ b = 1#1 := by
  revert a b; decide

/-- A finite absolute value is a real's. -/
theorem real_of_lt {x : EReal} (h : Ideal.cmp .olt (max x (-x)) (Ideal.ofBits .f32 0x7F800000#32) = 1#1) : ∃ r : ℝ, x = ((r : ℝ) : EReal) := by
  have e : Ideal.ofBits FTy.f32 0x7F800000#32 = (⊤ : EReal) := by simp [Ideal.ofBits, Ideal.ieee]
  rw [e] at h
  have h' : max x (-x) < ⊤ := by
    by_contra hn
    simp [Ideal.cmp, hn] at h
  refine ⟨x.toReal, (EReal.coe_toReal ?_ ?_).symm⟩
  · exact ne_of_lt (lt_of_le_of_lt (le_max_left _ _) h')
  · rintro rfl
    simp at h'

/-- Read at the arguments. -/
theorem real_args [hP : Cert.Pre_finite.Facts] (a0 a1 : FVec Ideal Cert.Pre_finite.S8x4096x1024 .bf16) (a2 : FVec Ideal Cert.Pre_finite.S8x4x512x1024 .bf16)
    (a3 a4 a5 a6 : FVec Ideal Cert.Pre_finite.S64 .f32) (a7 : FVec Ideal Cert.Pre_finite.S128 .f32)
    (h : Cert.Pre_finite.fn (F := Ideal) a0 a1 a2 a3 a4 a5 a6 a7 = fun _ => 1#1) :
    (∀ i, ∃ r : ℝ, a0 i = ((r : ℝ) : EReal)) ∧ (∀ i, ∃ r : ℝ, a1 i = ((r : ℝ) : EReal)) ∧ (∀ i, ∃ r : ℝ, a2 i = ((r : ℝ) : EReal))
    ∧ (∀ i, ∃ r : ℝ, a3 i = ((r : ℝ) : EReal)) ∧ (∀ i, ∃ r : ℝ, a4 i = ((r : ℝ) : EReal)) ∧ (∀ i, ∃ r : ℝ, a5 i = ((r : ℝ) : EReal))
    ∧ ∀ i, ∃ r : ℝ, a6 i = ((r : ℝ) : EReal) := by
  have h0 := congrFun h ix0
  dsimp only [Cert.Pre_finite.fn, Cert.Pre_finite.fn_part1, Cert.Pre_finite.fn_part2] at h0
  obtain ⟨h0, e6⟩ := and_one h0
  obtain ⟨h0, e5⟩ := and_one h0
  obtain ⟨h0, e4⟩ := and_one h0
  obtain ⟨h0, e3⟩ := and_one h0
  obtain ⟨h0, e2⟩ := and_one h0
  obtain ⟨e0, e1⟩ := and_one h0
  exact ⟨fun i => real_of_lt (Host.reduce_andi_all _ _ _ _ _ e0 i), fun i => real_of_lt (Host.reduce_andi_all _ _ _ _ _ e1 i),
    fun i => real_of_lt (Host.reduce_andi_all _ _ _ _ _ e2 i), fun i => real_of_lt (Host.reduce_andi_all _ _ _ _ _ e3 i),
    fun i => real_of_lt (Host.reduce_andi_all _ _ _ _ _ e4 i), fun i => real_of_lt (Host.reduce_andi_all _ _ _ _ _ e5 i),
    fun i => real_of_lt (Host.reduce_andi_all _ _ _ _ _ e6 i)⟩
end Cert.DaPre
end
-- ==== Proof.DaBlocks.lean ====
module
public import proofs.«01_k».proof.Proof.RunKernelIdeal
import Idealize.ShloMosaic.Lib.Pipeline.ValueKit
import Idealize.ShloMosaic.Lib.Pointwise

/-! # The attention's blocks of its argument arrays -/

@[expose] public section
set_option maxRecDepth 16384
noncomputable section
open Idealize.ShloMosaic Idealize.ShloMosaic.TcCoe Idealize.SL.Sem
namespace Cert.DaBlk
open Cert.KernelIdeal Cert.KernelIdeal.Gen
variable (m : (ℓ : Loc nD τ sig) → Buf (Elt Ideal) ℓ) (c : Dev nD) (t : Fin cfg0.N)

/-- The block each window shows at a grid point. -/
theorem idx : ∀ t : Fin cfg0.N, win0_0.index t = ![t.val / 16, t.val % 4, t.val / 4 % 4] ∧ win0_1.index t = ![t.val / 16, 0, t.val / 4 % 4]
    ∧ win0_2.index t = ![t.val / 16, 0, t.val / 4 % 4, 0] ∧ win0_3.index t = ![0, 0] ∧ win0_4.index t = ![0, 0] ∧ win0_5.index t = ![0, 0]
    ∧ win0_6.index t = ![0, 0] ∧ win0_7.index t = ![0, 0] ∧ win0_8.index t = ![t.val / 16, t.val % 4, t.val / 4 % 4] :=
  (by decide +kernel : ∀ t : Fin grid0.N, _)

/-- The block of queries. -/
theorem qi_val : ∀ t : Fin cfg0.N, (qi (grid0.coords t)).val = t.val % 4 := (by decide +kernel : ∀ t : Fin grid0.N, _)

theorem q_at (y : Fin 1024) (l : Fin 256) (b : Fin 8) (qq : Fin 4096) (e : Fin 1024) (hb : b.val = t.val / 16)
    (hq : qq.val = 1024 * (t.val % 4) + y.val) (he : e.val = 256 * (t.val / 4 % 4) + l.val) :
    iblk m c 0 t (ix3 0 y l) = m ((c : Thread nD τ).loc main_arg0) (ix3 b qq e) := by
  blk_point [iblk, V, idx t]

theorem k_at (k : Fin 4096) (l : Fin 256) (b : Fin 8) (e : Fin 1024) (hb : b.val = t.val / 16) (he : e.val = 256 * (t.val / 4 % 4) + l.val) :
    iblk m c 1 t (ix3 0 k l) = m ((c : Thread nD τ).loc main_arg1) (ix3 b k e) := by
  blk_point [iblk, V, idx t]

theorem v_at (s : Fin 4) (d : Fin 128) (k : Fin 1024) (b : Fin 8) (e : Fin 512) (hb : b.val = t.val / 16) (he : e.val = 128 * (t.val / 4 % 4) + d.val) :
    iblk m c 2 t (ix4 0 s d k) = m ((c : Thread nD τ).loc main_arg2) (ix4 b s e k) := by
  blk_point [iblk, V, idx t]

theorem r3_at (l : Fin 64) : iblk m c 3 t (ix2 0 l) = m ((c : Thread nD τ).loc main_arg3) (ix1 l) := by
  blk_point [iblk, V, idx t]
theorem r4_at (l : Fin 64) : iblk m c 4 t (ix2 0 l) = m ((c : Thread nD τ).loc main_arg4) (ix1 l) := by
  blk_point [iblk, V, idx t]
theorem r5_at (l : Fin 64) : iblk m c 5 t (ix2 0 l) = m ((c : Thread nD τ).loc main_arg5) (ix1 l) := by
  blk_point [iblk, V, idx t]
theorem r6_at (l : Fin 64) : iblk m c 6 t (ix2 0 l) = m ((c : Thread nD τ).loc main_arg6) (ix1 l) := by
  blk_point [iblk, V, idx t]
theorem g_at (d : Fin 128) : iblk m c 7 t (ix2 0 d) = m ((c : Thread nD τ).loc main_arg7) (ix1 d) := by
  blk_point [iblk, V, idx t]

/-- Where the block stored at a point sits in the result. -/
theorem out_at (y : Fin 1024) (d : Fin 128) (b : Fin 8) (qq : Fin 4096) (e : Fin 512) (hb : b.val = t.val / 16)
    (hq : qq.val = 1024 * (t.val % 4) + y.val) (he : e.val = 128 * (t.val / 4 % 4) + d.val) :
    ((cfg0.win 8).blk t).view.emb (ix3 0 y d) = ix3 b qq e := by
  blk_ext [idx t]
end Cert.DaBlk
end
-- ==== Proof.DaValue.lean ====
module
public import proofs.«01_k».proof.Proof.DaPay
public import proofs.«01_k».proof.Proof.DaPre
public import proofs.«01_k».proof.Proof.DaBlocks
import Idealize.ShloMosaic.Lib.Pipeline.ValueKit
import Idealize.ShloMosaic.Lib.Pointwise

/-! # The attention's result array is the reference's

Both sides are the scaled row-normalisation of the same difference of two weighted means: the kernel's means come out of the
running sums over key blocks, the reference's out of whole softmax rows. -/

@[expose] public section
set_option maxRecDepth 16384
noncomputable section
open Idealize.ShloMosaic Idealize.ShloMosaic.TcCoe Idealize.SL.Sem
open Cert.Da Cert.DaRef
open Finset (range)
namespace Cert.DaValue

/-- Every entry is a real. -/
def Real {S : Shape} {φ : FTy} (x : FVec Ideal S φ) : Prop := ∀ i, ∃ r : ℝ, x i = ((r : ℝ) : EReal)

/-- A sum of products of reals is a real. -/
theorem real_dot {n : ℕ} (f g : Fin n → EReal) (hf : ∀ i, ∃ r : ℝ, f i = ((r : ℝ) : EReal)) (hg : ∀ i, ∃ r : ℝ, g i = ((r : ℝ) : EReal)) :
    ∃ r : ℝ, ∑ i, f i * g i = ((r : ℝ) : EReal) := by
  choose u hu using hf
  choose v hv using hg
  refine ⟨∑ i, u i * v i, ?_⟩
  rw [coe_sum]
  exact Finset.sum_congr rfl fun i _ => by rw [hu, hv, EReal.coe_mul]

/-- The word of a fifth. -/
theorem ofBits_fifth : Ideal.ofBits FTy.f32 0x3E4CCCCD#32 = ((13421773 / 67108864 : ℝ) : EReal) := by
  simp [Ideal.ofBits, Ideal.ieee, -EReal.coe_mul]; norm_num

section reals
open Cert.ReferenceIdeal Cert.ReferenceIdeal.Read
variable {x0 x1 : FVec Ideal S8x4096x1024 .bf16} {x2 : FVec Ideal S8x4x512x1024 .bf16} {x3 x4 x5 x6 : FVec Ideal S64 .f32} {x7 : FVec Ideal S128 .f32}

theorem real_v26 (h0 : Real x0) (h1 : Real x1) (b : Fin 8) (h : Fin 4) (mp : Fin 2) (qq kk : Fin 4096) :
    ∃ r : ℝ, val_main_v26 (F := Ideal) x0 x1 (ix5 b h mp qq kk) = ((r : ℝ) : EReal) := by
  rw [v26_at]
  refine real_dot _ _ (fun l => ?_) (fun l => ?_)
  · rw [v2_at x0 b h mp qq l ⟨256 * h.val + 128 * mp.val + l.val, by omega⟩ rfl]; exact h0 _
  · rw [v5_at x1 b h mp kk l ⟨256 * h.val + 128 * mp.val + l.val, by omega⟩ rfl]; exact h1 _

theorem real_v9 (h2 : Real x2) (b : Fin 8) (h : Fin 4) (kk : Fin 4096) (d : Fin 128) :
    ∃ r : ℝ, val_main_v9 (F := Ideal) x2 (ix4 b h kk d) = ((r : ℝ) : EReal) := by
  rw [v9_at x2 b h kk d ⟨kk.val / 1024, by omega⟩ ⟨kk.val % 1024, by omega⟩ (by show kk.val = 1024 * (kk.val / 1024) + kk.val % 1024; omega)
    ⟨128 * h.val + d.val, by omega⟩ rfl]
  exact h2 _

theorem real_v17 (h3 : Real x3) (h4 : Real x4) (h5 : Real x5) (h6 : Real x6) :
    ∃ r : ℝ, val_main_v17 (F := Ideal) x3 x4 x5 x6 ix0 = ((r : ℝ) : EReal) := by
  obtain ⟨u, hu⟩ := real_dot (fun l : Fin 64 => x3 (ix1 l)) (fun l => x4 (ix1 l)) (fun l => h3 _) (fun l => h4 _)
  obtain ⟨v, hv⟩ := real_dot (fun l : Fin 64 => x5 (ix1 l)) (fun l => x6 (ix1 l)) (fun l => h5 _) (fun l => h6 _)
  refine ⟨Real.exp u - Real.exp v + 13421773 / 67108864, ?_⟩
  rw [v17_at, hu, hv, Ideal.exp_coe, Ideal.exp_coe, ofBits_fifth, ← EReal.coe_sub, ← EReal.coe_add]

/-- A row's scores, by key. -/
def sN (x0 x1 : FVec Ideal S8x4096x1024 .bf16) (b : Fin 8) (h : Fin 4) (mp : Fin 2) (qq : Fin 4096) (n : ℕ) : ℝ :=
  (val_main_v26 (F := Ideal) x0 x1 (ix5 b h mp qq (⟨n % 4096, Nat.mod_lt _ (by decide)⟩ : Fin 4096))).toReal
/-- A lane's values, by key. -/
def vN (x2 : FVec Ideal S8x4x512x1024 .bf16) (b : Fin 8) (h : Fin 4) (d : Fin 128) (n : ℕ) : ℝ :=
  (val_main_v9 (F := Ideal) x2 (ix4 b h (⟨n % 4096, Nat.mod_lt _ (by decide)⟩ : Fin 4096) d)).toReal

theorem sN_eq (h0 : Real x0) (h1 : Real x1) (b : Fin 8) (h : Fin 4) (mp : Fin 2) (qq kk : Fin 4096) :
    val_main_v26 (F := Ideal) x0 x1 (ix5 b h mp qq kk) = ((sN x0 x1 b h mp qq kk.val : ℝ) : EReal) := by
  obtain ⟨r, hr⟩ := real_v26 h0 h1 b h mp qq kk
  have e : (⟨kk.val % 4096, Nat.mod_lt _ (by decide)⟩ : Fin 4096) = kk := Fin.ext (Nat.mod_eq_of_lt kk.isLt)
  unfold sN
  rw [e, hr, EReal.toReal_coe]

theorem vN_eq (h2 : Real x2) (b : Fin 8) (h : Fin 4) (kk : Fin 4096) (d : Fin 128) :
    val_main_v9 (F := Ideal) x2 (ix4 b h kk d) = ((vN x2 b h d kk.val : ℝ) : EReal) := by
  obtain ⟨r, hr⟩ := real_v9 h2 b h kk d
  have e : (⟨kk.val % 4096, Nat.mod_lt _ (by decide)⟩ : Fin 4096) = kk := Fin.ext (Nat.mod_eq_of_lt kk.isLt)
  unfold vN
  rw [e, hr, EReal.toReal_coe]
end reals

section out
open Cert.KernelIdeal Cert.KernelIdeal.Gen
variable {x0 x1 : FVec Ideal Cert.ReferenceIdeal.S8x4096x1024 .bf16} {x2 : FVec Ideal Cert.ReferenceIdeal.S8x4x512x1024 .bf16}
  {x3 x4 x5 x6 : FVec Ideal Cert.ReferenceIdeal.S64 .f32} {x7 : FVec Ideal Cert.ReferenceIdeal.S128 .f32}
  {Q : Vec Ideal S1x1024x256 .bf16} {K : Vec Ideal S1x4096x256 .bf16} {W : Vec Ideal S1x4x128x1024 .bf16}
  {y3 y4 y5 y6 : Vec Ideal S1x64 .f32} {y7 : Vec Ideal S1x128 .f32}

/-- The mask's stand-in, idealised. -/
theorem neg_eq : (neg : Ideal .f32) = (⊥ : EReal) := IdealRules.named_const.ideal_named_scalar _ _ _ _ rfl

/-- One map's quotient at a query and a lane. -/
theorem quot_at (h0 : Real x0) (h1 : Real x1) (h2 : Real x2) (b : Fin 8) (h : Fin 4) (j : Fin 4) (mp : Fin 2) (y : Fin 1024) (d : Fin 128)
    (qq : Fin 4096) (hqq : qq.val = 1024 * j.val + y.val)
    (hQ : ∀ (l : Fin 256) (e : Fin 1024), e.val = 256 * h.val + l.val → Q (ix3 0 y l) = x0 (ix3 b qq e))
    (hK : ∀ (k : Fin 4096) (l : Fin 256) (e : Fin 1024), e.val = 256 * h.val + l.val → K (ix3 0 k l) = x1 (ix3 b k e))
    (hW : ∀ (s : Fin 4) (k : Fin 1024) (e : Fin 512), e.val = 128 * h.val + d.val → W (ix4 0 s d k) = x2 (ix4 b s e k)) :
    Ideal.div ((colAt neg Q K W j mp (hi y)).a (ix3 0 d (lo y))) ((colAt neg Q K W j mp (hi y)).l (ix3 0 0 (lo y)))
      = (((∑ kk ∈ range 4096, vN x2 b h d kk * keep (sN x0 x1 b h mp qq) qq.val kk) / ∑ kk ∈ range 4096, keep (sN x0 x1 b h mp qq) qq.val kk : ℝ) : EReal) := by
  have hy : 256 * (hi y).val + (lo y).val = y.val := by show 256 * (y.val / 256) + y.val % 256 = y.val; omega
  have e := colAt_div (Q := Q) (K := K) (V := W) neg_eq (mp := mp) (c := hi y) (x := lo y) (d := d) (sR := sN x0 x1 b h mp qq) (vN := vN x2 b h d)
    (fun t k => by
      have ey : (⟨256 * (hi y).val + (lo y).val, col_lt _ _⟩ : Fin 1024) = y := Fin.ext hy
      rw [ey]
      refine Eq.trans ?_ (sN_eq h0 h1 b h mp qq ⟨1024 * t.val + k.val, by omega⟩)
      rw [v26_at]
      refine (payS_at _ _ k y).trans (Finset.sum_congr rfl fun l _ => ?_)
      rw [v2_at x0 b h mp qq l ⟨256 * h.val + 128 * mp.val + l.val, by omega⟩ rfl,
        v5_at x1 b h mp _ l ⟨256 * h.val + 128 * mp.val + l.val, by omega⟩ rfl, mul_comm]
      exact congrArg₂ (· * ·) (hQ ⟨128 * mp.val + l.val, by omega⟩ _ (by show _ = 256 * h.val + (128 * mp.val + l.val); simp only []; omega))
        (hK ⟨1024 * t.val + k.val, by omega⟩ ⟨128 * mp.val + l.val, by omega⟩ _ (by show _ = 256 * h.val + (128 * mp.val + l.val); simp only []; omega)))
    (fun t k => by
      refine (hW t k ⟨128 * h.val + d.val, by omega⟩ rfl).trans (Eq.trans ?_ (vN_eq h2 b h ⟨1024 * t.val + k.val, by omega⟩ d))
      exact (v9_at x2 b h _ d t k rfl _ rfl).symm) j
  rw [hy, ← hqq] at e
  exact e

/-- The stored block at an index is the reference's result there. -/
theorem out_at (h0 : Real x0) (h1 : Real x1) (h2 : Real x2) (h3 : Real x3) (h4 : Real x4) (h5 : Real x5) (h6 : Real x6)
    (b : Fin 8) (h : Fin 4) (i : grid0.Coords) (y : Fin 1024) (d : Fin 128)
    (qq : Fin 4096) (hqq : qq.val = 1024 * (qi i).val + y.val) (e : Fin 512) (he : e.val = 128 * h.val + d.val)
    (hQ : ∀ (l : Fin 256) (e : Fin 1024), e.val = 256 * h.val + l.val → Q (ix3 0 y l) = x0 (ix3 b qq e))
    (hK : ∀ (k : Fin 4096) (l : Fin 256) (e : Fin 1024), e.val = 256 * h.val + l.val → K (ix3 0 k l) = x1 (ix3 b k e))
    (hW : ∀ (s : Fin 4) (d : Fin 128) (k : Fin 1024) (e : Fin 512), e.val = 128 * h.val + d.val → W (ix4 0 s d k) = x2 (ix4 b s e k))
    (e3 : ∀ l : Fin 64, y3 (ix2 0 l) = x3 (ix1 l)) (e4 : ∀ l : Fin 64, y4 (ix2 0 l) = x4 (ix1 l))
    (e5 : ∀ l : Fin 64, y5 (ix2 0 l) = x5 (ix1 l)) (e6 : ∀ l : Fin 64, y6 (ix2 0 l) = x6 (ix1 l)) (e7 : ∀ l : Fin 128, y7 (ix2 0 l) = x7 (ix1 l)) :
    outV i Q K W y3 y4 y5 y6 y7 (ix3 0 y d) = Cert.ReferenceIdeal.Read.val_main_v69 (F := Ideal) x0 x1 x2 x3 x4 x5 x6 x7 (ix3 b qq e) := by
  rw [v69_at x0 x1 x2 x3 x4 x5 x6 x7 b h qq d e he, v66_at]
  unfold outV
  rw [Cert.DaPay.pay585_at]
  obtain ⟨lam, hlam⟩ := real_v17 h3 h4 h5 h6
  have hl : k0_pay584 y3 y4 y5 y6 (ix2 0 0) + Scalar.ofBits (F := Ideal) .f32 0x3E4CCCCD#32 = ((lam : ℝ) : EReal) := by
    rw [Cert.DaPay.pay584_at, ← hlam, v17_at]
    simp only [e3, e4, e5, e6]
    rfl
  refine congrArg₂ (fun o g => rmsO o g d) (funext fun k => ?_) (funext e7)
  rw [hl]
  refine Eq.trans ?_ (v51_row (fun kk => sN_eq h0 h1 b h 0 qq kk) (fun kk => sN_eq h0 h1 b h 1 qq kk) (fun kk => vN_eq h2 b h kk k) hlam).symm
  rw [EReal.coe_sub, EReal.coe_mul]
  exact congrArg₂ (· - ·) (quot_at h0 h1 h2 b h (qi i) 0 y k qq hqq hQ hK (fun s => hW s k))
    (congrArg (((lam : ℝ) : EReal) * ·) (quot_at h0 h1 h2 b h (qi i) 1 y k qq hqq hQ hK (fun s => hW s k)))
end out

section run
open Cert.KernelIdeal Cert.KernelIdeal.Gen
variable (m : (ℓ : Loc nD τ sig) → Buf (Elt Ideal) ℓ)

/-- The reference's result over the kernel's argument arrays. -/
abbrev REF (c : Dev nD) : FVec Ideal Cert.ReferenceIdeal.S8x4096x512 .bf16 :=
  Cert.ReferenceIdeal.Read.val_main_v69 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The stored block at an index is the reference's result there. -/
theorem point (hp : Cert.Pre_KernelIdeal_finite (hPre_finite := Cert.Pre_finite.Gen.facts) m) (c : Dev nD) (t : Fin cfg0.N) (y : S1x1024x128.Idx) :
    outV (grid0.coords t) (iblk m c 0 t) (iblk m c 1 t) (iblk m c 2 t) (iblk m c 3 t) (iblk m c 4 t) (iblk m c 5 t) (iblk m c 6 t) (iblk m c 7 t) y
      = REF m c (((cfg0.win 8).blk t).view.emb y) := by
  obtain ⟨h0, h1, h2, h3, h4, h5, h6⟩ := Cert.DaPre.real_args (hP := Cert.Pre_finite.Gen.facts) _ _ _ _ _ _ _ _ (hp c)
  have ht : t.val < 128 := t.isLt
  have h1y : (y 1).val < 1024 := (y 1).isLt
  have h2y : (y 2).val < 128 := (y 2).isLt
  have hy : y = ix3 (0 : Fin 1) (⟨(y 1).val, h1y⟩ : Fin 1024) (⟨(y 2).val, h2y⟩ : Fin 128) := by
    funext a
    fin_cases a
    · exact Subsingleton.elim (α := Fin 1) _ _
    · rfl
    · rfl
  have he := Cert.DaBlk.out_at t ⟨(y 1).val, h1y⟩ ⟨(y 2).val, h2y⟩ (⟨t.val / 16, by omega⟩ : Fin 8)
    (⟨1024 * (t.val % 4) + (y 1).val, by omega⟩ : Fin 4096) (⟨128 * (t.val / 4 % 4) + (y 2).val, by omega⟩ : Fin 512) rfl rfl rfl
  rw [← hy] at he
  rw [he]
  refine (congrArg _ hy).trans ?_
  exact out_at (x0 := m ((c : Thread nD τ).loc main_arg0)) (x1 := m ((c : Thread nD τ).loc main_arg1)) (x2 := m ((c : Thread nD τ).loc main_arg2))
    (x3 := m ((c : Thread nD τ).loc main_arg3)) (x4 := m ((c : Thread nD τ).loc main_arg4)) (x5 := m ((c : Thread nD τ).loc main_arg5))
    (x6 := m ((c : Thread nD τ).loc main_arg6)) (x7 := m ((c : Thread nD τ).loc main_arg7)) h0 h1 h2 h3 h4 h5 h6
    (⟨t.val / 16, by omega⟩ : Fin 8) (⟨t.val / 4 % 4, by omega⟩ : Fin 4) (grid0.coords t) ⟨(y 1).val, h1y⟩ ⟨(y 2).val, h2y⟩ _
    (by rw [Cert.DaBlk.qi_val t]) _ rfl
    (fun l e hle => Cert.DaBlk.q_at m c t _ l _ _ e rfl rfl hle)
    (fun k l e hle => Cert.DaBlk.k_at m c t k l _ e rfl hle)
    (fun s d k e hle => Cert.DaBlk.v_at m c t s d k _ e rfl hle)
    (Cert.DaBlk.r3_at m c t) (Cert.DaBlk.r4_at m c t) (Cert.DaBlk.r5_at m c t) (Cert.DaBlk.r6_at m c t) (Cert.DaBlk.g_at m c t)

/-- The result array after the run is the reference's. -/
theorem final (hp : Cert.Pre_KernelIdeal_finite (hPre_finite := Cert.Pre_finite.Gen.facts) m) (c : Dev nD) :
    (dats m 0 c).arrAt 8 (cfgs 0).N = REF m c := by
  refine (dats m 0 c).arrAt_eq_of_covers 8 _ (by decide +kernel) fun t hf y => ?_
  blk_simp
  rw [after0_8]
  exact point m hp c t y
end run
end Cert.DaValue
end
-- ==== Proof.MixMath.lean ====
module
public import Idealize.ShloMosaic.Lib.Pipeline.ValueKit
public import Idealize.ShloMosaic.Lib.Pointwise.Index

/-! # The formulas of the output projection and the cross-attention

Over plain functions: the softmax of a row, the sums' reordering between the two layouts of the heads, and the scale taken
out of a product. -/

@[expose] public section
noncomputable section
open Idealize.ShloMosaic
namespace Cert.Mix

/-- The largest entry of a row. -/
def top (s : Fin 256 → EReal) : EReal := Finset.fold max (Ideal.ofBits FTy.f32 4286578688#32) s Finset.univ

/-- The softmax of a row. -/
def sm (s : Fin 256 → EReal) (n : Fin 256) : EReal := Ideal.div (Ideal.exp (s n - top s)) (∑ j, Ideal.exp (s j - top s))

/-- Where a lane of head (r, g) lies with the heads in the order (g, r). -/
def perm (l : Fin 512) : Fin 512 := ⟨l.val / 64 % 2 * 256 + l.val / 128 * 64 + l.val % 64, by omega⟩

theorem perm_bij : Function.Bijective perm := by
  refine Finite.injective_iff_bijective.mp fun a b h => ?_
  have h' := congrArg Fin.val h
  simp only [perm] at h'
  have key : ∀ l : Fin 512, ∃ x y z, l.val / 64 % 2 = x ∧ l.val / 128 = y ∧ l.val % 64 = z ∧ l.val = 128 * y + 64 * x + z ∧ x < 2 ∧ y < 4 ∧ z < 64 :=
    fun l => ⟨_, _, _, rfl, rfl, rfl, by omega, by omega, by omega, by omega⟩
  obtain ⟨x, y, z, h1, h2, h3, ha, h4, h5, h6⟩ := key a
  obtain ⟨x', y', z', h1', h2', h3', hb, h4', h5', h6'⟩ := key b
  rw [h1, h2, h3, h1', h2', h3'] at h'
  exact Fin.ext (by omega)

/-- The sum over all lanes, the second half in the other order. -/
theorem sum_halves (f : Fin 1024 → EReal) (a b : Fin 512 → EReal) (ha : ∀ l, f ⟨l.val, by omega⟩ = a l)
    (hb : ∀ l, f ⟨512 + (perm l).val, by omega⟩ = b l) : ∑ l, a l + ∑ l, b l = ∑ l, f l := by
  have e : ∑ l, f l = ∑ i : Fin 512, f ⟨i.val, by omega⟩ + ∑ i : Fin 512, f ⟨512 + i.val, by omega⟩ := Fin.sum_univ_add (a := 512) (b := 512) f
  rw [e, Finset.sum_congr rfl fun l _ => ha l]
  congr 1
  exact Fintype.sum_bijective perm perm_bij _ _ fun l => (hb l).symm

/-- A nonnegative real factor of every term. -/
theorem sum_scale {n : ℕ} (q k : Fin n → EReal) (s : ℝ) (hs : 0 ≤ s) :
    ∑ l, q l * ((s : ℝ) : EReal) * k l = (∑ l, q l * k l) * ((s : ℝ) : EReal) := by
  have h : ∀ S : Finset (Fin n), ∑ l ∈ S, q l * ((s : ℝ) : EReal) * k l = (∑ l ∈ S, q l * k l) * ((s : ℝ) : EReal) := fun S => by
    induction S using Finset.cons_induction with
    | empty => simp
    | cons a S ha ih =>
      rw [Finset.sum_cons, Finset.sum_cons, ih, EReal.right_distrib_of_nonneg_of_ne_top (by exact_mod_cast hs) (EReal.coe_ne_top s),
        mul_assoc, mul_comm ((s : ℝ) : EReal), ← mul_assoc]
  exact h _

/-- The word of a sixteenth. -/
theorem ofBits_sixteenth : Ideal.ofBits FTy.f32 0x3D800000#32 = ((1 / 16 : ℝ) : EReal) := by
  simp [Ideal.ofBits, Ideal.ieee, -EReal.coe_mul]; norm_num
end Cert.Mix
end
-- ==== Proof.MixPay.lean ====
module
public import proofs.«01_k».proof.Proof.Gen.Kernel3Ideal.Skeleton
public import proofs.«01_k».proof.Proof.MixMath
public import proofs.«01_k».proof.Proof.Ffn
import Idealize.ShloMosaic.Lib.Pointwise

/-! # The payloads of the output projection with the cross-attention, read at one index -/

@[expose] public section
set_option maxRecDepth 16384
noncomputable section
open Idealize.ShloMosaic Idealize.ShloMosaic.TcCoe Idealize.SL.Sem
namespace Cert.Mix
open Cert.Kernel3Ideal Cert.Kernel3Ideal.Gen
open Cert.Ffn (rms)

/-- A gate's row against a table, then what its rounding left against the table's second half. -/
def spread (g : Fin 128 → EReal) (e : Fin 256 → EReal) : EReal :=
  ∑ x : Fin 128, g x * e ⟨x.val, by omega⟩ + ∑ x : Fin 128, (g x - g x) * e ⟨128 + x.val, by omega⟩

/-- The three gated branches. -/
theorem pay2_at (v0 : Vec Ideal S1x1024x128 .f32) (v7 : Vec Ideal S1x256x512 .bf16) (v10 : Vec Ideal S1x1024x512 .bf16) (v14 : Vec Ideal S1x256x512 .bf16)
    (v17 : Vec Ideal S1x1024x512 .bf16) (v22 : Vec Ideal S1x256x512 .bf16) (v25 : Vec Ideal S1x1024x512 .bf16) (r : Fin 1024) (n : Fin 512) :
    k0_pay2 v0 v7 v10 v14 v17 v22 v25 (ix2 r n)
      = spread (fun k => v0 (ix3 0 r k)) (fun l => v7 (ix3 0 l n)) * v10 (ix3 0 r n)
        + spread (fun k => v0 (ix3 0 r k)) (fun l => v14 (ix3 0 l n)) * v17 (ix3 0 r n)
        + spread (fun k => v0 (ix3 0 r k)) (fun l => v22 (ix3 0 l n)) * v25 (ix3 0 r n) := by
  pointwise [k0_pay2, spread]

/-- The residual stream after the output projection. -/
theorem pay3_at (v29 : FVec Ideal S1024x512 .f32) (v30 : Vec Ideal S1x1024x512 .bf16) (v32 v36 : Vec Ideal S512x1024 .bf16) (v40 : Vec Ideal S1x1024x1024 .f32)
    (v42 : Vec Ideal S1x1024 .f32) (r n : Fin 1024) :
    k0_pay3 v29 v30 v32 v36 v40 v42 (ix2 r n) = v40 (ix3 0 r n)
      + rms (fun k => ∑ l : Fin 512, v30 (ix3 0 r l) * v32 (ix2 l k) + ∑ l : Fin 512, v29 (ix2 r l) * v36 (ix2 l k)) (fun k => v42 (ix2 0 k)) n := by
  pointwise [k0_pay3, rms]

/-- Its norm. -/
theorem pay4_at (v29 : FVec Ideal S1024x512 .f32) (v30 : Vec Ideal S1x1024x512 .bf16) (v32 v36 : Vec Ideal S512x1024 .bf16) (v40 : Vec Ideal S1x1024x1024 .f32)
    (v42 v57 : Vec Ideal S1x1024 .f32) (r n : Fin 1024) :
    k0_pay4 v29 v30 v32 v36 v40 v42 v57 (ix2 r n) = rms (fun k => k0_pay3 v29 v30 v32 v36 v40 v42 (ix2 r k)) (fun k => v57 (ix2 0 k)) n := by
  pointwise [k0_pay4, rms]

/-- The scaled queries. -/
theorem pay5_at (v71 v72 : FVec Ideal S1024x1024 .bf16) (r n : Fin 1024) :
    k0_pay5 v71 v72 (ix2 r n) = (∑ l : Fin 1024, v71 (ix2 r l) * v72 (ix2 l n)) * Ideal.ofBits .f32 0x3D800000#32 := by
  pointwise [k0_pay5]
/-- The first head. -/
theorem pay6_at (v71 v72 : FVec Ideal S1024x1024 .bf16) (v79 v92 : Vec Ideal S1x256x256 .bf16) (r : Fin 1024) (d : Fin 256) :
    k0_pay6 v71 v72 v79 v92 (ix2 r d) = ∑ n : Fin 256, sm (fun n => ∑ e : Fin 256, k0_pay5 v71 v72 (ix2 r ⟨0 + e.val, by omega⟩) * v79 (ix3 0 n e)) n * v92 (ix3 0 n d) := by
  pointwise [k0_pay6, sm, top]

/-- The second. -/
theorem pay87_at (v71 v72 : FVec Ideal S1024x1024 .bf16) (v79 v92 : Vec Ideal S1x256x256 .bf16) (r : Fin 1024) (d : Fin 256) :
    k0_pay8 (k0_pay7 v71 v72 v79) v92 (ix2 r d) = ∑ n : Fin 256, sm (fun n => ∑ e : Fin 256, k0_pay5 v71 v72 (ix2 r ⟨256 + e.val, by omega⟩) * v79 (ix3 0 n e)) n * v92 (ix3 0 n d) := by
  pointwise [k0_pay8, k0_pay7, sm, top]

/-- The third. -/
theorem pay9_at (v77 : FVec Ideal S1024x1024 .bf16) (v79 v92 : Vec Ideal S1x256x256 .bf16) (r : Fin 1024) (d : Fin 256) :
    k0_pay9 v77 v79 v92 (ix2 r d) = ∑ n : Fin 256, sm (fun n => ∑ e : Fin 256, v77 (ix2 r ⟨512 + e.val, by omega⟩) * v79 (ix3 0 n e)) n * v92 (ix3 0 n d) := by
  pointwise [k0_pay9, sm, top]

/-- The fourth's weights. -/
theorem pay10_at (v77 : FVec Ideal S1024x1024 .bf16) (v79 : Vec Ideal S1x256x256 .bf16) (r : Fin 1024) (n : Fin 256) :
    k0_pay10 v77 v79 (ix2 r n) = sm (fun n => ∑ e : Fin 256, v77 (ix2 r ⟨768 + e.val, by omega⟩) * v79 (ix3 0 n e)) n := by
  pointwise [k0_pay10, sm, top]

/-- The fourth's values. -/
theorem pay11_at (v : Vec Ideal S1x256x256 .bf16) (n d : Fin 256) : k0_pay11 v (ix2 n d) = v (ix3 0 n d) := by
  pointwise [k0_pay11]
/-- The heads side by side. -/
def heads (o0 o1 o2 o3 : Fin 256 → EReal) (l : Fin 1024) : EReal :=
  if h0 : l.val < 256 then o0 ⟨l.val, h0⟩ else if h1 : l.val - 256 < 256 then o1 ⟨l.val - 256, h1⟩
    else if h2 : l.val - 256 - 256 < 256 then o2 ⟨l.val - 256 - 256, h2⟩ else o3 ⟨l.val - 256 - 256 - 256, by omega⟩

/-- Read by the head's number. -/
theorem heads_eq (o0 o1 o2 o3 : Fin 256 → EReal) (f : Fin 4 → Fin 256 → EReal) (h0 : o0 = f 0) (h1 : o1 = f 1) (h2 : o2 = f 2) (h3 : o3 = f 3)
    (l : Fin 1024) : heads o0 o1 o2 o3 l = f ⟨l.val / 256, by omega⟩ ⟨l.val % 256, by omega⟩ := by
  subst h0 h1 h2 h3
  unfold heads
  have hl := l.isLt
  split_ifs with a0 a1 a2 <;> refine congrArg₂ f (Fin.ext ?_) (Fin.ext ?_) <;> simp only [Fin.val_zero, Fin.val_one] <;> first | omega | (show (2 : ℕ) = _; omega) | (show (3 : ℕ) = _; omega)

/-- The stored block. -/
theorem pay1_at (v56 : FVec Ideal S1024x1024 .f32) (v95 v113 v131 v145 : FVec Ideal S1024x256 .bf16) (v147 : FVec Ideal S256x256 .bf16)
    (v151 : Vec Ideal S1024x1024 .bf16) (v154 : Vec Ideal S1x1024 .f32) (r n : Fin 1024) :
    k0_pay1 v56 v95 v113 v131 v145 v147 (constant S1024x256 .f32 0x00000000#32) v151 v154 (ix3 0 r n)
      = v56 (ix2 r n) + rms (fun k => ∑ l : Fin 1024, heads (fun d => v95 (ix2 r d)) (fun d => v113 (ix2 r d)) (fun d => v131 (ix2 r d))
          (fun d => ∑ j : Fin 256, v145 (ix2 r j) * v147 (ix2 j d)) l * v151 (ix2 l k)) (fun k => v154 (ix2 0 k)) n := by
  pointwise [k0_pay1, rms, heads]
end Cert.Mix
end
-- ==== Proof.MixRef.lean ====
module
public import proofs.«01_k».proof.Proof.Gen.Reference3Ideal.Read
public import proofs.«01_k».proof.Proof.MixMath
public import proofs.«01_k».proof.Proof.Ffn
public import proofs.«01_k».proof.Proof.DaRef
import Idealize.ShloMosaic.Lib.Pointwise

/-! # The reference of the output projection with the cross-attention, read at one index -/

@[expose] public section
set_option maxRecDepth 16384
noncomputable section
open Idealize.ShloMosaic Idealize.ShloMosaic.TcCoe Idealize.SL.Sem
namespace Cert.MixRef
open Cert.Reference3Ideal Cert.Reference3Ideal.Read
open Cert.Ffn (rms)
open Cert.Mix (perm sm top)
variable (x0 : FVec Ideal S8x4096x1024 .f32) (x1 x2 x3 x4 : FVec Ideal S8x4096x512 .bf16) (x5 : FVec Ideal S8x4096x128 .f32)
  (x6 : FVec Ideal S1024x1024 .f32) (x7 x8 x9 : FVec Ideal S1024 .f32) (x10 x11 : FVec Ideal S1024x1024 .f32) (x12 x13 : FVec Ideal S8x256x1024 .bf16)
  (b : Fin 8) (s : Fin 4096) (h : Fin 4) (j n : Fin 1024) (a : Fin 512) (d k : Fin 256)

/-- Where a gate's lane lies. -/
theorem lane_lt (a : Fin 512) (i : Fin 3) : a.val / 64 % 2 * 12 + a.val / 128 * 3 + i.val < 128 := by omega

/-- The gated branches' sum. -/
theorem v21_at (g : Fin 2) (r : Fin 4) (e : Fin 64) (hg : g.val = a.val / 64 % 2) (hr : r.val = a.val / 128) (he : e.val = a.val % 64) :
    val_main_v21 (F := Ideal) x2 x3 x4 x5 (ix5 b s g r e)
    = x5 (ix3 b s ⟨_, lane_lt a 0⟩) * x2 (ix3 b s a) + x5 (ix3 b s ⟨_, lane_lt a 1⟩) * x3 (ix3 b s a) + x5 (ix3 b s ⟨_, lane_lt a 2⟩) * x4 (ix3 b s a) := by
  rw [val_main_v21_apply, val_main_v14_apply, val_main_v7_apply, val_main_v13_apply, val_main_v20_apply,
    val_main_v6_apply, val_main_v12_apply, val_main_v19_apply, val_main_v2_apply, val_main_v8_apply, val_main_v15_apply,
    val_main_v1_apply, val_main_v1_apply, val_main_v1_apply, val_main_v0_apply, val_main_v0_apply, val_main_v0_apply,
    val_main_v5_apply, val_main_v11_apply, val_main_v18_apply, val_main_v4_apply, val_main_v10_apply, val_main_v17_apply,
    val_main_v3_apply, val_main_v9_apply, val_main_v16_apply]
  refine congrArg₂ (· + ·) (congrArg₂ (· + ·) (congrArg₂ (· * ·) ?_ ?_) (congrArg₂ (· * ·) ?_ ?_)) (congrArg₂ (· * ·) ?_ ?_)
  · refine congrArg x5 (funext fun q => ?_)
    fin_cases q <;> refine Fin.ext ?_
    · clear hg hr he; show (((((b.val) * 4096 + (s.val)) * 2 + (g.val)) * 4 + (r.val)) * 3 + 0) / 98304 = b.val; omega
    · clear hg hr he; show (((((b.val) * 4096 + (s.val)) * 2 + (g.val)) * 4 + (r.val)) * 3 + 0) / 24 % 4096 = s.val; omega
    · show (((((b.val) * 4096 + (s.val)) * 2 + (g.val)) * 4 + (r.val)) * 3 + 0) % 24 = a.val / 64 % 2 * 12 + a.val / 128 * 3 + 0; rw [← hg, ← hr]; clear hg hr he; omega
  · refine congrArg x2 (funext fun q => ?_)
    fin_cases q <;> refine Fin.ext ?_
    · clear hg hr he; show ((((b.val * 4096 + s.val) * 4 + r.val) * 2 + g.val) * 64 + e.val) / 2097152 = b.val; omega
    · clear hg hr he; show ((((b.val * 4096 + s.val) * 4 + r.val) * 2 + g.val) * 64 + e.val) / 512 % 4096 = s.val; omega
    · have ha : a.val = r.val * 128 + g.val * 64 + e.val := by omega
      clear hg hr he; show ((((b.val * 4096 + s.val) * 4 + r.val) * 2 + g.val) * 64 + e.val) % 512 = a.val; omega
  · refine congrArg x5 (funext fun q => ?_)
    fin_cases q <;> refine Fin.ext ?_
    · clear hg hr he; show (((((b.val) * 4096 + (s.val)) * 2 + (g.val)) * 4 + (r.val)) * 3 + 1) / 98304 = b.val; omega
    · clear hg hr he; show (((((b.val) * 4096 + (s.val)) * 2 + (g.val)) * 4 + (r.val)) * 3 + 1) / 24 % 4096 = s.val; omega
    · show (((((b.val) * 4096 + (s.val)) * 2 + (g.val)) * 4 + (r.val)) * 3 + 1) % 24 = a.val / 64 % 2 * 12 + a.val / 128 * 3 + 1; rw [← hg, ← hr]; clear hg hr he; omega
  · refine congrArg x3 (funext fun q => ?_)
    fin_cases q <;> refine Fin.ext ?_
    · clear hg hr he; show ((((b.val * 4096 + s.val) * 4 + r.val) * 2 + g.val) * 64 + e.val) / 2097152 = b.val; omega
    · clear hg hr he; show ((((b.val * 4096 + s.val) * 4 + r.val) * 2 + g.val) * 64 + e.val) / 512 % 4096 = s.val; omega
    · have ha : a.val = r.val * 128 + g.val * 64 + e.val := by omega
      clear hg hr he; show ((((b.val * 4096 + s.val) * 4 + r.val) * 2 + g.val) * 64 + e.val) % 512 = a.val; omega
  · refine congrArg x5 (funext fun q => ?_)
    fin_cases q <;> refine Fin.ext ?_
    · clear hg hr he; show (((((b.val) * 4096 + (s.val)) * 2 + (g.val)) * 4 + (r.val)) * 3 + 2) / 98304 = b.val; omega
    · clear hg hr he; show (((((b.val) * 4096 + (s.val)) * 2 + (g.val)) * 4 + (r.val)) * 3 + 2) / 24 % 4096 = s.val; omega
    · show (((((b.val) * 4096 + (s.val)) * 2 + (g.val)) * 4 + (r.val)) * 3 + 2) % 24 = a.val / 64 % 2 * 12 + a.val / 128 * 3 + 2; rw [← hg, ← hr]; clear hg hr he; omega
  · refine congrArg x4 (funext fun q => ?_)
    fin_cases q <;> refine Fin.ext ?_
    · clear hg hr he; show ((((b.val * 4096 + s.val) * 4 + r.val) * 2 + g.val) * 64 + e.val) / 2097152 = b.val; omega
    · clear hg hr he; show ((((b.val * 4096 + s.val) * 4 + r.val) * 2 + g.val) * 64 + e.val) / 512 % 4096 = s.val; omega
    · have ha : a.val = r.val * 128 + g.val * 64 + e.val := by omega
      clear hg hr he; show ((((b.val * 4096 + s.val) * 4 + r.val) * 2 + g.val) * 64 + e.val) % 512 = a.val; omega

/-- The second half of the projected row, in the other order. -/
theorem v23_at : val_main_v23 (F := Ideal) x2 x3 x4 x5 (ix3 b s (perm a))
    = x5 (ix3 b s ⟨_, lane_lt a 0⟩) * x2 (ix3 b s a) + x5 (ix3 b s ⟨_, lane_lt a 1⟩) * x3 (ix3 b s a) + x5 (ix3 b s ⟨_, lane_lt a 2⟩) * x4 (ix3 b s a) := by
  have e : idx_main_v23 (ix3 b s (perm a)) = ix5 b s (⟨a.val / 64 % 2, by omega⟩ : Fin 2) (⟨a.val / 128, by omega⟩ : Fin 4) (⟨a.val % 64, by omega⟩ : Fin 64) := by
    obtain ⟨x, y, z, h1, h2, h3, h4, h5, h6⟩ : ∃ x y z, a.val / 64 % 2 = x ∧ a.val / 128 = y ∧ a.val % 64 = z ∧ x < 2 ∧ y < 4 ∧ z < 64 :=
      ⟨_, _, _, rfl, rfl, rfl, by omega, by omega, by omega⟩
    funext q
    fin_cases q <;> refine Fin.ext ?_
    · show ((b.val * 4096 + s.val) * 512 + (a.val / 64 % 2 * 256 + a.val / 128 * 64 + a.val % 64)) / 2097152 = b.val; rw [h1, h2, h3]; clear h1 h2 h3; omega
    · show ((b.val * 4096 + s.val) * 512 + (a.val / 64 % 2 * 256 + a.val / 128 * 64 + a.val % 64)) / 512 % 4096 = s.val; rw [h1, h2, h3]; clear h1 h2 h3; omega
    · show ((b.val * 4096 + s.val) * 512 + (a.val / 64 % 2 * 256 + a.val / 128 * 64 + a.val % 64)) / 256 % 2 = a.val / 64 % 2; rw [h1, h2, h3]; clear h1 h2 h3; omega
    · show ((b.val * 4096 + s.val) * 512 + (a.val / 64 % 2 * 256 + a.val / 128 * 64 + a.val % 64)) / 64 % 4 = a.val / 128; rw [h1, h2, h3]; clear h1 h2 h3; omega
    · show ((b.val * 4096 + s.val) * 512 + (a.val / 64 % 2 * 256 + a.val / 128 * 64 + a.val % 64)) % 64 = a.val % 64; rw [h1, h2, h3]; clear h1 h2 h3; omega
  rw [val_main_v23_apply, e]
  exact v21_at x2 x3 x4 x5 b s a _ _ _ rfl rfl rfl

/-- The projected row. -/
theorem v25_at : val_main_v25 (F := Ideal) x1 x2 x3 x4 x5 x6 (ix3 b s n)
    = ∑ l : Fin 1024, (if hl : l.val < 512 then x1 (ix3 b s ⟨l.val, hl⟩) else val_main_v23 (F := Ideal) x2 x3 x4 x5 (ix3 b s ⟨l.val - 512, by omega⟩)) * x6 (ix2 l n) := by
  pointwise [val_main_v25, val_main_v24, val_main_v22]

/-- The projected row over the two halves, the second in the other order. -/
theorem v25_halves : val_main_v25 (F := Ideal) x1 x2 x3 x4 x5 x6 (ix3 b s n)
    = ∑ l : Fin 512, x1 (ix3 b s l) * x6 (ix2 (⟨l.val, by omega⟩ : Fin 1024) n)
      + ∑ l : Fin 512, (x5 (ix3 b s ⟨_, lane_lt l 0⟩) * x2 (ix3 b s l) + x5 (ix3 b s ⟨_, lane_lt l 1⟩) * x3 (ix3 b s l) + x5 (ix3 b s ⟨_, lane_lt l 2⟩) * x4 (ix3 b s l))
        * x6 (ix2 (⟨512 + (perm l).val, by omega⟩ : Fin 1024) n) := by
  rw [v25_at]
  refine (Cert.Mix.sum_halves _ _ _ (fun l => ?_) (fun l => ?_)).symm
  · beta_reduce
    rw [dif_pos l.isLt]
  · beta_reduce
    rw [dif_neg (by show ¬ 512 + (perm l).val < 512; omega)]
    refine congrArg (· * _) (Eq.trans (congrArg _ ?_) (v23_at x2 x3 x4 x5 b s l))
    refine congrArg (ix3 b s) (Fin.ext ?_)
    show 512 + (perm l).val - 512 = _
    omega

/-- The row after the first norm. -/
theorem v39_at : val_main_v39 (F := Ideal) x0 x1 x2 x3 x4 x5 x6 x7 (ix3 b s n)
    = x0 (ix3 b s n) + rms (fun k => val_main_v25 (F := Ideal) x1 x2 x3 x4 x5 x6 (ix3 b s k)) (fun k => x7 (ix1 k)) n := by
  pointwise [val_main_v39, val_main_v38, val_main_v37, val_main_v36, val_main_v35, val_main_v34, val_main_v33, val_main_v32, val_main_v31, val_main_v30, val_main_v29, val_main_v28, val_main_v27, val_main_v26, val_main_cst, val_main_cst_0, val_main_cst_1, rms]

/-- Its norm. -/
theorem v52_at : val_main_v52 (F := Ideal) x0 x1 x2 x3 x4 x5 x6 x7 x8 (ix3 b s n)
    = rms (fun k => val_main_v39 (F := Ideal) x0 x1 x2 x3 x4 x5 x6 x7 (ix3 b s k)) (fun k => x8 (ix1 k)) n := by
  pointwise [val_main_v52, val_main_v51, val_main_v50, val_main_v49, val_main_v48, val_main_v47, val_main_v46, val_main_v45, val_main_v44, val_main_v43, val_main_v42, val_main_v41, val_main_v40, val_main_cst_2, val_main_cst_3, val_main_cst_4, rms]

/-- The queries. -/
theorem v55_at : val_main_v55 (F := Ideal) x0 x1 x2 x3 x4 x5 x6 x7 x8 x10 (ix3 b s n)
    = ∑ l : Fin 1024, val_main_v52 (F := Ideal) x0 x1 x2 x3 x4 x5 x6 x7 x8 (ix3 b s l) * x10 (ix2 l n) := by
  pointwise [val_main_v55]

/-- The result. -/
theorem v90_at : val_main_v90 (F := Ideal) x0 x1 x2 x3 x4 x5 x6 x7 x8 x9 x10 x11 x12 x13 (ix3 b s n)
    = val_main_v39 (F := Ideal) x0 x1 x2 x3 x4 x5 x6 x7 (ix3 b s n)
      + rms (fun k => val_main_v76 (F := Ideal) x0 x1 x2 x3 x4 x5 x6 x7 x8 x10 x11 x12 x13 (ix3 b s k)) (fun k => x9 (ix1 k)) n := by
  pointwise [val_main_v90, val_main_v89, val_main_v88, val_main_v87, val_main_v86, val_main_v85, val_main_v84, val_main_v83, val_main_v82, val_main_v81, val_main_v80, val_main_v79, val_main_v78, val_main_v77, val_main_cst_9, val_main_cst_10, val_main_cst_11, rms]

/-- The second projection. -/
theorem v76_at : val_main_v76 (F := Ideal) x0 x1 x2 x3 x4 x5 x6 x7 x8 x10 x11 x12 x13 (ix3 b s n)
    = ∑ l : Fin 1024, val_main_v75 (F := Ideal) x0 x1 x2 x3 x4 x5 x6 x7 x8 x10 x12 x13 (ix3 b s l) * x11 (ix2 l n) := by
  pointwise [val_main_v76]

/-- A lane of a head. -/
theorem hd_lt (h : Fin 4) (d : Fin 256) : 256 * h.val + d.val < 1024 := by omega

/-- The scaled scores. -/
theorem v61_at : val_main_v61 (F := Ideal) x0 x1 x2 x3 x4 x5 x6 x7 x8 x10 x12 (ix4 b h s k)
    = (∑ d : Fin 256, val_main_v55 (F := Ideal) x0 x1 x2 x3 x4 x5 x6 x7 x8 x10 (ix3 b s ⟨_, hd_lt h d⟩) * x12 (ix3 b k ⟨_, hd_lt h d⟩))
      * Ideal.ofBits .f32 0x3D800000#32 := by
  rw [val_main_v61_apply, val_main_v60_apply, val_main_v59_apply]
  refine congrArg₂ (· * ·) (Finset.sum_congr rfl fun d _ => ?_) rfl
  rw [val_main_v56_apply, val_main_v57_apply, val_main_v53_apply]
  refine congrArg₂ (· * ·) (congrArg (val_main_v55 (F := Ideal) x0 x1 x2 x3 x4 x5 x6 x7 x8 x10) (funext fun q => ?_)) (congrArg x12 (funext fun q => ?_))
  · fin_cases q <;> refine Fin.ext ?_
    · show (((b.val * 4096 + s.val) * 4 + h.val) * 256 + d.val) / 4194304 = b.val; omega
    · show (((b.val * 4096 + s.val) * 4 + h.val) * 256 + d.val) / 1024 % 4096 = s.val; omega
    · show (((b.val * 4096 + s.val) * 4 + h.val) * 256 + d.val) % 1024 = 256 * h.val + d.val; omega
  · fin_cases q <;> refine Fin.ext ?_
    · show (((b.val * 256 + k.val) * 4 + h.val) * 256 + d.val) / 262144 = b.val; omega
    · show (((b.val * 256 + k.val) * 4 + h.val) * 256 + d.val) / 1024 % 256 = k.val; omega
    · show (((b.val * 256 + k.val) * 4 + h.val) * 256 + d.val) % 1024 = 256 * h.val + d.val; omega

/-- A row's largest score. -/
theorem v64_at : val_main_v64 (F := Ideal) x0 x1 x2 x3 x4 x5 x6 x7 x8 x10 x12 (ix3 b h s)
    = top (fun k => val_main_v61 (F := Ideal) x0 x1 x2 x3 x4 x5 x6 x7 x8 x10 x12 (ix4 b h s k)) := by
  have e : val_main_v62 (F := Ideal) x0 x1 x2 x3 x4 x5 x6 x7 x8 x10 x12 (ix3 b h s)
      = top (fun k => val_main_v61 (F := Ideal) x0 x1 x2 x3 x4 x5 x6 x7 x8 x10 x12 (ix4 b h s k)) := by
    unfold val_main_v62 top
    refine (Host.reduce_eq_fold_single _ _ _ _ (by decide) _ _).trans ?_
    refine congrArg (fun f : Fin 256 → EReal => Finset.fold max (Ideal.ofBits FTy.f32 4286578688#32) f Finset.univ) (funext fun k => ?_)
    refine congrArg (val_main_v61 (F := Ideal) x0 x1 x2 x3 x4 x5 x6 x7 x8 x10 x12) (funext fun a => ?_)
    fin_cases a <;> rfl
  rw [val_main_v64_apply, e, val_main_v63_apply]
  exact (congrArg (max · _) Cert.Da.ofBits_neg_inf).trans (max_bot_left _)

/-- A row's sum. -/
theorem v69_at : val_main_v69 (F := Ideal) x0 x1 x2 x3 x4 x5 x6 x7 x8 x10 x12 (ix3 b h s)
    = ∑ k : Fin 256, val_main_v68 (F := Ideal) x0 x1 x2 x3 x4 x5 x6 x7 x8 x10 x12 (ix4 b h s k) := by
  have e3 : val_main_cst_8 (F := Ideal) (Shape.Idx.first Cert.Reference3Ideal.Gen.h_S_) = (0 : EReal) := Ideal.ofBits_zero_f32
  rw [val_main_v69_apply, e3, zero_add]
  refine Finset.sum_congr rfl fun k _ => congrArg _ (funext fun a => ?_)
  fin_cases a <;> rfl

/-- The exponentials. -/
theorem v68_at : val_main_v68 (F := Ideal) x0 x1 x2 x3 x4 x5 x6 x7 x8 x10 x12 (ix4 b h s k)
    = Ideal.exp (val_main_v61 (F := Ideal) x0 x1 x2 x3 x4 x5 x6 x7 x8 x10 x12 (ix4 b h s k)
        - top (fun k => val_main_v61 (F := Ideal) x0 x1 x2 x3 x4 x5 x6 x7 x8 x10 x12 (ix4 b h s k))) := by
  have e : idx_main_v65 (idx_main_v66 (ix4 b h s k)) = ix3 b h s := funext fun a => by fin_cases a <;> rfl
  rw [val_main_v68_apply, val_main_v67_apply, val_main_v66_apply, val_main_v65_apply, e, v64_at]
  rfl

/-- The attention's weights. -/
theorem v72_at : val_main_v72 (F := Ideal) x0 x1 x2 x3 x4 x5 x6 x7 x8 x10 x12 (ix4 b h s k)
    = sm (fun k => val_main_v61 (F := Ideal) x0 x1 x2 x3 x4 x5 x6 x7 x8 x10 x12 (ix4 b h s k)) k := by
  have e : idx_main_v70 (idx_main_v71 (ix4 b h s k)) = ix3 b h s := funext fun a => by fin_cases a <;> rfl
  rw [val_main_v72_apply, val_main_v71_apply, val_main_v70_apply, e, v69_at, v68_at]
  simp only [v68_at]
  rfl

/-- The heads' results side by side. -/
theorem v75_at : val_main_v75 (F := Ideal) x0 x1 x2 x3 x4 x5 x6 x7 x8 x10 x12 x13 (ix3 b s n)
    = ∑ k : Fin 256, val_main_v72 (F := Ideal) x0 x1 x2 x3 x4 x5 x6 x7 x8 x10 x12 (ix4 b ⟨n.val / 256, by omega⟩ s k) * x13 (ix3 b k n) := by
  have e : idx_main_v74 (idx_main_v75 (ix3 b s n)) = ix4 b (⟨n.val / 256, by omega⟩ : Fin 4) (⟨n.val % 256, by omega⟩ : Fin 256) s := funext fun a => by
    fin_cases a <;> refine Fin.ext ?_
    · show ((b.val * 4096 + s.val) * 1024 + n.val) / 4194304 = b.val; omega
    · show ((b.val * 4096 + s.val) * 1024 + n.val) / 256 % 4 = n.val / 256; omega
    · show ((b.val * 4096 + s.val) * 1024 + n.val) % 256 = n.val % 256; omega
    · show ((b.val * 4096 + s.val) * 1024 + n.val) / 1024 % 4096 = s.val; omega
  rw [val_main_v75_apply, val_main_v74_apply, e, val_main_v73_apply]
  refine Finset.sum_congr rfl fun k _ => ?_
  rw [mul_comm]
  refine congrArg₂ (· * ·) (congrArg _ (funext fun q => ?_)) ?_
  · fin_cases q <;> rfl
  · rw [val_main_v58_apply, val_main_v54_apply]
    refine congrArg x13 (funext fun q => ?_)
    fin_cases q <;> refine Fin.ext ?_
    · show (((b.val * 256 + k.val) * 4 + n.val / 256) * 256 + n.val % 256) / 262144 = b.val; omega
    · show (((b.val * 256 + k.val) * 4 + n.val / 256) * 256 + n.val % 256) / 1024 % 256 = k.val; omega
    · show (((b.val * 256 + k.val) * 4 + n.val / 256) * 256 + n.val % 256) % 1024 = n.val; omega
end Cert.MixRef
end
-- ==== Proof.MixBlocks.lean ====
module
public import proofs.«01_k».proof.Proof.Gen.Kernel3Ideal.Frame
public import proofs.«01_k».proof.Proof.MixMath
public import Idealize.ShloMosaic.Lib.Pipeline.ValueKit
import Idealize.ShloMosaic.Lib.Pointwise
import Idealize.ShloMosaic.Lib.StableHlo.ReadAt

/-! # The blocks of the output projection, read at one index -/

@[expose] public section
set_option maxRecDepth 16384
noncomputable section
open Idealize.ShloMosaic Idealize.ShloMosaic.TcCoe Idealize.SL.Sem
open Idealize.ShloMosaic.Pipeline (Dat)
namespace Cert.MixBlk
open Cert.Kernel3Ideal Cert.Kernel3Ideal.Gen
variable (m : (ℓ : Loc nD τ sig) → Buf (Elt Ideal) ℓ)

/-- The block each window shows at a grid point. -/
theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![t.val / 4, t.val % 4, 0]
    ∧ win0_5.index t = ![t.val / 4, t.val % 4, 0] ∧ win0_6.index t = ![0, 0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![t.val / 4, 0, 0] ∧ win0_15.index t = ![t.val / 4, 0, 0] ∧ win0_16.index t = ![t.val / 4, t.val % 4, 0] :=
  (by decide +kernel : ∀ t : Fin grid0.N, _)
/-- The lane a gate spreads to, in words. -/
theorem word : ∀ (n : Fin 512) (i : Fin 3), IntOp.addi
            (IntOp.addi (IntOp.muli (IntOp.andi (IntOp.shrsi ArithUnit.host (BitVec.ofNat 32 n.val) 6#32) 1#32) 12#32)
              (IntOp.muli (IntOp.shrsi ArithUnit.host (BitVec.ofNat 32 n.val) 7#32) 3#32))
            (BitVec.ofNat 32 i.val) = BitVec.ofNat 32 (n.val / 64 % 2 * 12 + n.val / 128 * 3 + i.val) := by decide +kernel

/-- The comparison of two small words. -/
theorem word_eq (a b : ℕ) (ha : a < 512) (hb : b < 512) : Scalar.select (IntOp.cmpi CmpIPredicate.eq (BitVec.ofNat 32 a) (BitVec.ofNat 32 b)) (1 : EReal) 0
    = if a = b then 1 else 0 := by
  have e : BitVec.ofNat 32 a = BitVec.ofNat 32 b ↔ a = b := by
    constructor
    · intro h
      have := congrArg BitVec.toNat h
      rw [BitVec.toNat_ofNat, BitVec.toNat_ofNat] at this
      omega
    · rintro rfl; rfl
  by_cases h : a = b
  · subst h; simp [Scalar.select, IntOp.cmpi]
  · have h' : ¬ BitVec.ofNat 32 a = BitVec.ofNat 32 b := fun k => h (e.mp k)
    have h2 : (BitVec.ofNat 32 a == BitVec.ofNat 32 b) = false := beq_eq_false_iff_ne.mpr h'
    simp [Scalar.select, IntOp.cmpi, h, h2]

section
variable (c : Dev nD)
/-- Gain row. -/
theorem V26_at (n : Fin 1024) : V m c main_v26 (ix2 0 n) = m ((c : Thread nD τ).loc main_arg7) (ix1 n) := by
  simp only [V, hostOps0, hostOps0_1, hostOps0_2, List.flatten_cons, List.flatten_nil, List.append_nil, List.cons_append, List.nil_append]
  after_reads_at
/-- Gain row. -/
theorem V27_at (n : Fin 1024) : V m c main_v27 (ix2 0 n) = m ((c : Thread nD τ).loc main_arg8) (ix1 n) := by
  simp only [V, hostOps0, hostOps0_1, hostOps0_2, List.flatten_cons, List.flatten_nil, List.append_nil, List.cons_append, List.nil_append]
  after_reads_at
/-- Gain row. -/
theorem V28_at (n : Fin 1024) : V m c main_v28 (ix2 0 n) = m ((c : Thread nD τ).loc main_arg9) (ix1 n) := by
  simp only [V, hostOps0, hostOps0_1, hostOps0_2, List.flatten_cons, List.flatten_nil, List.append_nil, List.cons_append, List.nil_append]
  after_reads_at
/-- The first half of the projection. -/
theorem V20_at (a : Fin 512) (n : Fin 1024) : V m c main_v20 (ix2 a n) = m ((c : Thread nD τ).loc main_arg6) (ix2 (⟨a.val, by omega⟩ : Fin 1024) n) := by
  simp only [V, hostOps0, hostOps0_1, hostOps0_2, List.flatten_cons, List.flatten_nil, List.append_nil, List.cons_append, List.nil_append]
  after_reads_at
/-- The second half, its rows in the other order. -/
theorem V25_at (a : Fin 512) (n : Fin 1024) : V m c main_v25 (ix2 a n) = m ((c : Thread nD τ).loc main_arg6) (ix2 (⟨512 + (Cert.Mix.perm a).val, by omega⟩ : Fin 1024) n) := by
  simp only [V, hostOps0, hostOps0_1, hostOps0_2, List.flatten_cons, List.flatten_nil, List.append_nil, List.cons_append, List.nil_append]
  after_reads_at
  rfl
/-- The spreading table. -/
theorem V18_at (i : Fin 3) (l : Fin 256) (n : Fin 512) : V m c main_v18 (ix3 i l n) = if l.val % 128 = n.val / 64 % 2 * 12 + n.val / 128 * 3 + i.val then (1 : EReal) else 0 := by
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  clean_types
  pointwise
  rw [word]
  split
  · rw [word_eq _ _ (by omega) (by omega), show l.val % 128 = l.val by omega]
  · rw [word_eq _ _ (by omega) (by omega), show l.val % 128 = l.val - 128 by omega]
end

variable (c : Dev nD) (t : Fin cfg0.N) (b : Fin 8) (s : Fin 4096) (r n l : Fin 1024) (a : Fin 512) (hb : b.val = t.val / 4) (hs : s.val = 1024 * (t.val % 4) + r.val)
include hb hs in
theorem x_at : iblk m c 0 t (ix3 0 r n) = m ((c : Thread nD τ).loc main_arg0) (ix3 b s n) := by
  blk_point [iblk, V, idx t]
include hb hs in
theorem oa_at : iblk m c 1 t (ix3 0 r a) = m ((c : Thread nD τ).loc main_arg1) (ix3 b s a) := by
  blk_point [iblk, V, idx t]
include hb hs in
theorem oc_at : iblk m c 2 t (ix3 0 r a) = m ((c : Thread nD τ).loc main_arg2) (ix3 b s a) := by
  blk_point [iblk, V, idx t]
include hb hs in
theorem os_at : iblk m c 3 t (ix3 0 r a) = m ((c : Thread nD τ).loc main_arg3) (ix3 b s a) := by
  blk_point [iblk, V, idx t]
include hb hs in
theorem ow_at : iblk m c 4 t (ix3 0 r a) = m ((c : Thread nD τ).loc main_arg4) (ix3 b s a) := by
  blk_point [iblk, V, idx t]
include hb hs in
theorem g_at (k : Fin 128) : iblk m c 5 t (ix3 0 r k) = m ((c : Thread nD τ).loc main_arg5) (ix3 b s k) := by
  blk_point [iblk, V, idx t]
theorem r9_at : iblk m c 9 t (ix2 0 n) = m ((c : Thread nD τ).loc main_arg7) (ix1 n) := by
  refine Eq.trans ?_ (V26_at m c n)
  blk_simp [iblk]
  refine congrArg (V m c main_v26) ?_
  blk_ext [idx t]
theorem r10_at : iblk m c 10 t (ix2 0 n) = m ((c : Thread nD τ).loc main_arg8) (ix1 n) := by
  refine Eq.trans ?_ (V27_at m c n)
  blk_simp [iblk]
  refine congrArg (V m c main_v27) ?_
  blk_ext [idx t]
theorem r11_at : iblk m c 11 t (ix2 0 n) = m ((c : Thread nD τ).loc main_arg9) (ix1 n) := by
  refine Eq.trans ?_ (V28_at m c n)
  blk_simp [iblk]
  refine congrArg (V m c main_v28) ?_
  blk_ext [idx t]
theorem wq_at : iblk m c 12 t (ix2 l n) = m ((c : Thread nD τ).loc main_arg10) (ix2 l n) := by
  blk_point [iblk, V, idx t]
theorem wo_at : iblk m c 13 t (ix2 l n) = m ((c : Thread nD τ).loc main_arg11) (ix2 l n) := by
  blk_point [iblk, V, idx t]
include hb in
theorem k_at (j : Fin 256) : iblk m c 14 t (ix3 0 j n) = m ((c : Thread nD τ).loc main_arg12) (ix3 b j n) := by
  blk_point [iblk, V, idx t]
include hb in
theorem v_at (j : Fin 256) : iblk m c 15 t (ix3 0 j n) = m ((c : Thread nD τ).loc main_arg13) (ix3 b j n) := by
  blk_point [iblk, V, idx t]
theorem wa_at : iblk m c 7 t (ix2 a n) = m ((c : Thread nD τ).loc main_arg6) (ix2 (⟨a.val, a.isLt.trans (by decide)⟩ : Fin 1024) n) := by
  refine Eq.trans ?_ (V20_at m c a n)
  blk_simp [iblk]
  refine congrArg (V m c main_v20) ?_
  blk_ext [idx t]
theorem wb_at : iblk m c 8 t (ix2 a n) = m ((c : Thread nD τ).loc main_arg6) (ix2 (⟨512 + (Cert.Mix.perm a).val, Nat.add_lt_add_left (Cert.Mix.perm a).isLt 512⟩ : Fin 1024) n) := by
  refine Eq.trans ?_ (V25_at m c a n)
  blk_simp [iblk]
  refine congrArg (V m c main_v25) ?_
  blk_ext [idx t]
theorem e_at (i : Fin 3) (k : Fin 256) : iblk m c 6 t (ix3 i k a) = if k.val % 128 = a.val / 64 % 2 * 12 + a.val / 128 * 3 + i.val then (1 : EReal) else 0 := by
  refine Eq.trans ?_ (V18_at m c i k a)
  blk_simp [iblk]
  refine congrArg (V m c main_v18) ?_
  blk_ext [idx t]
include hb hs in
theorem out_at : ((cfg0.win 16).blk t).view.emb (ix3 0 r n) = ix3 b s n := by
  blk_ext [idx t]
end Cert.MixBlk
end
-- ==== Proof.MixNear.lean ====
module
public import proofs.«01_k».proof.Proof.Ffn
import Idealize.ShloMosaic.Lib.Pipeline.ValueKit
import Idealize.ShloMosaic.Lib.Pointwise

/-! # Rows that differ only where both are infinite

A gate split in its rounding and the rest is the gate again, but for an infinite one, where it may be the other infinity.
Sums and products keep the two apart only where both are infinite, and a norm of a row with an infinite entry is zero. -/

@[expose] public section
noncomputable section
open Idealize.ShloMosaic
open Cert.Ffn (rms)
namespace Cert.Mix

/-- An infinite number. -/
def inf (a : EReal) : Prop := a = ⊤ ∨ a = ⊥

/-- The same, or both infinite. -/
def near (a b : EReal) : Prop := a = b ∨ (inf a ∧ inf b)

theorem inf_add_left {a b : EReal} (h : inf a) : inf (a + b) := by
  rcases h with rfl | rfl
  · induction b using EReal.rec with
    | bot => exact .inr rfl
    | coe r => exact .inl rfl
    | top => exact .inl rfl
  · exact .inr (EReal.bot_add b)

theorem inf_add_right {a b : EReal} (h : inf b) : inf (a + b) := by
  rw [add_comm]; exact inf_add_left h

theorem inf_mul {a : EReal} (w : EReal) (h : inf a) (hw : w ≠ 0) : inf (a * w) := by
  rcases lt_or_gt_of_ne hw with w0 | w0
  · rcases h with rfl | rfl
    · exact .inr (EReal.top_mul_of_neg w0)
    · exact .inl (EReal.bot_mul_of_neg w0)
  · rcases h with rfl | rfl
    · exact .inl (EReal.top_mul_of_pos w0)
    · exact .inr (EReal.bot_mul_of_pos w0)

theorem near_add {a b c d : EReal} (h : near a b) (k : near c d) : near (a + c) (b + d) := by
  rcases h with rfl | ⟨h, h'⟩
  · rcases k with rfl | ⟨k, k'⟩
    · exact .inl rfl
    · exact .inr ⟨inf_add_right k, inf_add_right k'⟩
  · exact .inr ⟨inf_add_left h, inf_add_left h'⟩

theorem near_mul {a b : EReal} (w : EReal) (h : near a b) : near (a * w) (b * w) := by
  rcases h with rfl | ⟨h, h'⟩
  · exact .inl rfl
  · by_cases hw : w = 0
    · exact .inl (by rw [hw, mul_zero, mul_zero])
    · exact .inr ⟨inf_mul w h hw, inf_mul w h' hw⟩

theorem near_sum {ι : Type} (s : Finset ι) (f g : ι → EReal) (h : ∀ i, near (f i) (g i)) : near (∑ i ∈ s, f i) (∑ i ∈ s, g i) := by
  classical
  induction s using Finset.induction_on with
  | empty => exact .inl rfl
  | insert a s ha ih => rw [Finset.sum_insert ha, Finset.sum_insert ha]; exact near_add (h a) ih

theorem word_1024 : Ideal.ofBits FTy.f32 0x44800000#32 = ((1024 : ℝ) : EReal) := by
  simp [Ideal.ofBits, Ideal.ieee, -EReal.coe_mul]; norm_num

theorem word_eps : Ideal.ofBits FTy.f32 0x358637BD#32 ≠ ⊥ := by
  simp [Ideal.ofBits, Ideal.ieee, -EReal.coe_mul]

/-- A norm of a row with an infinite entry is zero. -/
theorem rms_inf (x g : Fin 1024 → EReal) (k n : Fin 1024) (h : inf (x k)) : rms x g n = 0 := by
  have sq : ∀ a : EReal, 0 ≤ a * a := fun a => by
    induction a using EReal.rec with
    | bot => rw [EReal.bot_mul_bot]; exact le_top
    | coe r => rw [← EReal.coe_mul]; exact EReal.coe_nonneg.2 (mul_self_nonneg r)
    | top => rw [EReal.top_mul_top]; exact le_top
  have hk : x k * x k = ⊤ := by rcases h with h | h <;> rw [h] <;> rfl
  have hs : ∑ l : Fin 1024, x l * x l = ⊤ := top_le_iff.1 (hk ▸ Finset.single_le_sum (fun l _ => sq (x l)) (Finset.mem_univ k))
  have h1 : Ideal.div (⊤ : EReal) (Ideal.ofBits FTy.f32 0x44800000#32) = ⊤ := by
    rw [word_1024, Ideal.div_coe (by norm_num)]
    exact EReal.top_mul_coe_of_pos (by norm_num)
  unfold rms
  rw [hs, h1, EReal.top_add_of_ne_bot word_eps, Ideal.rsqrt_top, mul_zero, zero_mul]

/-- Rows that agree but where both are infinite have the same norm. -/
theorem rms_near (x y g : Fin 1024 → EReal) (h : ∀ k, near (x k) (y k)) : rms x g = rms y g := by
  by_cases e : ∀ k, x k = y k
  · rw [funext e]
  · obtain ⟨k, hk⟩ := not_forall.1 e
    rcases h k with q | ⟨q, q'⟩
    · exact absurd q hk
    · funext n; rw [rms_inf x g k n q, rms_inf y g k n q']

end Cert.Mix
end
-- ==== Proof.MixValue.lean ====
module
public import proofs.«01_k».proof.Proof.MixPay
public import proofs.«01_k».proof.Proof.MixRef
public import proofs.«01_k».proof.Proof.MixBlocks
public import proofs.«01_k».proof.Proof.MixNear
import Idealize.ShloMosaic.Lib.Pipeline.ValueKit
import Idealize.ShloMosaic.Lib.Pointwise

/-! # The output projection's result array is the reference's

The table spreads each gate over its head's lanes, and what a gate's rounding left is nothing where the gate is a real
(where it isn't, both projected rows are infinite at the same lanes, and their norms are the same);
the projected row is the same sum with the second half in the other order, and the score's scale comes out of the sum. -/

@[expose] public section
set_option maxRecDepth 16384
noncomputable section
open Idealize.ShloMosaic Idealize.ShloMosaic.TcCoe Idealize.SL.Sem
open Idealize.ShloMosaic.Pipeline (Dat)
open Cert.Ffn (rms)
open Cert.MixRef Cert.Reference3Ideal.Read
namespace Cert.Mix

/-- A table with a one at `N` in each half picks the gate there, or both are infinite. -/
theorem spread_near (g : Fin 128 → EReal) (e : Fin 256 → EReal) (N : ℕ) (hN : N < 128) (he : ∀ k : Fin 256, e k = if k.val % 128 = N then 1 else 0) :
    near (spread g e) (g ⟨N, hN⟩) := by
  have pick : ∀ f : Fin 128 → EReal, ∑ x : Fin 128, f x * (if x.val = N then (1 : EReal) else 0) = f ⟨N, hN⟩ := fun f => by
    rw [Finset.sum_eq_single (⟨N, hN⟩ : Fin 128)]
    · rw [if_pos rfl, mul_one]
    · intro x _ hx
      rw [if_neg (fun h => hx (Fin.ext h)), mul_zero]
    · intro h; exact absurd (Finset.mem_univ _) h
  have e1 : ∀ x : Fin 128, e ⟨x.val, by omega⟩ = if x.val = N then 1 else 0 := fun x => by
    rw [he]; simp only [Nat.mod_eq_of_lt x.isLt]
  have e2 : ∀ x : Fin 128, e ⟨128 + x.val, by omega⟩ = if x.val = N then 1 else 0 := fun x => by
    rw [he]; simp only [Nat.add_mod_left, Nat.mod_eq_of_lt x.isLt]
  unfold spread
  simp only [e1, e2]
  rw [pick g, pick fun x => g x - g x]
  generalize g ⟨N, hN⟩ = q
  induction q using EReal.rec with
  | bot => exact .inr ⟨inf_add_left (.inr rfl), .inr rfl⟩
  | coe r => exact .inl (by rw [← EReal.coe_sub, sub_self, EReal.coe_zero, add_zero])
  | top => exact .inr ⟨inf_add_left (.inl rfl), .inl rfl⟩

section block
open Cert.Kernel3Ideal Cert.Kernel3Ideal.Gen
/-- The heads side by side, each its own lanes' attention. -/
theorem heads_at {v71 : FVec Ideal S1024x1024 .bf16} {X12 : FVec Ideal S1024x1024 .bf16} {X14 X15 : Vec Ideal S1x256x1024 .bf16} {r : Fin 1024} (G : Fin 4 → Fin 256 → EReal)
    (H : ∀ (h : Fin 4) (d : Fin 256) (u : Fin 256 → Fin 1024), (∀ e, (u e).val = 256 * h.val + e.val) →
      ∑ n : Fin 256, sm (fun n => ∑ e : Fin 256, k0_pay5 v71 X12 (ix2 r (u e)) * X14 (ix3 0 n (u e))) n * X15 (ix3 0 n (u d)) = G h d) (l : Fin 1024) :
    heads (fun d => k0_pay6 v71 X12 (View.ld X14 r0_9) (View.ld X15 r0_9) (ix2 r d))
      (fun d => k0_pay8 (k0_pay7 v71 X12 (View.ld X14 r0_10)) (View.ld X15 r0_10) (ix2 r d))
      (fun d => k0_pay9 (k0_pay5 v71 X12) (View.ld X14 r0_11) (View.ld X15 r0_11) (ix2 r d))
      (fun d => ∑ j : Fin 256, k0_pay10 (k0_pay5 v71 X12) (View.ld X14 r0_12) (ix2 r j) * k0_pay11 (View.ld X15 r0_12) (ix2 j d)) l
    = G ⟨l.val / 256, by omega⟩ ⟨l.val % 256, by omega⟩ := by
  have l9 : ∀ (X : Vec Ideal S1x256x1024 .bf16) (j d : Fin 256), View.ld X r0_9 (ix3 0 j d) = X (ix3 0 j ⟨0 + d.val, by omega⟩) := fun X j d => by pointwise [r0_9]
  have l10 : ∀ (X : Vec Ideal S1x256x1024 .bf16) (j d : Fin 256), View.ld X r0_10 (ix3 0 j d) = X (ix3 0 j ⟨256 + d.val, by omega⟩) := fun X j d => by pointwise [r0_10]
  have l11 : ∀ (X : Vec Ideal S1x256x1024 .bf16) (j d : Fin 256), View.ld X r0_11 (ix3 0 j d) = X (ix3 0 j ⟨512 + d.val, by omega⟩) := fun X j d => by pointwise [r0_11]
  have l12 : ∀ (X : Vec Ideal S1x256x1024 .bf16) (j d : Fin 256), View.ld X r0_12 (ix3 0 j d) = X (ix3 0 j ⟨768 + d.val, by omega⟩) := fun X j d => by pointwise [r0_12]
  refine heads_eq _ _ _ _ G (funext fun d => ?_) (funext fun d => ?_) (funext fun d => ?_) (funext fun d => ?_) l
  · refine Eq.trans ?_ (H 0 d (fun e => ⟨0 + e.val, by omega⟩) fun e => by show 0 + e.val = 256 * 0 + e.val; omega)
    rw [pay6_at]
    refine Finset.sum_congr rfl fun n _ => congr (congrArg _ (congrArg (sm · n) (funext fun n => Finset.sum_congr rfl fun e _ => congrArg (_ * ·) (l9 X14 n e)))) (l9 X15 n d)
  · refine Eq.trans ?_ (H 1 d (fun e => ⟨256 + e.val, by omega⟩) fun e => by show 256 + e.val = 256 * 1 + e.val; omega)
    rw [pay87_at]
    refine Finset.sum_congr rfl fun n _ => congr (congrArg _ (congrArg (sm · n) (funext fun n => Finset.sum_congr rfl fun e _ => congrArg (_ * ·) (l10 X14 n e)))) (l10 X15 n d)
  · refine Eq.trans ?_ (H 2 d (fun e => ⟨512 + e.val, by omega⟩) fun e => by show 512 + e.val = 256 * 2 + e.val; omega)
    rw [pay9_at]
    refine Finset.sum_congr rfl fun n _ => congr (congrArg _ (congrArg (sm · n) (funext fun n => Finset.sum_congr rfl fun e _ => congrArg (_ * ·) (l11 X14 n e)))) (l11 X15 n d)
  · refine Eq.trans ?_ (H 3 d (fun e => ⟨768 + e.val, by omega⟩) fun e => by show 768 + e.val = 256 * 3 + e.val; omega)
    simp only [pay10_at, pay11_at]
    refine Finset.sum_congr rfl fun n _ => congr (congrArg _ (congrArg (sm · n) (funext fun n => Finset.sum_congr rfl fun e _ => congrArg (_ * ·) (l12 X14 n e)))) (l12 X15 n d)

variable {X0 : Vec Ideal S1x1024x1024 .f32} {X1 X2 X3 X4 : Vec Ideal S1x1024x512 .bf16} {X5 : Vec Ideal S1x1024x128 .f32} {X6 : Vec Ideal S3x256x512 .bf16}
  {X7 X8 : Vec Ideal S512x1024 .bf16} {X9 X10 X11 : Vec Ideal S1x1024 .f32} {X12 X13 : Vec Ideal S1024x1024 .bf16} {X14 X15 : Vec Ideal S1x256x1024 .bf16}
  {x0 : FVec Ideal S8x4096x1024 .f32} {x1 x2 x3 x4 : FVec Ideal S8x4096x512 .bf16} {x5 : FVec Ideal S8x4096x128 .f32}
  {x6 : FVec Ideal S1024x1024 .f32} {x7 x8 x9 : FVec Ideal S1024 .f32} {x10 x11 : FVec Ideal S1024x1024 .f32} {x12 x13 : FVec Ideal S8x256x1024 .bf16}
  {b : Fin 8} {s : Fin 4096} {r : Fin 1024}

/-- The gated branches, but for infinite gates. -/
theorem b12 (h2 : ∀ a, X2 (ix3 0 r a) = x2 (ix3 b s a)) (h3 : ∀ a, X3 (ix3 0 r a) = x3 (ix3 b s a)) (h4 : ∀ a, X4 (ix3 0 r a) = x4 (ix3 b s a))
    (h5 : ∀ a, X5 (ix3 0 r a) = x5 (ix3 b s a))
    (h6 : ∀ (i : Fin 3) (k : Fin 256) (a : Fin 512), X6 (ix3 i k a) = if k.val % 128 = a.val / 64 % 2 * 12 + a.val / 128 * 3 + i.val then (1 : EReal) else 0) (a : Fin 512) :
    near (k0_pay12 X0 X1 X2 X3 X4 X5 X6 X7 X8 X9 X10 X11 X12 X13 X14 X15 (ix2 r a))
      (x5 (ix3 b s ⟨_, lane_lt a 0⟩) * x2 (ix3 b s a) + x5 (ix3 b s ⟨_, lane_lt a 1⟩) * x3 (ix3 b s a) + x5 (ix3 b s ⟨_, lane_lt a 2⟩) * x4 (ix3 b s a)) := by
  have l0 : ∀ i, View.ld X5 r0_0 (ix3 0 r i) = X5 (ix3 0 r i) := fun i => by pointwise [r0_0]
  have l2 : View.ld X2 r0_2 (ix3 0 r a) = X2 (ix3 0 r a) := by pointwise [r0_2]
  have l3 : View.ld X3 r0_2 (ix3 0 r a) = X3 (ix3 0 r a) := by pointwise [r0_2]
  have l4 : View.ld X4 r0_2 (ix3 0 r a) = X4 (ix3 0 r a) := by pointwise [r0_2]
  have t0 : ∀ k, View.ld X6 r0_1 (ix3 0 k a) = X6 (ix3 0 k a) := fun k => by pointwise [r0_1]
  have t1 : ∀ k, View.ld X6 r0_3 (ix3 0 k a) = X6 (ix3 1 k a) := fun k => by pointwise [r0_3]
  have t2 : ∀ k, View.ld X6 r0_4 (ix3 0 k a) = X6 (ix3 2 k a) := fun k => by pointwise [r0_4]
  unfold k0_pay12
  rw [pay2_at]
  simp only [l0, l2, l3, l4, t0, t1, t2, h2, h3, h4, h5]
  exact near_add (near_add (near_mul _ (spread_near _ _ _ (lane_lt a 0) fun k => h6 0 k a)) (near_mul _ (spread_near _ _ _ (lane_lt a 1) fun k => h6 1 k a)))
    (near_mul _ (spread_near _ _ _ (lane_lt a 2) fun k => h6 2 k a))

variable (h0 : ∀ a, X0 (ix3 0 r a) = x0 (ix3 b s a)) (h1 : ∀ a, X1 (ix3 0 r a) = x1 (ix3 b s a))
  (h2 : ∀ a, X2 (ix3 0 r a) = x2 (ix3 b s a)) (h3 : ∀ a, X3 (ix3 0 r a) = x3 (ix3 b s a)) (h4 : ∀ a, X4 (ix3 0 r a) = x4 (ix3 b s a))
  (h5 : ∀ a, X5 (ix3 0 r a) = x5 (ix3 b s a))
  (h6 : ∀ (i : Fin 3) (k : Fin 256) (a : Fin 512), X6 (ix3 i k a) = if k.val % 128 = a.val / 64 % 2 * 12 + a.val / 128 * 3 + i.val then (1 : EReal) else 0)
  (h7 : ∀ (a : Fin 512) (n : Fin 1024), X7 (ix2 a n) = x6 (ix2 (⟨a.val, by omega⟩ : Fin 1024) n))
  (h8 : ∀ (a : Fin 512) (n : Fin 1024), X8 (ix2 a n) = x6 (ix2 (⟨512 + (perm a).val, by omega⟩ : Fin 1024) n))
  (h9 : ∀ n, X9 (ix2 0 n) = x7 (ix1 n)) (h10 : ∀ n, X10 (ix2 0 n) = x8 (ix1 n)) (h11 : ∀ n, X11 (ix2 0 n) = x9 (ix1 n))
  (h12 : ∀ l n, X12 (ix2 l n) = x10 (ix2 l n)) (h13 : ∀ l n, X13 (ix2 l n) = x11 (ix2 l n))
  (h14 : ∀ k n, X14 (ix3 0 k n) = x12 (ix3 b k n)) (h15 : ∀ k n, X15 (ix3 0 k n) = x13 (ix3 b k n))

include h0 h1 h2 h3 h4 h5 h6 h7 h8 h9 in
/-- The stream after the output projection. -/
theorem b3 (n : Fin 1024) : k0_pay3 (k0_pay12 X0 X1 X2 X3 X4 X5 X6 X7 X8 X9 X10 X11 X12 X13 X14 X15) X1 X7 X8 X0 X9 (ix2 r n)
    = val_main_v39 (F := Ideal) x0 x1 x2 x3 x4 x5 x6 x7 (ix3 b s n) := by
  rw [pay3_at, v39_at, h0]
  refine congrArg (x0 (ix3 b s n) + ·) ?_
  rw [show (fun k => X9 (ix2 0 k)) = fun k => x7 (ix1 k) from funext h9]
  refine congrFun (rms_near _ _ _ fun k => ?_) n
  rw [v25_halves]
  refine near_add (.inl (Finset.sum_congr rfl fun l _ => ?_)) (near_sum _ _ _ fun l => ?_)
  · rw [h1, h7]
  · rw [h8]
    exact near_mul _ (b12 h2 h3 h4 h5 h6 l)

include h0 h1 h2 h3 h4 h5 h6 h7 h8 h9 h10 in
/-- Its norm. -/
theorem b13 (n : Fin 1024) : k0_pay13 X0 X1 X2 X3 X4 X5 X6 X7 X8 X9 X10 X11 X12 X13 X14 X15 (ix2 r n)
    = val_main_v52 (F := Ideal) x0 x1 x2 x3 x4 x5 x6 x7 x8 (ix3 b s n) := by
  have z3 : (![0, 0, 0] : Fin 3 → ℕ) = fun _ => 0 := funext fun a => by fin_cases a <;> rfl
  have z2 : (![0, 0] : Fin 2 → ℕ) = fun _ => 0 := funext fun a => by fin_cases a <;> rfl
  unfold k0_pay13
  rw [View.ld_unit_zero z3, View.ld_unit_zero z2, View.ld_unit_zero z2, View.ld_unit_zero z3, View.ld_unit_zero z2, View.ld_unit_zero z2, pay4_at, v52_at]
  exact congrArg₂ (fun f g => rms f g n) (funext fun k => b3 h0 h1 h2 h3 h4 h5 h6 h7 h8 h9 k) (funext h10)

include h0 h1 h2 h3 h4 h5 h6 h7 h8 h9 h10 h12 in
/-- The scaled queries. -/
theorem b5 (n : Fin 1024) : k0_pay5 (k0_pay13 X0 X1 X2 X3 X4 X5 X6 X7 X8 X9 X10 X11 X12 X13 X14 X15) X12 (ix2 r n)
    = val_main_v55 (F := Ideal) x0 x1 x2 x3 x4 x5 x6 x7 x8 x10 (ix3 b s n) * Ideal.ofBits .f32 0x3D800000#32 := by
  rw [pay5_at, v55_at]
  refine congrArg (· * _) (Finset.sum_congr rfl fun l _ => ?_)
  rw [b13 h0 h1 h2 h3 h4 h5 h6 h7 h8 h9 h10, h12]

include h0 h1 h2 h3 h4 h5 h6 h7 h8 h9 h10 h12 h14 in
/-- A head's scores. -/
theorem b61 (h : Fin 4) (k : Fin 256) (u : Fin 256 → Fin 1024) (hu : ∀ e, (u e).val = 256 * h.val + e.val) :
    ∑ e : Fin 256, k0_pay5 (k0_pay13 X0 X1 X2 X3 X4 X5 X6 X7 X8 X9 X10 X11 X12 X13 X14 X15) X12 (ix2 r (u e)) * X14 (ix3 0 k (u e))
    = val_main_v61 (F := Ideal) x0 x1 x2 x3 x4 x5 x6 x7 x8 x10 x12 (ix4 b h s k) := by
  rw [v61_at, ofBits_sixteenth, ← sum_scale _ _ _ (by norm_num)]
  refine Finset.sum_congr rfl fun e _ => ?_
  rw [b5 h0 h1 h2 h3 h4 h5 h6 h7 h8 h9 h10 h12, h14, ofBits_sixteenth, show u e = ⟨_, hd_lt h e⟩ from Fin.ext (hu e)]

include h0 h1 h2 h3 h4 h5 h6 h7 h8 h9 h10 h12 h14 h15 in
/-- A head's result. -/
theorem bhead (h : Fin 4) (d : Fin 256) (u : Fin 256 → Fin 1024) (hu : ∀ e, (u e).val = 256 * h.val + e.val) :
    ∑ n : Fin 256, sm (fun n => ∑ e : Fin 256, k0_pay5 (k0_pay13 X0 X1 X2 X3 X4 X5 X6 X7 X8 X9 X10 X11 X12 X13 X14 X15) X12 (ix2 r (u e)) * X14 (ix3 0 n (u e))) n * X15 (ix3 0 n (u d))
    = ∑ k : Fin 256, val_main_v72 (F := Ideal) x0 x1 x2 x3 x4 x5 x6 x7 x8 x10 x12 (ix4 b h s k) * x13 (ix3 b k ⟨_, hd_lt h d⟩) := by
  refine Finset.sum_congr rfl fun n _ => ?_
  rw [h15, v72_at, show u d = ⟨_, hd_lt h d⟩ from Fin.ext (hu d)]
  refine congrArg (fun f => sm f n * _) (funext fun k => ?_)
  exact b61 h0 h1 h2 h3 h4 h5 h6 h7 h8 h9 h10 h12 h14 h k u hu

include h0 h1 h2 h3 h4 h5 h6 h7 h8 h9 h10 h11 h12 h13 h14 h15 in
/-- What the body stores at a block index. -/
theorem b1 (n : Fin 1024) :
    k0_pay1 (k0_pay3 (k0_pay12 X0 X1 X2 X3 X4 X5 X6 X7 X8 X9 X10 X11 X12 X13 X14 X15) X1 X7 X8 X0 X9)
      (k0_pay6 (k0_pay13 X0 X1 X2 X3 X4 X5 X6 X7 X8 X9 X10 X11 X12 X13 X14 X15) X12 (View.ld X14 r0_9) (View.ld X15 r0_9))
      (k0_pay8 (k0_pay7 (k0_pay13 X0 X1 X2 X3 X4 X5 X6 X7 X8 X9 X10 X11 X12 X13 X14 X15) X12 (View.ld X14 r0_10)) (View.ld X15 r0_10))
      (k0_pay9 (k0_pay14 X0 X1 X2 X3 X4 X5 X6 X7 X8 X9 X10 X11 X12 X13 X14 X15) (View.ld X14 r0_11) (View.ld X15 r0_11))
      (k0_pay10 (k0_pay14 X0 X1 X2 X3 X4 X5 X6 X7 X8 X9 X10 X11 X12 X13 X14 X15) (View.ld X14 r0_12)) (k0_pay11 (View.ld X15 r0_12)) (constant S1024x256 FTy.f32 0#32) X13 X11 (ix3 0 r n)
    = val_main_v90 (F := Ideal) x0 x1 x2 x3 x4 x5 x6 x7 x8 x9 x10 x11 x12 x13 (ix3 b s n) := by
  have z2 : (![0, 0] : Fin 2 → ℕ) = fun _ => 0 := funext fun a => by fin_cases a <;> rfl
  have e14 : k0_pay14 X0 X1 X2 X3 X4 X5 X6 X7 X8 X9 X10 X11 X12 X13 X14 X15 = k0_pay5 (k0_pay13 X0 X1 X2 X3 X4 X5 X6 X7 X8 X9 X10 X11 X12 X13 X14 X15) X12 := by
    unfold k0_pay14
    rw [View.ld_unit_zero z2]
  rw [pay1_at, v90_at, b3 h0 h1 h2 h3 h4 h5 h6 h7 h8 h9, e14]
  refine congrArg (val_main_v39 (F := Ideal) x0 x1 x2 x3 x4 x5 x6 x7 (ix3 b s n) + ·) ?_
  refine congrArg₂ (fun f g => rms f g n) (funext fun k => ?_) (funext h11)
  rw [v76_at]
  refine Finset.sum_congr rfl fun l _ => ?_
  rw [h13, v75_at]
  refine congrArg (· * _) ?_
  refine (heads_at (fun h d => ∑ k : Fin 256, val_main_v72 (F := Ideal) x0 x1 x2 x3 x4 x5 x6 x7 x8 x10 x12 (ix4 b h s k) * x13 (ix3 b k ⟨_, hd_lt h d⟩))
    (fun h d u hu => bhead (X11 := X11) (X13 := X13) h0 h1 h2 h3 h4 h5 h6 h7 h8 h9 h10 h12 h14 h15 h d u hu) l).trans ?_
  · refine Finset.sum_congr rfl fun k _ => congrArg (fun q => _ * x13 (ix3 b k q)) (Fin.ext ?_)
    show 256 * (l.val / 256) + l.val % 256 = l.val
    omega

end block

section final
open Cert.Kernel3Ideal Cert.Kernel3Ideal.Gen
variable (m : (ℓ : Loc nD τ sig) → Buf (Elt Ideal) ℓ)

/-- The reference's result over the kernel's argument arrays. -/
abbrev REF (c : Dev nD) : FVec Ideal Cert.Reference3Ideal.S8x4096x1024 .f32 :=
  val_main_v90 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

/-- The result array after the run is the reference's. -/
theorem final (c : Dev nD) : (dats m 0 c).arrAt 16 (cfgs 0).N = REF m c := by
  refine (dats m 0 c).arrAt_eq_of_covers 16 _ (by decide +kernel) fun t hf y => ?_
  have ht : t.val < 32 := t.isLt
  have hr : (y 1).val < 1024 := (y 1).isLt
  obtain ⟨r, n, hy⟩ : ∃ r n : Fin 1024, y = ix3 0 r n := ⟨y 1, y 2, by
    funext a
    fin_cases a
    · exact Subsingleton.elim (α := Fin 1) _ _
    · rfl
    · rfl⟩
  have he := Cert.MixBlk.out_at t (⟨t.val / 4, by omega⟩ : Fin 8) (⟨1024 * (t.val % 4) + r.val, by omega⟩ : Fin 4096) r n rfl rfl
  subst hy
  blk_simp
  rw [after0_16]
  frame_out
  refine Eq.trans ?_ (congrArg (REF m c) he).symm
  exact b1 (fun a => Cert.MixBlk.x_at m c t _ _ r a rfl rfl) (fun a => Cert.MixBlk.oa_at m c t _ _ r a rfl rfl) (fun a => Cert.MixBlk.oc_at m c t _ _ r a rfl rfl)
    (fun a => Cert.MixBlk.os_at m c t _ _ r a rfl rfl) (fun a => Cert.MixBlk.ow_at m c t _ _ r a rfl rfl) (fun a => Cert.MixBlk.g_at m c t _ _ r rfl rfl a)
    (fun i k a => Cert.MixBlk.e_at m c t a i k) (fun a n => Cert.MixBlk.wa_at m c t n a) (fun a n => Cert.MixBlk.wb_at m c t n a)
    (fun n => Cert.MixBlk.r9_at m c t n) (fun n => Cert.MixBlk.r10_at m c t n) (fun n => Cert.MixBlk.r11_at m c t n)
    (fun l n => Cert.MixBlk.wq_at m c t n l) (fun l n => Cert.MixBlk.wo_at m c t n l) (fun k n => Cert.MixBlk.k_at m c t _ n rfl k) (fun k n => Cert.MixBlk.v_at m c t _ n rfl k) n
end final
end Cert.Mix
end
-- ==== Proof.lean ====
module
public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.Kernel.Skeleton
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Ffn
public import proofs.«01_k».proof.Proof.RunKernel
public import proofs.«01_k».proof.Proof.RunKernelIdeal
public import proofs.«01_k».proof.Proof.DaValue
public import proofs.«01_k».proof.Proof.MixValue
import Idealize.ShloMosaic.Lib.Claim

public section

namespace Cert.Proof
open Idealize.ShloMosaic Idealize.ShloMosaic.TcCoe Idealize.SL.Sem

/-- The feed-forward call and its reference end with equal arrays. -/
theorem value2 : Cert.algebraic_Kernel2Ideal_Reference2Ideal
    (hKernel2Ideal := Cert.Kernel2Ideal.Gen.facts) (hReference2Ideal := Cert.Reference2Ideal.Gen.facts) := by
  intro m g m' g' _ hm
  refine ⟨fun c => Cert.Ffn.REF m c, ?_, ?_⟩
  · refine (θ_run _ _ _).mono (fun r h c => ?_) (Cert.Kernel2Ideal.Value.run_blocks m g)
    obtain ⟨h0, h1⟩ := h c
    exact ⟨h0.trans (Cert.Ffn.final m c), h1⟩
  · refine (θ_run _ _ _).mono (fun r h c => ?_) (Cert.Reference2Ideal.Value.run m' g')
    obtain ⟨h0, h1⟩ := h c
    obtain ⟨e0, e1, e2, e3, e4, e5⟩ := hm c
    refine ⟨h0.trans ?_, h1⟩
    rw [Cert.Reference2Ideal.Read.val_main_v34_eq, e0, e1, e2, e3, e4, e5]

/-- The reference's arguments end unchanged, and it has no counters. -/
theorem frame_r2 : Cert.quiescent_Reference2Ideal (hReference2Ideal := Cert.Reference2Ideal.Gen.facts) := by
  intro m g _
  exact (θ_run _ _ _).mono (fun r h => ⟨fun c => (h c).2, sem_eq_zero_of_no_sems (by decide) r.2⟩)
    (Cert.Reference2Ideal.Value.run m g)

/-- The attention's reference's arguments end unchanged, and it has no counters. -/
theorem frame_r : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run m g)

/-- The mask's stand-in is named for what it stands for. -/
theorem preserves : Cert.preserves_Kernel_KernelIdeal :=
  IdealRules.named_const.statement Cert.KernelIdeal.κ "mask" .f32 0xF149F2CA#32 ⊥ rfl

/-- The attention call and its reference end with equal arrays. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hm
  refine ⟨fun c => Cert.DaValue.REF m c, ?_, ?_⟩
  · run_from Cert.KernelIdeal.Gen.run_main m g
    exact Cert.DaValue.final m hp c
  · refine (θ_run _ _ _).mono (fun r h c => ?_) (Cert.ReferenceIdeal.Value.run m' g')
    obtain ⟨h0, h1⟩ := h c
    obtain ⟨e0, e1, e2, e3, e4, e5, e6, e7⟩ := hm c
    refine ⟨h0.trans ?_, h1⟩
    rw [Cert.ReferenceIdeal.Read.val_main_v69_eq, e0, e1, e2, e3, e4, e5, e6, e7]

/-- The output projection's reference's arguments end unchanged, and it has no counters. -/
theorem frame_r3 : Cert.quiescent_Reference3Ideal (hReference3Ideal := Cert.Reference3Ideal.Gen.facts) := by
  intro m g _
  exact (θ_run _ _ _).mono (fun r h => ⟨fun c => (h c).2, sem_eq_zero_of_no_sems (by decide) r.2⟩)
    (Cert.Reference3Ideal.Value.run m g)

/-- The output projection's call and its reference end with equal arrays. -/
theorem value3 : Cert.algebraic_Kernel3Ideal_Reference3Ideal (hKernel3Ideal := Cert.Kernel3Ideal.Gen.facts)
    (hReference3Ideal := Cert.Reference3Ideal.Gen.facts) := by
  intro m g m' g' _ hm
  refine ⟨fun c => Cert.Mix.REF m c, ?_, ?_⟩
  · refine (θ_run _ _ _).mono (fun r h c => ?_) (Cert.Kernel3Ideal.Value.run_blocks m g)
    obtain ⟨h0, h1⟩ := h c
    exact ⟨h0.trans (Cert.Mix.final m c), h1⟩
  · refine (θ_run _ _ _).mono (fun r h c => ?_) (Cert.Reference3Ideal.Value.run m' g')
    obtain ⟨h0, h1⟩ := h c
    obtain ⟨e0, e1, e2, e3, e4, e5, e6, e7, e8, e9, e10, e11, e12, e13⟩ := hm c
    refine ⟨h0.trans ?_, h1⟩
    rw [Cert.Reference3Ideal.Read.val_main_v90_eq,
      show StableHlo.launchContents m' c (Proc.tc.devRef Cert.Reference3Ideal.main_arg0) = _ from e0,
      show StableHlo.launchContents m' c (Proc.tc.devRef Cert.Reference3Ideal.main_arg1) = _ from e1,
      show StableHlo.launchContents m' c (Proc.tc.devRef Cert.Reference3Ideal.main_arg2) = _ from e2,
      show StableHlo.launchContents m' c (Proc.tc.devRef Cert.Reference3Ideal.main_arg3) = _ from e3,
      show StableHlo.launchContents m' c (Proc.tc.devRef Cert.Reference3Ideal.main_arg4) = _ from e4,
      show StableHlo.launchContents m' c (Proc.tc.devRef Cert.Reference3Ideal.main_arg5) = _ from e5,
      show StableHlo.launchContents m' c (Proc.tc.devRef Cert.Reference3Ideal.main_arg6) = _ from e6,
      show StableHlo.launchContents m' c (Proc.tc.devRef Cert.Reference3Ideal.main_arg7) = _ from e7,
      show StableHlo.launchContents m' c (Proc.tc.devRef Cert.Reference3Ideal.main_arg8) = _ from e8,
      show StableHlo.launchContents m' c (Proc.tc.devRef Cert.Reference3Ideal.main_arg9) = _ from e9,
      show StableHlo.launchContents m' c (Proc.tc.devRef Cert.Reference3Ideal.main_arg10) = _ from e10,
      show StableHlo.launchContents m' c (Proc.tc.devRef Cert.Reference3Ideal.main_arg11) = _ from e11,
      show StableHlo.launchContents m' c (Proc.tc.devRef Cert.Reference3Ideal.main_arg12) = _ from e12,
      show StableHlo.launchContents m' c (Proc.tc.devRef Cert.Reference3Ideal.main_arg13) = _ from e13]

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_finite.Gen.facts,
    fun m g _ => Cert.Kernel.Gen.frame m g,
    fun m g _ => Cert.KernelIdeal.Gen.frame m g,
    fun m g _ => Cert.KernelIdeal.Gen.frame m g,
    frame_r,
    fun m g _ => frame_r m g trivial,
    fun m g _ => Cert.Kernel2.Gen.frame m g,
    fun m g _ => Cert.Kernel2Ideal.Gen.frame m g,
    frame_r2,
    fun m g _ => Cert.Kernel3.Gen.frame m g,
    fun m g _ => Cert.Kernel3Ideal.Gen.frame m g,
    frame_r3,
    preserves, value,
    trivial, value2,
    trivial, value3⟩

end Cert.Proof
